-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_tables7 [hPre_tables7 : Cert.Pre_tables7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_tables7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_tables7 [hPre_tables7 : Cert.Pre_tables7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_tables7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Kernel7Ideal_pre_tables7 [hKernel7Ideal : Cert.Kernel7Ideal.Facts] [hPre_tables7 : Cert.Pre_tables7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_tables7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Reference7Ideal_pre_tables7 [hReference7Ideal : Cert.Reference7Ideal.Facts] [hPre_tables7 : Cert.Pre_tables7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_tables7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def preserves_Kernel_KernelIdeal : Prop :=
  IdealRules.named_const.Statement Cert.KernelIdeal.κ "lg0" .f32 0xBD020AEC#32 ((Real.log (31 / 32) : ℝ) : EReal)
  ∧ IdealRules.named_const.Statement Cert.KernelIdeal.κ "lg1" .f32 0xBC8102B3#32 ((Real.log (63 / 64) : ℝ) : EReal)
  ∧ IdealRules.named_const.Statement Cert.KernelIdeal.κ "lg2" .f32 0xBC0080AC#32 ((Real.log (127 / 128) : ℝ) : EReal)
  ∧ IdealRules.named_const.Statement Cert.KernelIdeal.κ "lg3" .f32 0xBB80402B#32 ((Real.log (255 / 256) : ℝ) : EReal)
  ∧ IdealRules.named_const.Statement Cert.KernelIdeal.κ "gC0" .f32 0x3C8CC36A#32 ((78396524673059168935135267129777069613296345595630703725521524943634535507969383755197623356051954795321353669855221370862828507625207993636119503453243704432660074542086103959358842624471041 / 4562440617622195218641171605700291324893228507248559930579192517899275167208677386505912811317371399778642309573594407310688704721375437998252661319722214188251994674360264950082874192246603776 : ℝ) : EReal)
  ∧ IdealRules.named_const.Statement Cert.KernelIdeal.κ "gC1" .f32 0x3E08698E#32 ((206818950539439974611426494768646509052450548467862700447621795740222426769977288960977743464810862855020740953892191788741654107464722037227942902092362014238569158361477328071348684792194146041516068394618902177421160615463608321 / 1552518092300708935148979488462502555256886017116696611139052038026050952686376886330878408828646477950487730697131073206171580044114814391444287275041181139204454976020849905550265285631598444825262999193716468750892846853816057856 : ℝ) : EReal)
  ∧ IdealRules.named_const.Statement Cert.KernelIdeal.κ "gC2" .f32 0x3EBB9DB9#32 ((193587041323456767073378744577144446238302802122755626265377701497888780029664683420821685794909561110112747584183810952248255320179325448240268888426074358932225073573129703527667374571068332710586954198407984961320402885440313498999562662298934347135846335745400750081 / 528294531135665246352339784916516606518847326036121522127960709026673902556724859474417255887657187894674394993257128678882347559502685537250538978462939576908386683999005084168731517676426441053024232908211188404148028292751561738838396898767036476489538580897737998336 : ℝ) : EReal)
  ∧ IdealRules.named_const.Statement Cert.KernelIdeal.κ "gC3" .f32 0x3F1B1EB1#32 ((108928894366787909538482854136354399894027807047938726384754988597771177118744824750036685260233948099017113922415252234011703451806056104642801051378500851854629730635169211674367174308372494347446246524392175556695189741637351359098122801357656299133935250096489309214187191088285544537939131259918212890625 / 179769313486231590772930519078902473361797697894230657273430081157732675805500963132708477322407536021120113879871393357658789768814416622492847430639474124377767893424865485276302219601246094119453082952085005768838150682342462881473913110540827237163350510684586298239947245938479716304835356329624224137216 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v156) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v45) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v115) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)) →
    ∃ (v0 : (c : Dev Cert.Kernel6Ideal.nD) → Buf (Elt Ideal) ((c.tc : Thread Cert.Kernel6Ideal.nD Cert.Kernel6Ideal.τ).loc Cert.Kernel6Ideal.main_v37_0)) (v1 : (c : Dev Cert.Kernel6Ideal.nD) → Buf (Elt Ideal) ((c.tc : Thread Cert.Kernel6Ideal.nD Cert.Kernel6Ideal.τ).loc Cert.Kernel6Ideal.main_v37_1)) (v2 : (c : Dev Cert.Kernel6Ideal.nD) → Buf (Elt Ideal) ((c.tc : Thread Cert.Kernel6Ideal.nD Cert.Kernel6Ideal.τ).loc Cert.Kernel6Ideal.main_v37_2)) (v3 : (c : Dev Cert.Kernel6Ideal.nD) → Buf (Elt Ideal) ((c.tc : Thread Cert.Kernel6Ideal.nD Cert.Kernel6Ideal.τ).loc Cert.Kernel6Ideal.main_v37_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v37_0) = v0 c
          ∧ r.2.mem ((c.tc : Thread Cert.Kernel6Ideal.nD Cert.Kernel6Ideal.τ).loc Cert.Kernel6Ideal.main_v37_1) = v1 c
          ∧ r.2.mem ((c.tc : Thread Cert.Kernel6Ideal.nD Cert.Kernel6Ideal.τ).loc Cert.Kernel6Ideal.main_v37_2) = v2 c
          ∧ r.2.mem ((c.tc : Thread Cert.Kernel6Ideal.nD Cert.Kernel6Ideal.τ).loc Cert.Kernel6Ideal.main_v37_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v35) = v0 c
          ∧ r.2.mem ((c.tc : Thread Cert.Reference6Ideal.nD Cert.Reference6Ideal.τ).loc Cert.Reference6Ideal.main_v37) = v1 c
          ∧ r.2.mem ((c.tc : Thread Cert.Reference6Ideal.nD Cert.Reference6Ideal.τ).loc Cert.Reference6Ideal.main_v73) = v2 c
          ∧ r.2.mem ((c.tc : Thread Cert.Reference6Ideal.nD Cert.Reference6Ideal.τ).loc Cert.Reference6Ideal.main_v75) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0))

def preserves_Kernel7_Kernel7Ideal : Prop :=
  IdealRules.named_const.Statement Cert.Kernel7Ideal.κ "qs" .f32 0x3E38AA3B#32 (((Real.log 256)⁻¹ : ℝ) : EReal)

def algebraic_Kernel7Ideal_Reference7Ideal_pre_tables7 [hKernel7Ideal : Cert.Kernel7Ideal.Facts] [hReference7Ideal : Cert.Reference7Ideal.Facts] [hPre_tables7 : Cert.Pre_tables7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_tables7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)) (v3 : (c : Dev Cert.Kernel7Ideal.nD) → Buf (Elt Ideal) ((c.tc : Thread Cert.Kernel7Ideal.nD Cert.Kernel7Ideal.τ).loc Cert.Kernel7Ideal.main_v0_3)) (v4 : (c : Dev Cert.Kernel7Ideal.nD) → Buf (Elt Ideal) ((c.tc : Thread Cert.Kernel7Ideal.nD Cert.Kernel7Ideal.τ).loc Cert.Kernel7Ideal.main_v0_4)) (v5 : (c : Dev Cert.Kernel7Ideal.nD) → Buf (Elt Ideal) ((c.tc : Thread Cert.Kernel7Ideal.nD Cert.Kernel7Ideal.τ).loc Cert.Kernel7Ideal.main_v0_5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_v0_3) = v3 c
          ∧ r.2.mem ((c.tc : Thread Cert.Kernel7Ideal.nD Cert.Kernel7Ideal.τ).loc Cert.Kernel7Ideal.main_v0_4) = v4 c
          ∧ r.2.mem ((c.tc : Thread Cert.Kernel7Ideal.nD Cert.Kernel7Ideal.τ).loc Cert.Kernel7Ideal.main_v0_5) = v5 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v60) = v0 c
          ∧ r.2.mem ((c.tc : Thread Cert.Reference7Ideal.nD Cert.Reference7Ideal.τ).loc Cert.Reference7Ideal.main_v61) = v1 c
          ∧ r.2.mem ((c.tc : Thread Cert.Reference7Ideal.nD Cert.Reference7Ideal.τ).loc Cert.Reference7Ideal.main_v63) = v2 c
          ∧ r.2.mem ((c.tc : Thread Cert.Reference7Ideal.nD Cert.Reference7Ideal.τ).loc Cert.Reference7Ideal.main_v65) = v3 c
          ∧ r.2.mem ((c.tc : Thread Cert.Reference7Ideal.nD Cert.Reference7Ideal.τ).loc Cert.Reference7Ideal.main_v66) = v4 c
          ∧ r.2.mem ((c.tc : Thread Cert.Reference7Ideal.nD Cert.Reference7Ideal.τ).loc Cert.Reference7Ideal.main_v58) = v5 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite4 : Cert.Pre_finite4.Facts) (hPre_finite5 : Cert.Pre_finite5.Facts) (hPre_tables7 : Cert.Pre_tables7.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_tables7 (hKernel7Ideal := hKernel7Ideal) (hPre_tables7 := hPre_tables7)
    ∧ quiescent_Reference7Ideal (hReference7Ideal := hReference7Ideal)
    ∧ quiescent_Reference7Ideal_pre_tables7 (hReference7Ideal := hReference7Ideal) (hPre_tables7 := hPre_tables7)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_tables7 (hKernel7Ideal := hKernel7Ideal) (hReference7Ideal := hReference7Ideal) (hPre_tables7 := hPre_tables7)
-- ==== Pre_finite4.lean ====
abbrev S16384x8192 : Shape := ⟨2, ![16384, 8192]⟩
abbrev S16x256 : Shape := ⟨2, ![16, 256]⟩
abbrev S1x256 : Shape := ⟨2, ![1, 256]⟩
abbrev S16384x16 : Shape := ⟨2, ![16384, 16]⟩
abbrev S_ : Shape := ⟨0, ![]⟩
abbrev S16384x16x1 : Shape := ⟨3, ![16384, 16, 1]⟩
abbrev S1x16x256 : Shape := ⟨3, ![1, 16, 256]⟩
abbrev S16384x16x256 : Shape := ⟨3, ![16384, 16, 256]⟩
abbrev S1x1x256 : Shape := ⟨3, ![1, 1, 256]⟩

class Facts : Prop where
  slices_S16384x8192_S16384x16_0_7808 : S16384x8192.Slices ![0, 7808] S16384x16
  bitsLt_bf16_f32 : FTy.bits .bf16 < FTy.bits .f32
  bcast_S_S16384x16 : S_.BroadcastsInDim S16384x16 (![] : Fin 0 → Fin S16384x16.rank)
  bcast_S16384x16_S16384x16x1_0_1 : S16384x16.BroadcastsInDim S16384x16x1 (![0, 1] : Fin 2 → Fin S16384x16x1.rank)
  bcast_S_S16x256 : S_.BroadcastsInDim S16x256 (![] : Fin 0 → Fin S16x256.rank)
  bcast_S16x256_S1x16x256_1_2 : S16x256.BroadcastsInDim S1x16x256 (![1, 2] : Fin 2 → Fin S1x16x256.rank)
  bcast_S16384x16x1_S16384x16x256_0_1_2 : S16384x16x1.BroadcastsInDim S16384x16x256 (![0, 1, 2] : Fin 3 → Fin S16384x16x256.rank)
  bcast_S1x16x256_S16384x16x256_0_1_2 : S1x16x256.BroadcastsInDim S16384x16x256 (![0, 1, 2] : Fin 3 → Fin S16384x16x256.rank)
  bcast_S_S1x256 : S_.BroadcastsInDim S1x256 (![] : Fin 0 → Fin S1x256.rank)
  bcast_S1x256_S1x1x256_0_2 : S1x256.BroadcastsInDim S1x1x256 (![0, 2] : Fin 2 → Fin S1x1x256.rank)
  bcast_S1x1x256_S16384x16x256_0_1_2 : S1x1x256.BroadcastsInDim S16384x16x256 (![0, 1, 2] : Fin 3 → Fin S16384x16x256.rank)

variable [Facts]

def fn {F : FTy → Type} [FloatOps F] (main_arg0 : FVec F S16384x8192 .bf16) (main_arg1 : FVec F S16x256 .f32) (main_arg2 : FVec F S1x256 .f32) : IVec S16384x16x256 1 :=
  let main_v0 : FVec F S16384x16 .bf16 := (extractStridedSlice S16384x16 ![0, 7808] · slices_S16384x8192_S16384x16_0_7808) main_arg0
  let main_v1 : FVec F S16384x16 .f32 := (extf .f32 · bitsLt_bf16_f32) main_v0
  let main_v2 : FVec F S16384x16 .f32 := Host.absf main_v1
  let main_cst : FVec F S_ .f32 := constant S_ .f32 0x7F800000#32
  let main_v3 : FVec F S16384x16 .f32 := broadcastInDim S16384x16 ![] bcast_S_S16384x16 main_cst
  let main_v4 : IVec S16384x16 1 := cmpf .olt main_v2 main_v3
  let main_v5 : IVec S16384x16x1 1 := broadcastInDim S16384x16x1 ![0, 1] bcast_S16384x16_S16384x16x1_0_1 main_v4
  let main_v6 : FVec F S16x256 .f32 := Host.absf main_arg1
  let main_cst_0 : FVec F S_ .f32 := constant S_ .f32 0x7F800000#32
  let main_v7 : FVec F S16x256 .f32 := broadcastInDim S16x256 ![] bcast_S_S16x256 main_cst_0
  let main_v8 : IVec S16x256 1 := cmpf .olt main_v6 main_v7
  let main_v9 : IVec S1x16x256 1 := broadcastInDim S1x16x256 ![1, 2] bcast_S16x256_S1x16x256_1_2 main_v8
  let main_v10 : IVec S16384x16x256 1 := broadcastInDim S16384x16x256 ![0, 1, 2] bcast_S16384x16x1_S16384x16x256_0_1_2 main_v5
  let main_v11 : IVec S16384x16x256 1 := broadcastInDim S16384x16x256 ![0, 1, 2] bcast_S1x16x256_S16384x16x256_0_1_2 main_v9
  let main_v12 : IVec S16384x16x256 1 := andi main_v10 main_v11
  let main_v13 : FVec F S1x256 .f32 := Host.absf main_arg2
  let main_cst_1 : FVec F S_ .f32 := constant S_ .f32 0x7F800000#32
  let main_v14 : FVec F S1x256 .f32 := broadcastInDim S1x256 ![] bcast_S_S1x256 main_cst_1
  let main_v15 : IVec S1x256 1 := cmpf .olt main_v13 main_v14
  let main_v16 : IVec S1x1x256 1 := broadcastInDim S1x1x256 ![0, 2] bcast_S1x256_S1x1x256_0_2 main_v15
  let main_v17 : IVec S16384x16x256 1 := broadcastInDim S16384x16x256 ![0, 1, 2] bcast_S1x1x256_S16384x16x256_0_1_2 main_v16
  let main_v18 : IVec S16384x16x256 1 := andi main_v12 main_v17
  main_v18
-- ==== Pre_finite5.lean ====
abbrev S1x1024 : Shape := ⟨2, ![1, 1024]⟩
abbrev S4x1024x3072 : Shape := ⟨3, ![4, 1024, 3072]⟩
abbrev S4x3072 : Shape := ⟨2, ![4, 3072]⟩
abbrev S_ : Shape := ⟨0, ![]⟩
abbrev S1x1024x1 : Shape := ⟨3, ![1, 1024, 1]⟩

class Facts : Prop where
  bcast_S_S1x1024 : S_.BroadcastsInDim S1x1024 (![] : Fin 0 → Fin S1x1024.rank)
  bcast_S1x1024_S1x1024x1_0_1 : S1x1024.BroadcastsInDim S1x1024x1 (![0, 1] : Fin 2 → Fin S1x1024x1.rank)
  bcast_S_S4x1024x3072 : S_.BroadcastsInDim S4x1024x3072 (![] : Fin 0 → Fin S4x1024x3072.rank)
  bcast_S1x1024x1_S4x1024x3072_0_1_2 : S1x1024x1.BroadcastsInDim S4x1024x3072 (![0, 1, 2] : Fin 3 → Fin S4x1024x3072.rank)

variable [Facts]

def fn {F : FTy → Type} [FloatOps F] (main_arg0 : FVec F S1x1024 .f32) (main_arg1 : FVec F S4x1024x3072 .f32) (main_arg2 : FVec F S4x3072 .f32) : IVec S4x1024x3072 1 :=
  let main_v0 : FVec F S1x1024 .f32 := Host.absf main_arg0
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_v3 : IVec S1x1024x1 1 := broadcastInDim S1x1024x1 ![0, 1] bcast_S1x1024_S1x1024x1_0_1 main_v2
  let main_v4 : FVec F S4x1024x3072 .f32 := Host.absf main_arg1
  let main_cst_0 : FVec F S_ .f32 := constant S_ .f32 0x7F800000#32
  let main_v5 : FVec F S4x1024x3072 .f32 := broadcastInDim S4x1024x3072 ![] bcast_S_S4x1024x3072 main_cst_0
  let main_v6 : IVec S4x1024x3072 1 := cmpf .olt main_v4 main_v5
  let main_v7 : IVec S4x1024x3072 1 := broadcastInDim S4x1024x3072 ![0, 1, 2] bcast_S1x1024x1_S4x1024x3072_0_1_2 main_v3
  let main_v8 : IVec S4x1024x3072 1 := andi main_v7 main_v6
  main_v8
-- ==== Pre_tables7.lean ====
abbrev S16384x8192 : Shape := ⟨2, ![16384, 8192]⟩
abbrev S16384x128 : Shape := ⟨2, ![16384, 128]⟩
abbrev S16384x2x64 : Shape := ⟨3, ![16384, 2, 64]⟩
abbrev S16384x2x48 : Shape := ⟨3, ![16384, 2, 48]⟩
abbrev S_ : Shape := ⟨0, ![]⟩

class Facts : Prop where
  shapeCasts_S16384x128_S16384x2x64 : S16384x128.ShapeCasts S16384x2x64
  slices_S16384x2x64_S16384x2x48_0_0_16 : S16384x2x64.Slices ![0, 0, 16] S16384x2x48
  bcast_S_S16384x2x48 : S_.BroadcastsInDim S16384x2x48 (![] : Fin 0 → Fin S16384x2x48.rank)

variable [Facts]

def fn {F : FTy → Type} [FloatOps F] (main_arg0 : FVec F S16384x8192 .bf16) (main_arg1 : FVec F S16384x128 .f32) (main_arg2 : FVec F S16384x128 .f32) : IVec S16384x2x48 1 :=
  let main_v0 : FVec F S16384x2x64 .f32 := shapeCast S16384x2x64 main_arg1 shapeCasts_S16384x128_S16384x2x64
  let main_v1 : FVec F S16384x2x64 .f32 := shapeCast S16384x2x64 main_arg2 shapeCasts_S16384x128_S16384x2x64
  let main_v2 : FVec F S16384x2x48 .f32 := (extractStridedSlice S16384x2x48 ![0, 0, 16] · slices_S16384x2x64_S16384x2x48_0_0_16) main_v0
  let main_cst : FVec F S_ .f32 := constant S_ .f32 0x3F800000#32
  let main_v3 : FVec F S16384x2x48 .f32 := broadcastInDim S16384x2x48 ![] bcast_S_S16384x2x48 main_cst
  let main_v4 : IVec S16384x2x48 1 := cmpf .oeq main_v2 main_v3
  let main_v5 : FVec F S16384x2x48 .f32 := (extractStridedSlice S16384x2x48 ![0, 0, 16] · slices_S16384x2x64_S16384x2x48_0_0_16) main_v1
  let main_cst_0 : FVec F S_ .f32 := constant S_ .f32 0x00000000#32
  let main_v6 : FVec F S16384x2x48 .f32 := broadcastInDim S16384x2x48 ![] bcast_S_S16384x2x48 main_cst_0
  let main_v7 : IVec S16384x2x48 1 := cmpf .oeq main_v5 main_v6
  let main_v8 : IVec S16384x2x48 1 := andi main_v4 main_v7
  main_v8
-- ==== Kernel.lean ====
abbrev S16384x8192 : Shape := ⟨2, ![16384, 8192]⟩
abbrev S16384x256 : Shape := ⟨2, ![16384, 256]⟩
abbrev S16384x512 : Shape := ⟨2, ![16384, 512]⟩
abbrev S512x256 : Shape := ⟨2, ![512, 256]⟩
abbrev S512x512 : Shape := ⟨2, ![512, 512]⟩
abbrev S4x64x128 : Shape := ⟨3, ![4, 64, 128]⟩
abbrev S4x128x128 : Shape := ⟨3, ![4, 128, 128]⟩
abbrev S128x256 : Shape := ⟨2, ![128, 256]⟩
abbrev S128x128 : Shape := ⟨2, ![128, 128]⟩
abbrev S128x64 : Shape := ⟨2, ![128, 64]⟩
abbrev S1x128x128 : Shape := ⟨3, ![1, 128, 128]⟩
abbrev S64x128 : Shape := ⟨2, ![64, 128]⟩
abbrev S1x64x128 : Shape := ⟨3, ![1, 64, 128]⟩
abbrev S128x512 : Shape := ⟨2, ![128, 512]⟩
abbrev S128 : Shape := ⟨1, ![128]⟩
abbrev S128x1 : Shape := ⟨2, ![128, 1]⟩

abbrev nBuf : Space → Nat
  | .hbm => 4
  | .vmem => 18
  | .smem => 0
  | _ => 0

abbrev bufTy : (tb : Table) → Fin (tcTables nBuf tb) → BufTy
  | .hbm, ⟨0, _⟩ => ⟨S16384x8192, .bf16⟩
  | .hbm, ⟨1, _⟩ => ⟨S16384x256, .f32⟩
  | .hbm, ⟨2, _⟩ => ⟨S16384x256, .f32⟩
  | .hbm, ⟨3, _⟩ => ⟨S16384x512, .bf16⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x512, .bf16⟩
  | .local _ .vmem, ⟨13, _⟩ => ⟨S512x512, .bf16⟩
  | .local _ .vmem, ⟨14, _⟩ => ⟨S4x64x128, .f32⟩
  | .local _ .vmem, ⟨15, _⟩ => ⟨S4x128x128, .f32⟩
  | .local _ .vmem, ⟨16, _⟩ => ⟨S128x256, .f32⟩
  | .local _ .vmem, ⟨17, _⟩ => ⟨S128x256, .f32⟩
  | _, _ => ⟨S16384x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_1 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_2 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_3 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "gC0" => some ((78396524673059168935135267129777069613296345595630703725521524943634535507969383755197623356051954795321353669855221370862828507625207993636119503453243704432660074542086103959358842624471041 / 4562440617622195218641171605700291324893228507248559930579192517899275167208677386505912811317371399778642309573594407310688704721375437998252661319722214188251994674360264950082874192246603776 : ℝ) : EReal)
  | "gC1" => some ((206818950539439974611426494768646509052450548467862700447621795740222426769977288960977743464810862855020740953892191788741654107464722037227942902092362014238569158361477328071348684792194146041516068394618902177421160615463608321 / 1552518092300708935148979488462502555256886017116696611139052038026050952686376886330878408828646477950487730697131073206171580044114814391444287275041181139204454976020849905550265285631598444825262999193716468750892846853816057856 : ℝ) : EReal)
  | "gC2" => some ((193587041323456767073378744577144446238302802122755626265377701497888780029664683420821685794909561110112747584183810952248255320179325448240268888426074358932225073573129703527667374571068332710586954198407984961320402885440313498999562662298934347135846335745400750081 / 528294531135665246352339784916516606518847326036121522127960709026673902556724859474417255887657187894674394993257128678882347559502685537250538978462939576908386683999005084168731517676426441053024232908211188404148028292751561738838396898767036476489538580897737998336 : ℝ) : EReal)
  | "gC3" => some ((108928894366787909538482854136354399894027807047938726384754988597771177118744824750036685260233948099017113922415252234011703451806056104642801051378500851854629730635169211674367174308372494347446246524392175556695189741637351359098122801357656299133935250096489309214187191088285544537939131259918212890625 / 179769313486231590772930519078902473361797697894230657273430081157732675805500963132708477322407536021120113879871393357658789768814416622492847430639474124377767893424865485276302219601246094119453082952085005768838150682342462881473913110540827237163350510684586298239947245938479716304835356329624224137216 : ℝ) : EReal)
  | "lg0" => some ((Real.log (31 / 32) : ℝ) : EReal)
  | "lg1" => some ((Real.log (63 / 64) : ℝ) : EReal)
  | "lg2" => some ((Real.log (127 / 128) : ℝ) : EReal)
  | "lg3" => some ((Real.log (255 / 256) : ℝ) : EReal)
  | _ => none
-- ==== ReferenceIdeal.lean ====
abbrev S16384x8192 : Shape := ⟨2, ![16384, 8192]⟩
abbrev S16384x256 : Shape := ⟨2, ![16384, 256]⟩
abbrev S4 : Shape := ⟨1, ![4]⟩
abbrev S_ : Shape := ⟨0, ![]⟩
abbrev S128 : Shape := ⟨1, ![128]⟩
abbrev S128x1 : Shape := ⟨2, ![128, 1]⟩
abbrev S1x4 : Shape := ⟨2, ![1, 4]⟩
abbrev S128x4 : Shape := ⟨2, ![128, 4]⟩
abbrev S16384x4x64 : Shape := ⟨3, ![16384, 4, 64]⟩
abbrev S16384x4x32 : Shape := ⟨3, ![16384, 4, 32]⟩
abbrev S128x128x4x64 : Shape := ⟨4, ![128, 128, 4, 64]⟩
abbrev S1x128x4x1 : Shape := ⟨4, ![1, 128, 4, 1]⟩
abbrev S16384x512 : Shape := ⟨2, ![16384, 512]⟩
abbrev S128x128x4x128 : Shape := ⟨4, ![128, 128, 4, 128]⟩
abbrev S128x4x64x128 : Shape := ⟨4, ![128, 4, 64, 128]⟩
abbrev S4x1x1 : Shape := ⟨3, ![4, 1, 1]⟩
abbrev S4x64x128 : Shape := ⟨3, ![4, 64, 128]⟩
abbrev S1x4x64x128 : Shape := ⟨4, ![1, 4, 64, 128]⟩
abbrev S1x128 : Shape := ⟨2, ![1, 128]⟩
abbrev S128x128 : Shape := ⟨2, ![128, 128]⟩
abbrev S1x128x128 : Shape := ⟨3, ![1, 128, 128]⟩
abbrev S4x128x128 : Shape := ⟨3, ![4, 128, 128]⟩
abbrev S128x4x128x128 : Shape := ⟨4, ![128, 4, 128, 128]⟩
abbrev S1x4x128x128 : Shape := ⟨4, ![1, 4, 128, 128]⟩
abbrev S16384x4x128 : Shape := ⟨3, ![16384, 4, 128]⟩
abbrev S16384x4 : Shape := ⟨2, ![16384, 4]⟩
abbrev S16384x4x1 : Shape := ⟨3, ![16384, 4, 1]⟩

abbrev nBuf : Space → Nat
  | .hbm => 208
  | .vmem => 0
  | .smem => 0
  | _ => 0

abbrev hbmTy0_0 (i : Nat) : BufTy := match i % 128 with
  | 0 => ⟨S16384x8192, .bf16⟩
  | 1 => ⟨S16384x256, .f32⟩
  | 2 => ⟨S16384x256, .f32⟩
  | 3 => ⟨S4, .f32⟩
  | 4 => ⟨S_, .f32⟩
  | 5 => ⟨S4, .f32⟩
  | 6 => ⟨S4, .f32⟩
  | 7 => ⟨S_, .f32⟩
  | 8 => ⟨S4, .f32⟩
  | 9 => ⟨S4, .f32⟩
  | 10 => ⟨S4, .f32⟩
  | 11 => ⟨S4, .f32⟩
  | 12 => ⟨S128, .f32⟩
  | 13 => ⟨S_, .f32⟩
  | 14 => ⟨S128, .f32⟩
  | 15 => ⟨S128, .f32⟩
  | 16 => ⟨S128x1, .f32⟩
  | 17 => ⟨S1x4, .f32⟩
  | 18 => ⟨S128x4, .f32⟩
  | 19 => ⟨S128x4, .f32⟩
  | 20 => ⟨S128x4, .f32⟩
  | 21 => ⟨S128x4, .f32⟩
  | 22 => ⟨S16384x256, .bf16⟩
  | 23 => ⟨S16384x256, .f32⟩
  | 24 => ⟨S16384x4x64, .f32⟩
  | 25 => ⟨S16384x4x64, .f32⟩
  | 26 => ⟨S16384x4x64, .f32⟩
  | 27 => ⟨S16384x4x32, .f32⟩
  | 28 => ⟨S16384x4x32, .f32⟩
  | 29 => ⟨S16384x4x32, .f32⟩
  | 30 => ⟨S16384x4x32, .f32⟩
  | 31 => ⟨S16384x4x32, .f32⟩
  | 32 => ⟨S16384x4x32, .f32⟩
  | 33 => ⟨S16384x4x32, .f32⟩
  | 34 => ⟨S16384x4x32, .f32⟩
  | 35 => ⟨S16384x4x32, .f32⟩
  | 36 => ⟨S16384x4x32, .f32⟩
  | 37 => ⟨S16384x4x32, .f32⟩
  | 38 => ⟨S16384x4x32, .f32⟩
  | 39 => ⟨S16384x4x64, .f32⟩
  | 40 => ⟨S128x128x4x64, .f32⟩
  | 41 => ⟨S1x128x4x1, .f32⟩
  | 42 => ⟨S128x128x4x64, .f32⟩
  | 43 => ⟨S128x128x4x64, .f32⟩
  | 44 => ⟨S16384x512, .bf16⟩
  | 45 => ⟨S16384x512, .f32⟩
  | 46 => ⟨S128x128x4x128, .f32⟩
  | 47 => ⟨S128x4x64x128, .f32⟩
  | 48 => ⟨S_, .f32⟩
  | 49 => ⟨S4, .f32⟩
  | 50 => ⟨S4, .f32⟩
  | 51 => ⟨S4, .f32⟩
  | 52 => ⟨S4x1x1, .f32⟩
  | 53 => ⟨S_, .f32⟩
  | 54 => ⟨S4x64x128, .f32⟩
  | 55 => ⟨S_, .f32⟩
  | 56 => ⟨S128x4x64x128, .f32⟩
  | 57 => ⟨S_, .i32⟩
  | 58 => ⟨S128x4x64x128, .f32⟩
  | 59 => ⟨S4x1x1, .f32⟩
  | 60 => ⟨S_, .i32⟩
  | 61 => ⟨S4x64x128, .f32⟩
  | 62 => ⟨S128x4x64x128, .f32⟩
  | 63 => ⟨S_, .i32⟩
  | 64 => ⟨S_, .i1⟩
  | 65 => ⟨S_, .i32⟩
  | 66 => ⟨S_, .i32⟩
  | 67 => ⟨S_, .i32⟩
  | 68 => ⟨S1x4x64x128, .f32⟩
  | 69 => ⟨S4x64x128, .f32⟩
  | 70 => ⟨S4x64x128, .f32⟩
  | 71 => ⟨S4x64x128, .f32⟩
  | 72 => ⟨S4x64x128, .f32⟩
  | 73 => ⟨S1x4x64x128, .f32⟩
  | 74 => ⟨S_, .i32⟩
  | 75 => ⟨S_, .i32⟩
  | 76 => ⟨S_, .i32⟩
  | 77 => ⟨S128x4x64x128, .f32⟩
  | 78 => ⟨S_, .i32⟩
  | 79 => ⟨S_, .i32⟩
  | 80 => ⟨S4, .f32⟩
  | 81 => ⟨S_, .f32⟩
  | 82 => ⟨S4, .f32⟩
  | 83 => ⟨S4, .f32⟩
  | 84 => ⟨S_, .f32⟩
  | 85 => ⟨S4, .f32⟩
  | 86 => ⟨S4, .f32⟩
  | 87 => ⟨S4, .f32⟩
  | 88 => ⟨S4, .f32⟩
  | 89 => ⟨S128, .f32⟩
  | 90 => ⟨S128x1, .f32⟩
  | 91 => ⟨S1x128, .f32⟩
  | 92 => ⟨S128x128, .f32⟩
  | 93 => ⟨S128x128, .f32⟩
  | 94 => ⟨S128x128, .f32⟩
  | 95 => ⟨S128, .i32⟩
  | 96 => ⟨S128x1, .i32⟩
  | 97 => ⟨S1x128, .i32⟩
  | 98 => ⟨S128x128, .i32⟩
  | 99 => ⟨S128x128, .i32⟩
  | 100 => ⟨S128x128, .i1⟩
  | 101 => ⟨S4x1x1, .f32⟩
  | 102 => ⟨S_, .f32⟩
  | 103 => ⟨S128x128, .f32⟩
  | 104 => ⟨S128x128, .f32⟩
  | 105 => ⟨S1x128x128, .f32⟩
  | 106 => ⟨S4x128x128, .f32⟩
  | 107 => ⟨S4x128x128, .f32⟩
  | 108 => ⟨S4x128x128, .f32⟩
  | 109 => ⟨S4x128x128, .f32⟩
  | 110 => ⟨S_, .f32⟩
  | 111 => ⟨S_, .f32⟩
  | 112 => ⟨S4x128x128, .i1⟩
  | 113 => ⟨S4x128x128, .f32⟩
  | 114 => ⟨S4x128x128, .f32⟩
  | 115 => ⟨S16384x256, .bf16⟩
  | 116 => ⟨S16384x256, .f32⟩
  | 117 => ⟨S16384x4x64, .f32⟩
  | 118 => ⟨S16384x4x64, .f32⟩
  | 119 => ⟨S16384x4x64, .f32⟩
  | 120 => ⟨S16384x4x32, .f32⟩
  | 121 => ⟨S16384x4x32, .f32⟩
  | 122 => ⟨S16384x4x32, .f32⟩
  | 123 => ⟨S16384x4x32, .f32⟩
  | 124 => ⟨S16384x4x32, .f32⟩
  | 125 => ⟨S16384x4x32, .f32⟩
  | 126 => ⟨S16384x4x32, .f32⟩
  | 127 => ⟨S16384x4x32, .f32⟩
  | _ => ⟨S16384x8192, .bf16⟩

abbrev hbmTy0_1 (i : Nat) : BufTy := match i % 128 with
  | 0 => ⟨S16384x4x32, .f32⟩
  | 1 => ⟨S16384x4x32, .f32⟩
  | 2 => ⟨S16384x4x32, .f32⟩
  | 3 => ⟨S16384x4x32, .f32⟩
  | 4 => ⟨S16384x4x64, .f32⟩
  | 5 => ⟨S_, .f32⟩
  | 6 => ⟨S16384x4x64, .f32⟩
  | 7 => ⟨S16384x4x64, .f32⟩
  | 8 => ⟨S128x128x4x64, .f32⟩
  | 9 => ⟨S16384x256, .bf16⟩
  | 10 => ⟨S16384x256, .f32⟩
  | 11 => ⟨S16384x4x64, .f32⟩
  | 12 => ⟨S16384x4x64, .f32⟩
  | 13 => ⟨S16384x4x64, .f32⟩
  | 14 => ⟨S16384x4x32, .f32⟩
  | 15 => ⟨S16384x4x32, .f32⟩
  | 16 => ⟨S16384x4x32, .f32⟩
  | 17 => ⟨S16384x4x32, .f32⟩
  | 18 => ⟨S16384x4x32, .f32⟩
  | 19 => ⟨S16384x4x32, .f32⟩
  | 20 => ⟨S16384x4x32, .f32⟩
  | 21 => ⟨S16384x4x32, .f32⟩
  | 22 => ⟨S16384x4x32, .f32⟩
  | 23 => ⟨S16384x4x32, .f32⟩
  | 24 => ⟨S16384x4x32, .f32⟩
  | 25 => ⟨S16384x4x32, .f32⟩
  | 26 => ⟨S16384x4x64, .f32⟩
  | 27 => ⟨S128x128x4x64, .f32⟩
  | 28 => ⟨S128x4x128x128, .f32⟩
  | 29 => ⟨S1x4x128x128, .f32⟩
  | 30 => ⟨S128x4x128x128, .f32⟩
  | 31 => ⟨S128x4x128x128, .f32⟩
  | 32 => ⟨S16384x512, .bf16⟩
  | 33 => ⟨S16384x512, .f32⟩
  | 34 => ⟨S128x128x4x128, .f32⟩
  | 35 => ⟨S128x4x128x128, .f32⟩
  | 36 => ⟨S128x128x4x128, .f32⟩
  | 37 => ⟨S_, .f32⟩
  | 38 => ⟨S128, .f32⟩
  | 39 => ⟨S128, .f32⟩
  | 40 => ⟨S128x1, .f32⟩
  | 41 => ⟨S1x4, .f32⟩
  | 42 => ⟨S128x4, .f32⟩
  | 43 => ⟨S128x4, .f32⟩
  | 44 => ⟨S128x4, .f32⟩
  | 45 => ⟨S128x4, .f32⟩
  | 46 => ⟨S1x128x4x1, .f32⟩
  | 47 => ⟨S128x128x4x64, .f32⟩
  | 48 => ⟨S128x128x4x64, .f32⟩
  | 49 => ⟨S128x4x128x128, .f32⟩
  | 50 => ⟨S128x128x4x128, .f32⟩
  | 51 => ⟨S128x128x4x128, .f32⟩
  | 52 => ⟨S16384x4x128, .f32⟩
  | 53 => ⟨S16384x4x128, .f32⟩
  | 54 => ⟨S_, .f32⟩
  | 55 => ⟨S16384x4, .f32⟩
  | 56 => ⟨S16384x4x1, .f32⟩
  | 57 => ⟨S_, .f32⟩
  | 58 => ⟨S16384x4x1, .f32⟩
  | 59 => ⟨S16384x4x1, .f32⟩
  | 60 => ⟨S_, .f32⟩
  | 61 => ⟨S16384x4x1, .f32⟩
  | 62 => ⟨S16384x4x1, .f32⟩
  | 63 => ⟨S16384x4x1, .f32⟩
  | 64 => ⟨S16384x4x128, .f32⟩
  | 65 => ⟨S16384x4x128, .f32⟩
  | 66 => ⟨S16384x512, .f32⟩
  | 67 => ⟨S16384x512, .bf16⟩
  | 68 => ⟨S16384x512, .f32⟩
  | 69 => ⟨S16384x512, .f32⟩
  | 70 => ⟨S16384x512, .f32⟩
  | 71 => ⟨S_, .f32⟩
  | 72 => ⟨S16384x512, .f32⟩
  | 73 => ⟨S16384x512, .f32⟩
  | 74 => ⟨S_, .f32⟩
  | 75 => ⟨S16384x512, .f32⟩
  | 76 => ⟨S16384x512, .f32⟩
  | 77 => ⟨S16384x512, .f32⟩
  | 78 => ⟨S16384x512, .f32⟩
  | 79 => ⟨S16384x512, .bf16⟩
  | _ => ⟨S16384x8192, .bf16⟩

abbrev hbmTy (i : Nat) : BufTy := match i / 128 with
  | 0 => hbmTy0_0 i
  | 1 => hbmTy0_1 i
  | _ => ⟨S16384x8192, .bf16⟩

abbrev bufTy : (tb : Table) → Fin (tcTables nBuf tb) → BufTy
  | .hbm, ⟨i, _⟩ => hbmTy i
  | _, _ => ⟨S16384x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_cst_2 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_cst_3 : Ref sig .tc := ⟨.hbm, 53, rfl⟩
abbrev main_v46 : Ref sig .tc := ⟨.hbm, 54, rfl⟩
abbrev main_cst_4 : Ref sig .tc := ⟨.hbm, 55, rfl⟩
abbrev main_v47 : Ref sig .tc := ⟨.hbm, 56, rfl⟩
abbrev main_c : Ref sig .tc := ⟨.hbm, 57, rfl⟩
abbrev main_v48_0 : Ref sig .tc := ⟨.hbm, 58, rfl⟩
abbrev main_v48_1 : Ref sig .tc := ⟨.hbm, 59, rfl⟩
abbrev main_v48_2 : Ref sig .tc := ⟨.hbm, 60, rfl⟩
abbrev main_v48_3 : Ref sig .tc := ⟨.hbm, 61, rfl⟩
abbrev main_v48_4 : Ref sig .tc := ⟨.hbm, 62, rfl⟩
abbrev main_while0c_c_18 : Ref sig .tc := ⟨.hbm, 63, rfl⟩
abbrev main_while0c_v157 : Ref sig .tc := ⟨.hbm, 64, rfl⟩
abbrev main_while0b_call0_c : Ref sig .tc := ⟨.hbm, 65, rfl⟩
abbrev main_while0b_call0_c_0 : Ref sig .tc := ⟨.hbm, 66, rfl⟩
abbrev main_while0b_call0_c_1 : Ref sig .tc := ⟨.hbm, 67, rfl⟩
abbrev main_while0b_call0_v0 : Ref sig .tc := ⟨.hbm, 68, rfl⟩
abbrev main_while0b_v157 : Ref sig .tc := ⟨.hbm, 69, rfl⟩
abbrev main_while0b_v158 : Ref sig .tc := ⟨.hbm, 70, rfl⟩
abbrev main_while0b_v159 : Ref sig .tc := ⟨.hbm, 71, rfl⟩
abbrev main_while0b_v160 : Ref sig .tc := ⟨.hbm, 72, rfl⟩
abbrev main_while0b_call1_v0 : Ref sig .tc := ⟨.hbm, 73, rfl⟩
abbrev main_while0b_call1_c : Ref sig .tc := ⟨.hbm, 74, rfl⟩
abbrev main_while0b_call1_c_0 : Ref sig .tc := ⟨.hbm, 75, rfl⟩
abbrev main_while0b_call1_c_1 : Ref sig .tc := ⟨.hbm, 76, rfl⟩
abbrev main_while0b_v161 : Ref sig .tc := ⟨.hbm, 77, rfl⟩
abbrev main_while0b_c_18 : Ref sig .tc := ⟨.hbm, 78, rfl⟩
abbrev main_while0b_v162 : Ref sig .tc := ⟨.hbm, 79, rfl⟩
abbrev main_v49 : Ref sig .tc := ⟨.hbm, 80, rfl⟩
abbrev main_cst_5 : Ref sig .tc := ⟨.hbm, 81, rfl⟩
abbrev main_v50 : Ref sig .tc := ⟨.hbm, 82, rfl⟩
abbrev main_v51 : Ref sig .tc := ⟨.hbm, 83, rfl⟩
abbrev main_cst_6 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_7 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_cst_8 : Ref sig .tc := ⟨.hbm, 110, rfl⟩
abbrev main_call2_v0 : Ref sig .tc := ⟨.hbm, 111, rfl⟩
abbrev main_call2_v1 : Ref sig .tc := ⟨.hbm, 112, rfl⟩
abbrev main_call2_v2 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_cst_9 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_cst_10 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_cst_11 : Ref sig .tc := ⟨.hbm, 182, rfl⟩
abbrev main_v142 : Ref sig .tc := ⟨.hbm, 183, rfl⟩
abbrev main_v143 : Ref sig .tc := ⟨.hbm, 184, rfl⟩
abbrev main_cst_12 : Ref sig .tc := ⟨.hbm, 185, rfl⟩
abbrev main_v144 : Ref sig .tc := ⟨.hbm, 186, rfl⟩
abbrev main_v145 : Ref sig .tc := ⟨.hbm, 187, rfl⟩
abbrev main_cst_13 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_call3_v0 : Ref sig .tc := ⟨.hbm, 197, rfl⟩
abbrev main_call3_v1 : Ref sig .tc := ⟨.hbm, 198, rfl⟩
abbrev main_call3_cst : Ref sig .tc := ⟨.hbm, 199, rfl⟩
abbrev main_call3_v2 : Ref sig .tc := ⟨.hbm, 200, rfl⟩
abbrev main_call3_v3 : Ref sig .tc := ⟨.hbm, 201, rfl⟩
abbrev main_call3_cst_0 : Ref sig .tc := ⟨.hbm, 202, rfl⟩
abbrev main_call3_v4 : Ref sig .tc := ⟨.hbm, 203, rfl⟩
abbrev main_call3_v5 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩

abbrev nD : Nat := 1
abbrev τ : Topo := Topo.v7x

variable {F : FTy → Type} [FloatOps F]

abbrev main_while0_count : Scf.Loop 32 := ⟨0#32, 128#32, 1#32⟩
-- ==== Kernel2.lean ====
abbrev S16384x1024 : Shape := ⟨2, ![16384, 1024]⟩
abbrev S1x1024 : Shape := ⟨2, ![1, 1024]⟩
abbrev S1024x8192 : Shape := ⟨2, ![1024, 8192]⟩
abbrev S16384x8192 : Shape := ⟨2, ![16384, 8192]⟩
abbrev S512x1024 : Shape := ⟨2, ![512, 1024]⟩
abbrev S1024x2048 : Shape := ⟨2, ![1024, 2048]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x8192, .bf16⟩
  | .hbm, ⟨5, _⟩ => ⟨S16384x8192, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1024x2048, .bf16⟩
  | .local _ .vmem, ⟨6, _⟩ => ⟨S1024x2048, .bf16⟩
  | .local _ .vmem, ⟨7, _⟩ => ⟨S512x2048, .bf16⟩
  | .local _ .vmem, ⟨8, _⟩ => ⟨S512x2048, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S16384x1024 : Shape := ⟨2, ![16384, 1024]⟩
abbrev S1x1024 : Shape := ⟨2, ![1, 1024]⟩
abbrev S1024x8192 : Shape := ⟨2, ![1024, 8192]⟩
abbrev S_ : Shape := ⟨0, ![]⟩
abbrev S16384 : Shape := ⟨1, ![16384]⟩
abbrev S16384x1 : Shape := ⟨2, ![16384, 1]⟩
abbrev S16384x8192 : Shape := ⟨2, ![16384, 8192]⟩

abbrev nBuf : Space → Nat
  | .hbm => 30
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x8192, .bf16⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S1024x8192, .f32⟩
  | .hbm, ⟨28, _⟩ => ⟨S16384x8192, .f32⟩
  | .hbm, ⟨29, _⟩ => ⟨S16384x8192, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Kernel3.lean ====
abbrev S16384x1024 : Shape := ⟨2, ![16384, 1024]⟩
abbrev S16384x512 : Shape := ⟨2, ![16384, 512]⟩
abbrev S16384x8192 : Shape := ⟨2, ![16384, 8192]⟩
abbrev S512x1024 : Shape := ⟨2, ![512, 1024]⟩
abbrev S1024x1024 : Shape := ⟨2, ![1024, 1024]⟩
abbrev S1x1024 : Shape := ⟨2, ![1, 1024]⟩
abbrev S512x512 : Shape := ⟨2, ![512, 512]⟩
abbrev S512x3072 : Shape := ⟨2, ![512, 3072]⟩
abbrev S512 : Shape := ⟨1, ![512]⟩
abbrev S512x1 : Shape := ⟨2, ![512, 1]⟩

abbrev nBuf : Space → Nat
  | .hbm => 12
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S16384x8192, .bf16⟩
  | .hbm, ⟨5, _⟩ => ⟨S512x1024, .bf16⟩
  | .hbm, ⟨6, _⟩ => ⟨S512x1024, .bf16⟩
  | .hbm, ⟨7, _⟩ => ⟨S512x1024, .bf16⟩
  | .hbm, ⟨8, _⟩ => ⟨S1024x1024, .bf16⟩
  | .hbm, ⟨9, _⟩ => ⟨S1x1024, .f32⟩
  | .hbm, ⟨10, _⟩ => ⟨S1x1024, .f32⟩
  | .hbm, ⟨11, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x3072, .bf16⟩
  | .local _ .vmem, ⟨9, _⟩ => ⟨S512x3072, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S1024x1024, .bf16⟩
  | .local _ .vmem, ⟨14, _⟩ => ⟨S1x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S16384x1024 : Shape := ⟨2, ![16384, 1024]⟩
abbrev S16384x512 : Shape := ⟨2, ![16384, 512]⟩
abbrev S16384x8192 : Shape := ⟨2, ![16384, 8192]⟩
abbrev S512x1024 : Shape := ⟨2, ![512, 1024]⟩
abbrev S1024x1024 : Shape := ⟨2, ![1024, 1024]⟩
abbrev S1x1024 : Shape := ⟨2, ![1, 1024]⟩
abbrev S16384x3072 : Shape := ⟨2, ![16384, 3072]⟩
abbrev S_ : Shape := ⟨0, ![]⟩
abbrev S16384x3x1024 : Shape := ⟨3, ![16384, 3, 1024]⟩
abbrev S16384x1x1024 : Shape := ⟨3, ![16384, 1, 1024]⟩
abbrev S16384 : Shape := ⟨1, ![16384]⟩
abbrev S16384x1 : Shape := ⟨2, ![16384, 1]⟩

abbrev nBuf : Space → Nat
  | .hbm => 62
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S16384x8192, .bf16⟩
  | .hbm, ⟨5, _⟩ => ⟨S512x1024, .bf16⟩
  | .hbm, ⟨6, _⟩ => ⟨S512x1024, .bf16⟩
  | .hbm, ⟨7, _⟩ => ⟨S512x1024, .bf16⟩
  | .hbm, ⟨8, _⟩ => ⟨S1024x1024, .bf16⟩
  | .hbm, ⟨9, _⟩ => ⟨S1x1024, .f32⟩
  | .hbm, ⟨10, _⟩ => ⟨S1x1024, .f32⟩
  | .hbm, ⟨11, _⟩ => ⟨S16384x512, .f32⟩
  | .hbm, ⟨12, _⟩ => ⟨S16384x512, .f32⟩
  | .hbm, ⟨13, _⟩ => ⟨S16384x512, .f32⟩
  | .hbm, ⟨14, _⟩ => ⟨S512x1024, .f32⟩
  | .hbm, ⟨15, _⟩ => ⟨S512x1024, .f32⟩
  | .hbm, ⟨16, _⟩ => ⟨S512x1024, .f32⟩
  | .hbm, ⟨17, _⟩ => ⟨S1024x1024, .f32⟩
  | .hbm, ⟨18, _⟩ => ⟨S16384x3072, .bf16⟩
  | .hbm, ⟨19, _⟩ => ⟨S16384x3072, .f32⟩
  | .hbm, ⟨20, _⟩ => ⟨S16384x3072, .f32⟩
  | .hbm, ⟨21, _⟩ => ⟨S16384x3072, .f32⟩
  | .hbm, ⟨22, _⟩ => ⟨S_, .f32⟩
  | .hbm, ⟨23, _⟩ => ⟨S16384x3072, .f32⟩
  | .hbm, ⟨24, _⟩ => ⟨S16384x3072, .f32⟩
  | .hbm, ⟨25, _⟩ => ⟨S_, .f32⟩
  | .hbm, ⟨26, _⟩ => ⟨S16384x3072, .f32⟩
  | .hbm, ⟨27, _⟩ => ⟨S16384x3072, .f32⟩
  | .hbm, ⟨28, _⟩ => ⟨S16384x3x1024, .f32⟩
  | .hbm, ⟨29, _⟩ => ⟨S16384x1x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S16384, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S_, .f32⟩
  | .hbm, ⟨52, _⟩ => ⟨S16384x1, .f32⟩
  | .hbm, ⟨53, _⟩ => ⟨S16384x1, .f32⟩
  | .hbm, ⟨54, _⟩ => ⟨S16384x1, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_1 : Ref sig .tc := ⟨.hbm, 45, rfl⟩
abbrev main_v32 : Ref sig .tc := ⟨.hbm, 46, rfl⟩
abbrev main_v33 : Ref sig .tc := ⟨.hbm, 47, rfl⟩
abbrev main_cst_2 : Ref sig .tc := ⟨.hbm, 48, rfl⟩
abbrev main_v34 : Ref sig .tc := ⟨.hbm, 49, rfl⟩
abbrev main_v35 : Ref sig .tc := ⟨.hbm, 50, rfl⟩
abbrev main_cst_3 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩

abbrev nD : Nat := 1
abbrev τ : Topo := Topo.v7x

variable {F : FTy → Type} [FloatOps F]
-- ==== Kernel4.lean ====
abbrev S16384x8192 : Shape := ⟨2, ![16384, 8192]⟩
abbrev S16x256 : Shape := ⟨2, ![16, 256]⟩
abbrev S1x256 : Shape := ⟨2, ![1, 256]⟩
abbrev S_ : Shape := ⟨0, ![]⟩
abbrev S128x256 : Shape := ⟨2, ![128, 256]⟩
abbrev S16384x512 : Shape := ⟨2, ![16384, 512]⟩
abbrev S512x256 : Shape := ⟨2, ![512, 256]⟩
abbrev S512x512 : Shape := ⟨2, ![512, 512]⟩
abbrev S512x128 : Shape := ⟨2, ![512, 128]⟩
abbrev S4x128x64 : Shape := ⟨3, ![4, 128, 64]⟩
abbrev S64x64 : Shape := ⟨2, ![64, 64]⟩
abbrev S448x64 : Shape := ⟨2, ![448, 64]⟩
abbrev S64x256 : Shape := ⟨2, ![64, 256]⟩
abbrev S448x256 : Shape := ⟨2, ![448, 256]⟩
abbrev S64x128 : Shape := ⟨2, ![64, 128]⟩
abbrev S128x64 : Shape := ⟨2, ![128, 64]⟩
abbrev S1x128x64 : Shape := ⟨3, ![1, 128, 64]⟩
abbrev S64x512 : Shape := ⟨2, ![64, 512]⟩
abbrev S1x64 : Shape := ⟨2, ![1, 64]⟩
abbrev S64 : Shape := ⟨1, ![64]⟩
abbrev S64x1 : Shape := ⟨2, ![64, 1]⟩

abbrev nBuf : Space → Nat
  | .hbm => 7
  | .vmem => 15
  | .smem => 0
  | _ => 0

abbrev bufTy : (tb : Table) → Fin (tcTables nBuf tb) → BufTy
  | .hbm, ⟨0, _⟩ => ⟨S16384x8192, .bf16⟩
  | .hbm, ⟨1, _⟩ => ⟨S16x256, .f32⟩
  | .hbm, ⟨2, _⟩ => ⟨S1x256, .f32⟩
  | .hbm, ⟨3, _⟩ => ⟨S_, .i32⟩
  | .hbm, ⟨4, _⟩ => ⟨S_, .f32⟩
  | .hbm, ⟨5, _⟩ => ⟨S128x256, .f32⟩
  | .hbm, ⟨6, _⟩ => ⟨S16384x512, .bf16⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x128, .bf16⟩
  | .local _ .vmem, ⟨9, _⟩ => ⟨S512x128, .bf16⟩
  | .local _ .vmem, ⟨10, _⟩ => ⟨S128x256, .f32⟩
  | .local _ .vmem, ⟨11, _⟩ => ⟨S1x256, .f32⟩
  | .local _ .vmem, ⟨12, _⟩ => ⟨S512x512, .bf16⟩
  | .local _ .vmem, ⟨13, _⟩ => ⟨S512x512, .bf16⟩
  | .local _ .vmem, ⟨14, _⟩ => ⟨S4x128x64, .f32⟩
  | _, _ => ⟨S16384x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c26_i32 : BitVec 32 := 26#32
  let c0_i32 : BitVec 32 := 0#32
  ![arg0.toNat, c26_i32.toNat]

def cc0_transform_1 (i : grid0.Coords) : Fin 2 → Nat :=
  let arg0 : BitVec 32 := BitVec.ofNat 32 (i 0).val
  let c27_i32 : BitVec 32 := 27#32
  let c0_i32 : BitVec 32 := 0#32
  ![arg0.toNat, c27_i32.toNat]

def cc0_transform_2 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_3 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_4 (i : grid0.Coords) : Fin 2 → Nat :=
  let arg0 : BitVec 32 := BitVec.ofNat 32 (i 0).val
  let c61_i32 : BitVec 32 := 61#32
  let c0_i32 : BitVec 32 := 0#32
  ![arg0.toNat, c61_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S16384x8192 : Shape := ⟨2, ![16384, 8192]⟩
abbrev S16x256 : Shape := ⟨2, ![16, 256]⟩
abbrev S1x256 : Shape := ⟨2, ![1, 256]⟩
abbrev S16384x16 : Shape := ⟨2, ![16384, 16]⟩
abbrev S16384x256 : Shape := ⟨2, ![16384, 256]⟩
abbrev S_ : Shape := ⟨0, ![]⟩
abbrev S256x64x256 : Shape := ⟨3, ![256, 64, 256]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S1x64x64x1 : Shape := ⟨4, ![1, 64, 64, 1]⟩
abbrev S256x1x64x256 : Shape := ⟨4, ![256, 1, 64, 256]⟩
abbrev S256x64x64x256 : Shape := ⟨4, ![256, 64, 64, 256]⟩
abbrev S256x64x4x64 : Shape := ⟨4, ![256, 64, 4, 64]⟩
abbrev S256x1x4x64 : Shape := ⟨4, ![256, 1, 4, 64]⟩
abbrev S256x4x64 : Shape := ⟨3, ![256, 4, 64]⟩
abbrev S16384x512 : Shape := ⟨2, ![16384, 512]⟩
abbrev S256x64x4x128 : Shape := ⟨4, ![256, 64, 4, 128]⟩
abbrev S256x4x64x128 : Shape := ⟨4, ![256, 4, 64, 128]⟩
abbrev S4x64x128 : Shape := ⟨3, ![4, 64, 128]⟩
abbrev S1x4x64 : Shape := ⟨3, ![1, 4, 64]⟩
abbrev S4x64 : Shape := ⟨2, ![4, 64]⟩
abbrev S1x4x64x128 : Shape := ⟨4, ![1, 4, 64, 128]⟩
abbrev S4x64x1 : Shape := ⟨3, ![4, 64, 1]⟩
abbrev S256x64x1x4x64 : Shape := ⟨5, ![256, 64, 1, 4, 64]⟩
abbrev S256x1x64x4x64 : Shape := ⟨5, ![256, 1, 64, 4, 64]⟩
abbrev S256x64x64x4x64 : Shape := ⟨5, ![256, 64, 64, 4, 64]⟩
abbrev S1x64x64x1x1 : Shape := ⟨5, ![1, 64, 64, 1, 1]⟩
abbrev S256x64x64x4 : Shape := ⟨4, ![256, 64, 64, 4]⟩
abbrev S256x4x128x64 : Shape := ⟨4, ![256, 4, 128, 64]⟩
abbrev S16384x4x128 : Shape := ⟨3, ![16384, 4, 128]⟩
abbrev S16384x4 : Shape := ⟨2, ![16384, 4]⟩
abbrev S16384x4x1 : Shape := ⟨3, ![16384, 4, 1]⟩

abbrev nBuf : Space → Nat
  | .hbm => 210
  | .vmem => 0
  | .smem => 0
  | _ => 0

abbrev hbmTy0_0 (i : Nat) : BufTy := match i % 128 with
  | 0 => ⟨S16384x8192, .bf16⟩
  | 1 => ⟨S16x256, .f32⟩
  | 2 => ⟨S1x256, .f32⟩
  | 3 => ⟨S16384x16, .bf16⟩
  | 4 => ⟨S16384x16, .f32⟩
  | 5 => ⟨S16384x256, .f32⟩
  | 6 => ⟨S16384x256, .f32⟩
  | 7 => ⟨S16384x256, .f32⟩
  | 8 => ⟨S16384x256, .f32⟩
  | 9 => ⟨S_, .f32⟩
  | 10 => ⟨S16384x256, .f32⟩
  | 11 => ⟨S16384x256, .f32⟩
  | 12 => ⟨S16384x256, .f32⟩
  | 13 => ⟨S16384x256, .f32⟩
  | 14 => ⟨S16384x256, .i1⟩
  | 15 => ⟨S16384x256, .f32⟩
  | 16 => ⟨S16384x256, .f32⟩
  | 17 => ⟨S16384x256, .f32⟩
  | 18 => ⟨S16384x256, .f32⟩
  | 19 => ⟨S16384x256, .f32⟩
  | 20 => ⟨S16384x256, .f32⟩
  | 21 => ⟨S16384x256, .f32⟩
  | 22 => ⟨S16384x256, .f32⟩
  | 23 => ⟨S16384x256, .f32⟩
  | 24 => ⟨S_, .f32⟩
  | 25 => ⟨S16384x256, .f32⟩
  | 26 => ⟨S16384x256, .f32⟩
  | 27 => ⟨S256x64x256, .f32⟩
  | 28 => ⟨S64, .i32⟩
  | 29 => ⟨S64x1, .i32⟩
  | 30 => ⟨S1x64, .i32⟩
  | 31 => ⟨S64x64, .i32⟩
  | 32 => ⟨S64x64, .i32⟩
  | 33 => ⟨S64x64, .i1⟩
  | 34 => ⟨S1x64x64x1, .i1⟩
  | 35 => ⟨S256x1x64x256, .f32⟩
  | 36 => ⟨S_, .f32⟩
  | 37 => ⟨S_, .f32⟩
  | 38 => ⟨S256x64x64x256, .i1⟩
  | 39 => ⟨S256x64x64x256, .f32⟩
  | 40 => ⟨S256x64x64x256, .f32⟩
  | 41 => ⟨S256x64x64x256, .f32⟩
  | 42 => ⟨S_, .f32⟩
  | 43 => ⟨S256x64x256, .f32⟩
  | 44 => ⟨S256x64x4x64, .f32⟩
  | 45 => ⟨S256x1x4x64, .f32⟩
  | 46 => ⟨S256x4x64, .f32⟩
  | 47 => ⟨S16384x256, .bf16⟩
  | 48 => ⟨S16384x256, .f32⟩
  | 49 => ⟨S256x64x4x64, .f32⟩
  | 50 => ⟨S256x1x4x64, .f32⟩
  | 51 => ⟨S256x64x4x64, .f32⟩
  | 52 => ⟨S256x64x4x64, .f32⟩
  | 53 => ⟨S256x64x4x64, .f32⟩
  | 54 => ⟨S256x64x4x64, .f32⟩
  | 55 => ⟨S16384x512, .bf16⟩
  | 56 => ⟨S16384x512, .f32⟩
  | 57 => ⟨S256x64x4x128, .f32⟩
  | 58 => ⟨S256x4x64x128, .f32⟩
  | 59 => ⟨S_, .f32⟩
  | 60 => ⟨S4x64x128, .f32⟩
  | 61 => ⟨S256x4x64, .f32⟩
  | 62 => ⟨S_, .f32⟩
  | 63 => ⟨S256x4x64x128, .f32⟩
  | 64 => ⟨S_, .i32⟩
  | 65 => ⟨S256x4x64, .f32⟩
  | 66 => ⟨S256x4x64x128, .f32⟩
  | 67 => ⟨S_, .i32⟩
  | 68 => ⟨S4x64x128, .f32⟩
  | 69 => ⟨S256x4x64x128, .f32⟩
  | 70 => ⟨S_, .i32⟩
  | 71 => ⟨S_, .i1⟩
  | 72 => ⟨S_, .i32⟩
  | 73 => ⟨S_, .i32⟩
  | 74 => ⟨S1x4x64, .f32⟩
  | 75 => ⟨S4x64, .f32⟩
  | 76 => ⟨S_, .i32⟩
  | 77 => ⟨S_, .i32⟩
  | 78 => ⟨S_, .i32⟩
  | 79 => ⟨S1x4x64x128, .f32⟩
  | 80 => ⟨S4x64x128, .f32⟩
  | 81 => ⟨S4x64x1, .f32⟩
  | 82 => ⟨S4x64x128, .f32⟩
  | 83 => ⟨S4x64x128, .f32⟩
  | 84 => ⟨S4x64x128, .f32⟩
  | 85 => ⟨S1x4x64x128, .f32⟩
  | 86 => ⟨S_, .i32⟩
  | 87 => ⟨S_, .i32⟩
  | 88 => ⟨S_, .i32⟩
  | 89 => ⟨S256x4x64x128, .f32⟩
  | 90 => ⟨S_, .i32⟩
  | 91 => ⟨S_, .i32⟩
  | 92 => ⟨S16384x16, .bf16⟩
  | 93 => ⟨S16384x16, .f32⟩
  | 94 => ⟨S16384x256, .f32⟩
  | 95 => ⟨S16384x256, .f32⟩
  | 96 => ⟨S16384x256, .f32⟩
  | 97 => ⟨S16384x256, .f32⟩
  | 98 => ⟨S_, .f32⟩
  | 99 => ⟨S16384x256, .f32⟩
  | 100 => ⟨S16384x256, .f32⟩
  | 101 => ⟨S16384x256, .f32⟩
  | 102 => ⟨S16384x256, .f32⟩
  | 103 => ⟨S16384x256, .i1⟩
  | 104 => ⟨S16384x256, .f32⟩
  | 105 => ⟨S16384x256, .f32⟩
  | 106 => ⟨S16384x256, .f32⟩
  | 107 => ⟨S16384x256, .f32⟩
  | 108 => ⟨S16384x256, .f32⟩
  | 109 => ⟨S16384x256, .f32⟩
  | 110 => ⟨S16384x256, .f32⟩
  | 111 => ⟨S16384x256, .f32⟩
  | 112 => ⟨S16384x256, .f32⟩
  | 113 => ⟨S_, .f32⟩
  | 114 => ⟨S16384x256, .f32⟩
  | 115 => ⟨S16384x256, .f32⟩
  | 116 => ⟨S256x64x256, .f32⟩
  | 117 => ⟨S64, .i32⟩
  | 118 => ⟨S64x1, .i32⟩
  | 119 => ⟨S1x64, .i32⟩
  | 120 => ⟨S64x64, .i32⟩
  | 121 => ⟨S64x64, .i32⟩
  | 122 => ⟨S64x64, .i1⟩
  | 123 => ⟨S1x64x64x1, .i1⟩
  | 124 => ⟨S256x1x64x256, .f32⟩
  | 125 => ⟨S_, .f32⟩
  | 126 => ⟨S_, .f32⟩
  | 127 => ⟨S256x64x64x256, .i1⟩
  | _ => ⟨S16384x8192, .bf16⟩

abbrev hbmTy0_1 (i : Nat) : BufTy := match i % 128 with
  | 0 => ⟨S256x64x64x256, .f32⟩
  | 1 => ⟨S256x64x64x256, .f32⟩
  | 2 => ⟨S256x64x64x256, .f32⟩
  | 3 => ⟨S_, .f32⟩
  | 4 => ⟨S256x64x256, .f32⟩
  | 5 => ⟨S256x64x4x64, .f32⟩
  | 6 => ⟨S16384x256, .bf16⟩
  | 7 => ⟨S16384x256, .f32⟩
  | 8 => ⟨S256x64x4x64, .f32⟩
  | 9 => ⟨S_, .f32⟩
  | 10 => ⟨S256x64x4x64, .f32⟩
  | 11 => ⟨S256x64x4x64, .f32⟩
  | 12 => ⟨S256x64x1x4x64, .f32⟩
  | 13 => ⟨S256x1x64x4x64, .f32⟩
  | 14 => ⟨S256x64x64x4x64, .f32⟩
  | 15 => ⟨S256x64x64x4x64, .f32⟩
  | 16 => ⟨S256x64x64x4x64, .f32⟩
  | 17 => ⟨S64, .i32⟩
  | 18 => ⟨S64x1, .i32⟩
  | 19 => ⟨S1x64, .i32⟩
  | 20 => ⟨S64x64, .i32⟩
  | 21 => ⟨S64x64, .i32⟩
  | 22 => ⟨S64x64, .i1⟩
  | 23 => ⟨S1x64x64x1x1, .i1⟩
  | 24 => ⟨S_, .f32⟩
  | 25 => ⟨S_, .f32⟩
  | 26 => ⟨S256x64x64x4x64, .i1⟩
  | 27 => ⟨S256x64x64x4x64, .f32⟩
  | 28 => ⟨S256x64x64x4x64, .f32⟩
  | 29 => ⟨S256x64x64x4x64, .f32⟩
  | 30 => ⟨S256x64x1x4x64, .f32⟩
  | 31 => ⟨S16384x256, .bf16⟩
  | 32 => ⟨S16384x256, .f32⟩
  | 33 => ⟨S256x64x4x64, .f32⟩
  | 34 => ⟨S256x1x64x4x64, .f32⟩
  | 35 => ⟨S256x64x64x4x64, .f32⟩
  | 36 => ⟨S256x64x64x4x64, .f32⟩
  | 37 => ⟨S256x64x64x4x64, .f32⟩
  | 38 => ⟨S256x64x64x4x64, .f32⟩
  | 39 => ⟨S_, .f32⟩
  | 40 => ⟨S256x64x64x4, .f32⟩
  | 41 => ⟨S16384x512, .bf16⟩
  | 42 => ⟨S16384x512, .f32⟩
  | 43 => ⟨S256x64x4x128, .f32⟩
  | 44 => ⟨S256x4x128x64, .f32⟩
  | 45 => ⟨S256x64x4x128, .f32⟩
  | 46 => ⟨S256x64x4x64, .f32⟩
  | 47 => ⟨S256x64x4x64, .f32⟩
  | 48 => ⟨S256x4x128x64, .f32⟩
  | 49 => ⟨S256x64x4x128, .f32⟩
  | 50 => ⟨S256x64x4x128, .f32⟩
  | 51 => ⟨S16384x4x128, .f32⟩
  | 52 => ⟨S16384x4x128, .f32⟩
  | 53 => ⟨S_, .f32⟩
  | 54 => ⟨S16384x4, .f32⟩
  | 55 => ⟨S16384x4x1, .f32⟩
  | 56 => ⟨S_, .f32⟩
  | 57 => ⟨S16384x4x1, .f32⟩
  | 58 => ⟨S16384x4x1, .f32⟩
  | 59 => ⟨S_, .f32⟩
  | 60 => ⟨S16384x4x1, .f32⟩
  | 61 => ⟨S16384x4x1, .f32⟩
  | 62 => ⟨S16384x4x1, .f32⟩
  | 63 => ⟨S16384x4x128, .f32⟩
  | 64 => ⟨S16384x4x128, .f32⟩
  | 65 => ⟨S_, .f32⟩
  | 66 => ⟨S16384x4x128, .f32⟩
  | 67 => ⟨S16384x4x128, .f32⟩
  | 68 => ⟨S16384x512, .f32⟩
  | 69 => ⟨S16384x512, .bf16⟩
  | 70 => ⟨S16384x512, .f32⟩
  | 71 => ⟨S16384x512, .f32⟩
  | 72 => ⟨S16384x512, .f32⟩
  | 73 => ⟨S_, .f32⟩
  | 74 => ⟨S16384x512, .f32⟩
  | 75 => ⟨S16384x512, .f32⟩
  | 76 => ⟨S_, .f32⟩
  | 77 => ⟨S16384x512, .f32⟩
  | 78 => ⟨S16384x512, .f32⟩
  | 79 => ⟨S16384x512, .f32⟩
  | 80 => ⟨S16384x512, .f32⟩
  | 81 => ⟨S16384x512, .bf16⟩
  | _ => ⟨S16384x8192, .bf16⟩

abbrev hbmTy (i : Nat) : BufTy := match i / 128 with
  | 0 => hbmTy0_0 i
  | 1 => hbmTy0_1 i
  | _ => ⟨S16384x8192, .bf16⟩

abbrev bufTy : (tb : Table) → Fin (tcTables nBuf tb) → BufTy
  | .hbm, ⟨i, _⟩ => hbmTy i
  | _, _ => ⟨S16384x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_call0_cst : Ref sig .tc := ⟨.hbm, 9, rfl⟩
abbrev main_call0_call0_v0 : Ref sig .tc := ⟨.hbm, 10, rfl⟩
abbrev main_call0_call0_v1 : Ref sig .tc := ⟨.hbm, 11, rfl⟩
abbrev main_call0_call0_v2 : Ref sig .tc := ⟨.hbm, 12, rfl⟩
abbrev main_call0_call0_v3 : Ref sig .tc := ⟨.hbm, 13, rfl⟩
abbrev main_call0_call0_v4 : Ref sig .tc := ⟨.hbm, 14, rfl⟩
abbrev main_call0_call0_v5 : Ref sig .tc := ⟨.hbm, 15, rfl⟩
abbrev main_call0_call0_v6 : Ref sig .tc := ⟨.hbm, 16, rfl⟩
abbrev main_call0_call0_v7 : Ref sig .tc := ⟨.hbm, 17, rfl⟩
abbrev main_call0_call0_v8 : Ref sig .tc := ⟨.hbm, 18, rfl⟩
abbrev main_call0_call0_v9 : Ref sig .tc := ⟨.hbm, 19, rfl⟩
abbrev main_call0_call0_v10 : Ref sig .tc := ⟨.hbm, 20, rfl⟩
abbrev main_call0_call0_v11 : Ref sig .tc := ⟨.hbm, 21, rfl⟩
abbrev main_call0_v1 : Ref sig .tc := ⟨.hbm, 22, rfl⟩
abbrev main_v5 : Ref sig .tc := ⟨.hbm, 23, rfl⟩
abbrev main_cst : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_v17 : Ref sig .tc := ⟨.hbm, 41, rfl⟩
abbrev main_cst_1 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_2 : Ref sig .tc := ⟨.hbm, 59, rfl⟩
abbrev main_v34 : Ref sig .tc := ⟨.hbm, 60, rfl⟩
abbrev main_v35 : Ref sig .tc := ⟨.hbm, 61, rfl⟩
abbrev main_cst_3 : Ref sig .tc := ⟨.hbm, 62, rfl⟩
abbrev main_v36 : Ref sig .tc := ⟨.hbm, 63, rfl⟩
abbrev main_c : Ref sig .tc := ⟨.hbm, 64, rfl⟩
abbrev main_v37_0 : Ref sig .tc := ⟨.hbm, 65, rfl⟩
abbrev main_v37_1 : Ref sig .tc := ⟨.hbm, 66, rfl⟩
abbrev main_v37_2 : Ref sig .tc := ⟨.hbm, 67, rfl⟩
abbrev main_v37_3 : Ref sig .tc := ⟨.hbm, 68, rfl⟩
abbrev main_v37_4 : Ref sig .tc := ⟨.hbm, 69, rfl⟩
abbrev main_while0c_c_18 : Ref sig .tc := ⟨.hbm, 70, rfl⟩
abbrev main_while0c_v116 : Ref sig .tc := ⟨.hbm, 71, rfl⟩
abbrev main_while0b_call2_c : Ref sig .tc := ⟨.hbm, 72, rfl⟩
abbrev main_while0b_call2_c_0 : Ref sig .tc := ⟨.hbm, 73, rfl⟩
abbrev main_while0b_call2_v0 : Ref sig .tc := ⟨.hbm, 74, rfl⟩
abbrev main_while0b_v116 : Ref sig .tc := ⟨.hbm, 75, rfl⟩
abbrev main_while0b_call3_c : Ref sig .tc := ⟨.hbm, 76, rfl⟩
abbrev main_while0b_call3_c_0 : Ref sig .tc := ⟨.hbm, 77, rfl⟩
abbrev main_while0b_call3_c_1 : Ref sig .tc := ⟨.hbm, 78, rfl⟩
abbrev main_while0b_call3_v0 : Ref sig .tc := ⟨.hbm, 79, rfl⟩
abbrev main_while0b_v117 : Ref sig .tc := ⟨.hbm, 80, rfl⟩
abbrev main_while0b_v118 : Ref sig .tc := ⟨.hbm, 81, rfl⟩
abbrev main_while0b_v119 : Ref sig .tc := ⟨.hbm, 82, rfl⟩
abbrev main_while0b_v120 : Ref sig .tc := ⟨.hbm, 83, rfl⟩
abbrev main_while0b_v121 : Ref sig .tc := ⟨.hbm, 84, rfl⟩
abbrev main_while0b_call4_v0 : Ref sig .tc := ⟨.hbm, 85, rfl⟩
abbrev main_while0b_call4_c : Ref sig .tc := ⟨.hbm, 86, rfl⟩
abbrev main_while0b_call4_c_0 : Ref sig .tc := ⟨.hbm, 87, rfl⟩
abbrev main_while0b_call4_c_1 : Ref sig .tc := ⟨.hbm, 88, rfl⟩
abbrev main_while0b_v122 : Ref sig .tc := ⟨.hbm, 89, rfl⟩
abbrev main_while0b_c_18 : Ref sig .tc := ⟨.hbm, 90, rfl⟩
abbrev main_while0b_v123 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_call5_v0 : Ref sig .tc := ⟨.hbm, 97, rfl⟩
abbrev main_call5_call0_cst : Ref sig .tc := ⟨.hbm, 98, rfl⟩
abbrev main_call5_call0_v0 : Ref sig .tc := ⟨.hbm, 99, rfl⟩
abbrev main_call5_call0_v1 : Ref sig .tc := ⟨.hbm, 100, rfl⟩
abbrev main_call5_call0_v2 : Ref sig .tc := ⟨.hbm, 101, rfl⟩
abbrev main_call5_call0_v3 : Ref sig .tc := ⟨.hbm, 102, rfl⟩
abbrev main_call5_call0_v4 : Ref sig .tc := ⟨.hbm, 103, rfl⟩
abbrev main_call5_call0_v5 : Ref sig .tc := ⟨.hbm, 104, rfl⟩
abbrev main_call5_call0_v6 : Ref sig .tc := ⟨.hbm, 105, rfl⟩
abbrev main_call5_call0_v7 : Ref sig .tc := ⟨.hbm, 106, rfl⟩
abbrev main_call5_call0_v8 : Ref sig .tc := ⟨.hbm, 107, rfl⟩
abbrev main_call5_call0_v9 : Ref sig .tc := ⟨.hbm, 108, rfl⟩
abbrev main_call5_call0_v10 : Ref sig .tc := ⟨.hbm, 109, rfl⟩
abbrev main_call5_call0_v11 : Ref sig .tc := ⟨.hbm, 110, rfl⟩
abbrev main_call5_v1 : Ref sig .tc := ⟨.hbm, 111, rfl⟩
abbrev main_v43 : Ref sig .tc := ⟨.hbm, 112, rfl⟩
abbrev main_cst_4 : Ref sig .tc := ⟨.hbm, 113, rfl⟩
abbrev main_v44 : Ref sig .tc := ⟨.hbm, 114, rfl⟩
abbrev main_v45 : Ref sig .tc := ⟨.hbm, 115, rfl⟩
abbrev main_v46 : Ref sig .tc := ⟨.hbm, 116, rfl⟩
abbrev main_v47 : Ref sig .tc := ⟨.hbm, 117, rfl⟩
abbrev main_v48 : Ref sig .tc := ⟨.hbm, 118, rfl⟩
abbrev main_v49 : Ref sig .tc := ⟨.hbm, 119, rfl⟩
abbrev main_v50 : Ref sig .tc := ⟨.hbm, 120, rfl⟩
abbrev main_v51 : Ref sig .tc := ⟨.hbm, 121, rfl⟩
abbrev main_v52 : Ref sig .tc := ⟨.hbm, 122, rfl⟩
abbrev main_v53 : Ref sig .tc := ⟨.hbm, 123, rfl⟩
abbrev main_v54 : Ref sig .tc := ⟨.hbm, 124, rfl⟩
abbrev main_cst_5 : Ref sig .tc := ⟨.hbm, 125, rfl⟩
abbrev main_call6_v0 : Ref sig .tc := ⟨.hbm, 126, rfl⟩
abbrev main_call6_v1 : Ref sig .tc := ⟨.hbm, 127, rfl⟩
abbrev main_call6_v2 : Ref sig .tc := ⟨.hbm, 128, rfl⟩
abbrev main_call6_v3 : Ref sig .tc := ⟨.hbm, 129, rfl⟩
abbrev main_v55 : Ref sig .tc := ⟨.hbm, 130, rfl⟩
abbrev main_cst_6 : Ref sig .tc := ⟨.hbm, 131, rfl⟩
abbrev main_v56 : Ref sig .tc := ⟨.hbm, 132, rfl⟩
abbrev main_v57 : Ref sig .tc := ⟨.hbm, 133, rfl⟩
abbrev main_v58 : Ref sig .tc := ⟨.hbm, 134, rfl⟩
abbrev main_v59 : Ref sig .tc := ⟨.hbm, 135, rfl⟩
abbrev main_v60 : Ref sig .tc := ⟨.hbm, 136, rfl⟩
abbrev main_cst_7 : Ref sig .tc := ⟨.hbm, 137, rfl⟩
abbrev main_v61 : Ref sig .tc := ⟨.hbm, 138, rfl⟩
abbrev main_v62 : Ref sig .tc := ⟨.hbm, 139, rfl⟩
abbrev main_v63 : Ref sig .tc := ⟨.hbm, 140, rfl⟩
abbrev main_v64 : Ref sig .tc := ⟨.hbm, 141, rfl⟩
abbrev main_v65 : Ref sig .tc := ⟨.hbm, 142, rfl⟩
abbrev main_v66 : Ref sig .tc := ⟨.hbm, 143, rfl⟩
abbrev main_v67 : Ref sig .tc := ⟨.hbm, 144, rfl⟩
abbrev main_v68 : Ref sig .tc := ⟨.hbm, 145, rfl⟩
abbrev main_v69 : Ref sig .tc := ⟨.hbm, 146, rfl⟩
abbrev main_v70 : Ref sig .tc := ⟨.hbm, 147, rfl⟩
abbrev main_v71 : Ref sig .tc := ⟨.hbm, 148, rfl⟩
abbrev main_v72 : Ref sig .tc := ⟨.hbm, 149, rfl⟩
abbrev main_v73 : Ref sig .tc := ⟨.hbm, 150, rfl⟩
abbrev main_v74 : Ref sig .tc := ⟨.hbm, 151, rfl⟩
abbrev main_cst_8 : Ref sig .tc := ⟨.hbm, 152, rfl⟩
abbrev main_call7_v0 : Ref sig .tc := ⟨.hbm, 153, rfl⟩
abbrev main_call7_v1 : Ref sig .tc := ⟨.hbm, 154, rfl⟩
abbrev main_call7_v2 : Ref sig .tc := ⟨.hbm, 155, rfl⟩
abbrev main_v75 : Ref sig .tc := ⟨.hbm, 156, rfl⟩
abbrev main_v76 : Ref sig .tc := ⟨.hbm, 157, rfl⟩
abbrev main_v77 : Ref sig .tc := ⟨.hbm, 158, rfl⟩
abbrev main_v78 : Ref sig .tc := ⟨.hbm, 159, rfl⟩
abbrev main_v79 : Ref sig .tc := ⟨.hbm, 160, rfl⟩
abbrev main_v80 : Ref sig .tc := ⟨.hbm, 161, rfl⟩
abbrev main_v81 : Ref sig .tc := ⟨.hbm, 162, rfl⟩
abbrev main_v82 : Ref sig .tc := ⟨.hbm, 163, rfl⟩
abbrev main_v83 : Ref sig .tc := ⟨.hbm, 164, rfl⟩
abbrev main_v84 : Ref sig .tc := ⟨.hbm, 165, rfl⟩
abbrev main_v85 : Ref sig .tc := ⟨.hbm, 166, rfl⟩
abbrev main_cst_9 : Ref sig .tc := ⟨.hbm, 167, rfl⟩
abbrev main_v86 : Ref sig .tc := ⟨.hbm, 168, rfl⟩
abbrev main_v87 : Ref sig .tc := ⟨.hbm, 169, rfl⟩
abbrev main_v88 : Ref sig .tc := ⟨.hbm, 170, rfl⟩
abbrev main_v89 : Ref sig .tc := ⟨.hbm, 171, rfl⟩
abbrev main_v90 : Ref sig .tc := ⟨.hbm, 172, rfl⟩
abbrev main_v91 : Ref sig .tc := ⟨.hbm, 173, rfl⟩
abbrev main_v92 : Ref sig .tc := ⟨.hbm, 174, rfl⟩
abbrev main_v93 : Ref sig .tc := ⟨.hbm, 175, rfl⟩
abbrev main_v94 : Ref sig .tc := ⟨.hbm, 176, rfl⟩
abbrev main_v95 : Ref sig .tc := ⟨.hbm, 177, rfl⟩
abbrev main_v96 : Ref sig .tc := ⟨.hbm, 178, rfl⟩
abbrev main_v97 : Ref sig .tc := ⟨.hbm, 179, rfl⟩
abbrev main_v98 : Ref sig .tc := ⟨.hbm, 180, rfl⟩
abbrev main_cst_10 : Ref sig .tc := ⟨.hbm, 181, rfl⟩
abbrev main_v99 : Ref sig .tc := ⟨.hbm, 182, rfl⟩
abbrev main_v100 : Ref sig .tc := ⟨.hbm, 183, rfl⟩
abbrev main_cst_11 : Ref sig .tc := ⟨.hbm, 184, rfl⟩
abbrev main_v101 : Ref sig .tc := ⟨.hbm, 185, rfl⟩
abbrev main_v102 : Ref sig .tc := ⟨.hbm, 186, rfl⟩
abbrev main_cst_12 : Ref sig .tc := ⟨.hbm, 187, rfl⟩
abbrev main_v103 : Ref sig .tc := ⟨.hbm, 188, rfl⟩
abbrev main_v104 : Ref sig .tc := ⟨.hbm, 189, rfl⟩
abbrev main_v105 : Ref sig .tc := ⟨.hbm, 190, rfl⟩
abbrev main_v106 : Ref sig .tc := ⟨.hbm, 191, rfl⟩
abbrev main_v107 : Ref sig .tc := ⟨.hbm, 192, rfl⟩
abbrev main_cst_13 : Ref sig .tc := ⟨.hbm, 193, rfl⟩
abbrev main_v108 : Ref sig .tc := ⟨.hbm, 194, rfl⟩
abbrev main_v109 : Ref sig .tc := ⟨.hbm, 195, rfl⟩
abbrev main_v110 : Ref sig .tc := ⟨.hbm, 196, rfl⟩
abbrev main_v111 : Ref sig .tc := ⟨.hbm, 197, rfl⟩
abbrev main_v112 : Ref sig .tc := ⟨.hbm, 198, rfl⟩
abbrev main_call8_v0 : Ref sig .tc := ⟨.hbm, 199, rfl⟩
abbrev main_call8_v1 : Ref sig .tc := ⟨.hbm, 200, rfl⟩
abbrev main_call8_cst : Ref sig .tc := ⟨.hbm, 201, rfl⟩
abbrev main_call8_v2 : Ref sig .tc := ⟨.hbm, 202, rfl⟩
abbrev main_call8_v3 : Ref sig .tc := ⟨.hbm, 203, rfl⟩
abbrev main_call8_cst_0 : Ref sig .tc := ⟨.hbm, 204, rfl⟩
abbrev main_call8_v4 : Ref sig .tc := ⟨.hbm, 205, rfl⟩
abbrev main_call8_v5 : Ref sig .tc := ⟨.hbm, 206, rfl⟩
abbrev main_v113 : Ref sig .tc := ⟨.hbm, 207, rfl⟩
abbrev main_v114 : Ref sig .tc := ⟨.hbm, 208, rfl⟩
abbrev main_v115 : Ref sig .tc := ⟨.hbm, 209, rfl⟩

abbrev nD : Nat := 1
abbrev τ : Topo := Topo.v7x

variable {F : FTy → Type} [FloatOps F]

abbrev main_while0_count : Scf.Loop 32 := ⟨0#32, 256#32, 1#32⟩
-- ==== Kernel5.lean ====
abbrev S1x1024 : Shape := ⟨2, ![1, 1024]⟩
abbrev S4x1024x3072 : Shape := ⟨3, ![4, 1024, 3072]⟩
abbrev S4x3072 : Shape := ⟨2, ![4, 3072]⟩
abbrev S8x1024 : Shape := ⟨2, ![8, 1024]⟩
abbrev S4x1x3072 : Shape := ⟨3, ![4, 1, 3072]⟩
abbrev S4x8x3072 : Shape := ⟨3, ![4, 8, 3072]⟩
abbrev S1x1024x1024 : Shape := ⟨3, ![1, 1024, 1024]⟩
abbrev S1x1x1024 : Shape := ⟨3, ![1, 1, 1024]⟩
abbrev S1x8x1024 : Shape := ⟨3, ![1, 8, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S4x1024x3072, .f32⟩
  | .hbm, ⟨2, _⟩ => ⟨S4x3072, .f32⟩
  | .hbm, ⟨3, _⟩ => ⟨S8x1024, .f32⟩
  | .hbm, ⟨4, _⟩ => ⟨S4x1x3072, .f32⟩
  | .hbm, ⟨5, _⟩ => ⟨S4x8x3072, .f32⟩
  | .local _ .vmem, ⟨0, _⟩ => ⟨S8x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S1x1024 : Shape := ⟨2, ![1, 1024]⟩
abbrev S4x1024x3072 : Shape := ⟨3, ![4, 1024, 3072]⟩
abbrev S4x3072 : Shape := ⟨2, ![4, 3072]⟩
abbrev S_ : Shape := ⟨0, ![]⟩
abbrev S4x3072x1 : Shape := ⟨3, ![4, 3072, 1]⟩
abbrev S4x1x3072 : Shape := ⟨3, ![4, 1, 3072]⟩
abbrev S4x8x3072 : Shape := ⟨3, ![4, 8, 3072]⟩

abbrev nBuf : Space → Nat
  | .hbm => 17
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S4x1024x3072, .f32⟩
  | .hbm, ⟨2, _⟩ => ⟨S4x3072, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S1x1024, .f32⟩
  | .hbm, ⟨7, _⟩ => ⟨S1x1024, .f32⟩
  | .hbm, ⟨8, _⟩ => ⟨S_, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S4x3072x1, .f32⟩
  | .hbm, ⟨13, _⟩ => ⟨S4x1x3072, .f32⟩
  | .hbm, ⟨14, _⟩ => ⟨S4x1x3072, .f32⟩
  | .hbm, ⟨15, _⟩ => ⟨S4x1x3072, .f32⟩
  | .hbm, ⟨16, _⟩ => ⟨S4x8x3072, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Kernel6.lean ====
abbrev S1x16384 : Shape := ⟨2, ![1, 16384]⟩
abbrev S16384x1 : Shape := ⟨2, ![16384, 1]⟩
abbrev S32 : Shape := ⟨1, ![32]⟩
abbrev S_ : Shape := ⟨0, ![]⟩
abbrev S64 : Shape := ⟨1, ![64]⟩
abbrev S1x64 : Shape := ⟨2, ![1, 64]⟩
abbrev S4x64 : Shape := ⟨2, ![4, 64]⟩
abbrev S256 : Shape := ⟨1, ![256]⟩
abbrev S1x256 : Shape := ⟨2, ![1, 256]⟩
abbrev S8 : Shape := ⟨1, ![8]⟩
abbrev S48 : Shape := ⟨1, ![48]⟩
abbrev S2x64 : Shape := ⟨2, ![2, 64]⟩
abbrev S128 : Shape := ⟨1, ![128]⟩
abbrev S1x128 : Shape := ⟨2, ![1, 128]⟩
abbrev S88 : Shape := ⟨1, ![88]⟩
abbrev S16384x256 : Shape := ⟨2, ![16384, 256]⟩
abbrev S16384x128 : Shape := ⟨2, ![16384, 128]⟩
abbrev S1024x1 : Shape := ⟨2, ![1024, 1]⟩
abbrev S1024x256 : Shape := ⟨2, ![1024, 256]⟩
abbrev S1024x128 : Shape := ⟨2, ![1024, 128]⟩

abbrev nBuf : Space → Nat
  | .hbm => 54
  | .vmem => 13
  | .smem => 0
  | _ => 0

abbrev bufTy : (tb : Table) → Fin (tcTables nBuf tb) → BufTy
  | .hbm, ⟨0, _⟩ => ⟨S1x16384, .i32⟩
  | .hbm, ⟨1, _⟩ => ⟨S16384x1, .i32⟩
  | .hbm, ⟨2, _⟩ => ⟨S32, .f32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S64, .f32⟩
  | .hbm, ⟨19, _⟩ => ⟨S1x64, .f32⟩
  | .hbm, ⟨20, _⟩ => ⟨S4x64, .f32⟩
  | .hbm, ⟨21, _⟩ => ⟨S256, .f32⟩
  | .hbm, ⟨22, _⟩ => ⟨S1x256, .f32⟩
  | .hbm, ⟨23, _⟩ => ⟨S8, .f32⟩
  | .hbm, ⟨24, _⟩ => ⟨S8, .f32⟩
  | .hbm, ⟨25, _⟩ => ⟨S_, .f32⟩
  | .hbm, ⟨26, _⟩ => ⟨S8, .f32⟩
  | .hbm, ⟨27, _⟩ => ⟨S8, .f32⟩
  | .hbm, ⟨28, _⟩ => ⟨S_, .f32⟩
  | .hbm, ⟨29, _⟩ => ⟨S8, .f32⟩
  | .hbm, ⟨30, _⟩ => ⟨S8, .f32⟩
  | .hbm, ⟨31, _⟩ => ⟨S_, .f32⟩
  | .hbm, ⟨32, _⟩ => ⟨S8, .f32⟩
  | .hbm, ⟨33, _⟩ => ⟨S8, .f32⟩
  | .hbm, ⟨34, _⟩ => ⟨S_, .f32⟩
  | .hbm, ⟨35, _⟩ => ⟨S48, .f32⟩
  | .hbm, ⟨36, _⟩ => ⟨S_, .f32⟩
  | .hbm, ⟨37, _⟩ => ⟨S8, .f32⟩
  | .hbm, ⟨38, _⟩ => ⟨S8, .f32⟩
  | .hbm, ⟨39, _⟩ => ⟨S_, .f32⟩
  | .hbm, ⟨40, _⟩ => ⟨S8, .f32⟩
  | .hbm, ⟨41, _⟩ => ⟨S64, .f32⟩
  | .hbm, ⟨42, _⟩ => ⟨S1x64, .f32⟩
  | .hbm, ⟨43, _⟩ => ⟨S2x64, .f32⟩
  | .hbm, ⟨44, _⟩ => ⟨S128, .f32⟩
  | .hbm, ⟨45, _⟩ => ⟨S1x128, .f32⟩
  | .hbm, ⟨46, _⟩ => ⟨S_, .f32⟩
  | .hbm, ⟨47, _⟩ => ⟨S88, .f32⟩
  | .hbm, ⟨48, _⟩ => ⟨S128, .f32⟩
  | .hbm, ⟨49, _⟩ => ⟨S1x128, .f32⟩
  | .hbm, ⟨50, _⟩ => ⟨S16384x256, .f32⟩
  | .hbm, ⟨51, _⟩ => ⟨S16384x256, .f32⟩
  | .hbm, ⟨52, _⟩ => ⟨S16384x128, .f32⟩
  | .hbm, ⟨53, _⟩ => ⟨S16384x128, .f32⟩
  | .local _ .vmem, ⟨0, _⟩ => ⟨S1024x1, .i32⟩
  | .local _ .vmem, ⟨1, _⟩ => ⟨S1024x1, .i32⟩
  | .local _ .vmem, ⟨2, _⟩ => ⟨S1x128, .f32⟩
  | .local _ .vmem, ⟨3, _⟩ => ⟨S1x256, .f32⟩
  | .local _ .vmem, ⟨4, _⟩ => ⟨S1x128, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | _, _ => ⟨S1x16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_cst_2 : Ref sig .tc := ⟨.hbm, 13, rfl⟩
abbrev main_v9 : Ref sig .tc := ⟨.hbm, 14, rfl⟩
abbrev main_v10 : Ref sig .tc := ⟨.hbm, 15, rfl⟩
abbrev main_cst_3 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_4 : Ref sig .tc := ⟨.hbm, 25, rfl⟩
abbrev main_v19 : Ref sig .tc := ⟨.hbm, 26, rfl⟩
abbrev main_v20 : Ref sig .tc := ⟨.hbm, 27, rfl⟩
abbrev main_cst_5 : Ref sig .tc := ⟨.hbm, 28, rfl⟩
abbrev main_v21 : Ref sig .tc := ⟨.hbm, 29, rfl⟩
abbrev main_v22 : Ref sig .tc := ⟨.hbm, 30, rfl⟩
abbrev main_cst_6 : Ref sig .tc := ⟨.hbm, 31, rfl⟩
abbrev main_v23 : Ref sig .tc := ⟨.hbm, 32, rfl⟩
abbrev main_v24 : Ref sig .tc := ⟨.hbm, 33, rfl⟩
abbrev main_cst_7 : Ref sig .tc := ⟨.hbm, 34, rfl⟩
abbrev main_v25 : Ref sig .tc := ⟨.hbm, 35, rfl⟩
abbrev main_cst_8 : Ref sig .tc := ⟨.hbm, 36, rfl⟩
abbrev main_v26 : Ref sig .tc := ⟨.hbm, 37, rfl⟩
abbrev main_v27 : Ref sig .tc := ⟨.hbm, 38, rfl⟩
abbrev main_cst_9 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_10 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37_0 : Ref sig .tc := ⟨.hbm, 50, rfl⟩
abbrev main_v37_1 : Ref sig .tc := ⟨.hbm, 51, rfl⟩
abbrev main_v37_2 : Ref sig .tc := ⟨.hbm, 52, rfl⟩
abbrev main_v37_3 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference6Ideal.lean ====
abbrev S1x16384 : Shape := ⟨2, ![1, 16384]⟩
abbrev S32 : Shape := ⟨1, ![32]⟩
abbrev S_ : Shape := ⟨0, ![]⟩
abbrev S16384 : Shape := ⟨1, ![16384]⟩
abbrev S16384x1 : Shape := ⟨2, ![16384, 1]⟩
abbrev S1x32 : Shape := ⟨2, ![1, 32]⟩
abbrev S16384x32 : Shape := ⟨2, ![16384, 32]⟩
abbrev S16384x0 : Shape := ⟨2, ![16384, 0]⟩
abbrev S16384x256 : Shape := ⟨2, ![16384, 256]⟩
abbrev S8 : Shape := ⟨1, ![8]⟩
abbrev S1x8 : Shape := ⟨2, ![1, 8]⟩
abbrev S16384x8 : Shape := ⟨2, ![16384, 8]⟩
abbrev S16384x48 : Shape := ⟨2, ![16384, 48]⟩
abbrev S16384x128 : Shape := ⟨2, ![16384, 128]⟩

abbrev nBuf : Space → Nat
  | .hbm => 93
  | .vmem => 0
  | .smem => 0
  | _ => 0

abbrev bufTy : (tb : Table) → Fin (tcTables nBuf tb) → BufTy
  | .hbm, ⟨0, _⟩ => ⟨S1x16384, .i32⟩
  | .hbm, ⟨1, _⟩ => ⟨S32, .f32⟩
  | .hbm, ⟨2, _⟩ => ⟨S32, .f32⟩
  | .hbm, ⟨3, _⟩ => ⟨S_, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S16384, .i32⟩
  | .hbm, ⟨13, _⟩ => ⟨S16384, .f32⟩
  | .hbm, ⟨14, _⟩ => ⟨S16384x1, .f32⟩
  | .hbm, ⟨15, _⟩ => ⟨S1x32, .f32⟩
  | .hbm, ⟨16, _⟩ => ⟨S16384x32, .f32⟩
  | .hbm, ⟨17, _⟩ => ⟨S16384x32, .f32⟩
  | .hbm, ⟨18, _⟩ => ⟨S16384x32, .f32⟩
  | .hbm, ⟨19, _⟩ => ⟨S16384x32, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S_, .f32⟩
  | .hbm, ⟨26, _⟩ => ⟨S32, .f32⟩
  | .hbm, ⟨27, _⟩ => ⟨S32, .f32⟩
  | .hbm, ⟨28, _⟩ => ⟨S_, .f32⟩
  | .hbm, ⟨29, _⟩ => ⟨S32, .f32⟩
  | .hbm, ⟨30, _⟩ => ⟨S32, .f32⟩
  | .hbm, ⟨31, _⟩ => ⟨S16384, .i32⟩
  | .hbm, ⟨32, _⟩ => ⟨S16384, .f32⟩
  | .hbm, ⟨33, _⟩ => ⟨S16384x1, .f32⟩
  | .hbm, ⟨34, _⟩ => ⟨S1x32, .f32⟩
  | .hbm, ⟨35, _⟩ => ⟨S16384x32, .f32⟩
  | .hbm, ⟨36, _⟩ => ⟨S16384x32, .f32⟩
  | .hbm, ⟨37, _⟩ => ⟨S16384x32, .f32⟩
  | .hbm, ⟨38, _⟩ => ⟨S16384x32, .f32⟩
  | .hbm, ⟨39, _⟩ => ⟨S_, .f32⟩
  | .hbm, ⟨40, _⟩ => ⟨S16384x0, .f32⟩
  | .hbm, ⟨41, _⟩ => ⟨S_, .f32⟩
  | .hbm, ⟨42, _⟩ => ⟨S16384x0, .f32⟩
  | .hbm, ⟨43, _⟩ => ⟨S16384x0, .f32⟩
  | .hbm, ⟨44, _⟩ => ⟨S16384x256, .f32⟩
  | .hbm, ⟨45, _⟩ => ⟨S16384x32, .f32⟩
  | .hbm, ⟨46, _⟩ => ⟨S16384x256, .f32⟩
  | .hbm, ⟨47, _⟩ => ⟨S8, .f32⟩
  | .hbm, ⟨48, _⟩ => ⟨S8, .f32⟩
  | .hbm, ⟨49, _⟩ => ⟨S_, .f32⟩
  | .hbm, ⟨50, _⟩ => ⟨S8, .f32⟩
  | .hbm, ⟨51, _⟩ => ⟨S8, .f32⟩
  | .hbm, ⟨52, _⟩ => ⟨S_, .f32⟩
  | .hbm, ⟨53, _⟩ => ⟨S8, .f32⟩
  | .hbm, ⟨54, _⟩ => ⟨S8, .f32⟩
  | .hbm, ⟨55, _⟩ => ⟨S_, .f32⟩
  | .hbm, ⟨56, _⟩ => ⟨S8, .f32⟩
  | .hbm, ⟨57, _⟩ => ⟨S8, .f32⟩
  | .hbm, ⟨58, _⟩ => ⟨S16384, .i32⟩
  | .hbm, ⟨59, _⟩ => ⟨S16384, .f32⟩
  | .hbm, ⟨60, _⟩ => ⟨S16384x1, .f32⟩
  | .hbm, ⟨61, _⟩ => ⟨S1x8, .f32⟩
  | .hbm, ⟨62, _⟩ => ⟨S16384x8, .f32⟩
  | .hbm, ⟨63, _⟩ => ⟨S16384x8, .f32⟩
  | .hbm, ⟨64, _⟩ => ⟨S16384x8, .f32⟩
  | .hbm, ⟨65, _⟩ => ⟨S16384x8, .f32⟩
  | .hbm, ⟨66, _⟩ => ⟨S8, .f32⟩
  | .hbm, ⟨67, _⟩ => ⟨S8, .f32⟩
  | .hbm, ⟨68, _⟩ => ⟨S_, .f32⟩
  | .hbm, ⟨69, _⟩ => ⟨S8, .f32⟩
  | .hbm, ⟨70, _⟩ => ⟨S8, .f32⟩
  | .hbm, ⟨71, _⟩ => ⟨S_, .f32⟩
  | .hbm, ⟨72, _⟩ => ⟨S8, .f32⟩
  | .hbm, ⟨73, _⟩ => ⟨S8, .f32⟩
  | .hbm, ⟨74, _⟩ => ⟨S_, .f32⟩
  | .hbm, ⟨75, _⟩ => ⟨S8, .f32⟩
  | .hbm, ⟨76, _⟩ => ⟨S8, .f32⟩
  | .hbm, ⟨77, _⟩ => ⟨S16384, .i32⟩
  | .hbm, ⟨78, _⟩ => ⟨S16384, .f32⟩
  | .hbm, ⟨79, _⟩ => ⟨S16384x1, .f32⟩
  | .hbm, ⟨80, _⟩ => ⟨S1x8, .f32⟩
  | .hbm, ⟨81, _⟩ => ⟨S16384x8, .f32⟩
  | .hbm, ⟨82, _⟩ => ⟨S16384x8, .f32⟩
  | .hbm, ⟨83, _⟩ => ⟨S16384x8, .f32⟩
  | .hbm, ⟨84, _⟩ => ⟨S16384x8, .f32⟩
  | .hbm, ⟨85, _⟩ => ⟨S_, .f32⟩
  | .hbm, ⟨86, _⟩ => ⟨S16384x48, .f32⟩
  | .hbm, ⟨87, _⟩ => ⟨S_, .f32⟩
  | .hbm, ⟨88, _⟩ => ⟨S16384x48, .f32⟩
  | .hbm, ⟨89, _⟩ => ⟨S16384x48, .f32⟩
  | .hbm, ⟨90, _⟩ => ⟨S16384x128, .f32⟩
  | .hbm, ⟨91, _⟩ => ⟨S16384x8, .f32⟩
  | .hbm, ⟨92, _⟩ => ⟨S16384x128, .f32⟩
  | _, _ => ⟨S1x16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_2 : Ref sig .tc := ⟨.hbm, 22, rfl⟩
abbrev main_v18 : Ref sig .tc := ⟨.hbm, 23, rfl⟩
abbrev main_v19 : Ref sig .tc := ⟨.hbm, 24, rfl⟩
abbrev main_cst_3 : Ref sig .tc := ⟨.hbm, 25, rfl⟩
abbrev main_v20 : Ref sig .tc := ⟨.hbm, 26, rfl⟩
abbrev main_v21 : Ref sig .tc := ⟨.hbm, 27, rfl⟩
abbrev main_cst_4 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_5 : Ref sig .tc := ⟨.hbm, 39, rfl⟩
abbrev main_v32 : Ref sig .tc := ⟨.hbm, 40, rfl⟩
abbrev main_cst_6 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_7 : Ref sig .tc := ⟨.hbm, 49, rfl⟩
abbrev main_v40 : Ref sig .tc := ⟨.hbm, 50, rfl⟩
abbrev main_v41 : Ref sig .tc := ⟨.hbm, 51, rfl⟩
abbrev main_cst_8 : Ref sig .tc := ⟨.hbm, 52, rfl⟩
abbrev main_v42 : Ref sig .tc := ⟨.hbm, 53, rfl⟩
abbrev main_v43 : Ref sig .tc := ⟨.hbm, 54, rfl⟩
abbrev main_cst_9 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_cst_10 : Ref sig .tc := ⟨.hbm, 68, rfl⟩
abbrev main_v56 : Ref sig .tc := ⟨.hbm, 69, rfl⟩
abbrev main_v57 : Ref sig .tc := ⟨.hbm, 70, rfl⟩
abbrev main_cst_11 : Ref sig .tc := ⟨.hbm, 71, rfl⟩
abbrev main_v58 : Ref sig .tc := ⟨.hbm, 72, rfl⟩
abbrev main_v59 : Ref sig .tc := ⟨.hbm, 73, rfl⟩
abbrev main_cst_12 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_cst_13 : Ref sig .tc := ⟨.hbm, 85, rfl⟩
abbrev main_v70 : Ref sig .tc := ⟨.hbm, 86, rfl⟩
abbrev main_cst_14 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩

abbrev nD : Nat := 1
abbrev τ : Topo := Topo.v7x

variable {F : FTy → Type} [FloatOps F]
-- ==== Kernel7.lean ====
abbrev S16384x8192 : Shape := ⟨2, ![16384, 8192]⟩
abbrev S16384x128 : Shape := ⟨2, ![16384, 128]⟩
abbrev S8x16384x128 : Shape := ⟨3, ![8, 16384, 128]⟩
abbrev S2x16384x128 : Shape := ⟨3, ![2, 16384, 128]⟩
abbrev S4x16384x128 : Shape := ⟨3, ![4, 16384, 128]⟩
abbrev S512x512 : Shape := ⟨2, ![512, 512]⟩
abbrev S512x128 : Shape := ⟨2, ![512, 128]⟩
abbrev S512x256 : Shape := ⟨2, ![512, 256]⟩
abbrev S8x512x128 : Shape := ⟨3, ![8, 512, 128]⟩
abbrev S2x512x128 : Shape := ⟨3, ![2, 512, 128]⟩
abbrev S4x512x128 : Shape := ⟨3, ![4, 512, 128]⟩
abbrev S1x512x128 : Shape := ⟨3, ![1, 512, 128]⟩

abbrev nBuf : Space → Nat
  | .hbm => 9
  | .vmem => 26
  | .smem => 0
  | _ => 0

abbrev bufTy : (tb : Table) → Fin (tcTables nBuf tb) → BufTy
  | .hbm, ⟨0, _⟩ => ⟨S16384x8192, .bf16⟩
  | .hbm, ⟨1, _⟩ => ⟨S16384x128, .f32⟩
  | .hbm, ⟨2, _⟩ => ⟨S16384x128, .f32⟩
  | .hbm, ⟨3, _⟩ => ⟨S8x16384x128, .bf16⟩
  | .hbm, ⟨4, _⟩ => ⟨S16384x128, .bf16⟩
  | .hbm, ⟨5, _⟩ => ⟨S2x16384x128, .bf16⟩
  | .hbm, ⟨6, _⟩ => ⟨S4x16384x128, .bf16⟩
  | .hbm, ⟨7, _⟩ => ⟨S16384x128, .bf16⟩
  | .hbm, ⟨8, _⟩ => ⟨S16384x128, .f32⟩
  | .local _ .vmem, ⟨0, _⟩ => ⟨S512x512, .bf16⟩
  | .local _ .vmem, ⟨1, _⟩ => ⟨S512x512, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S512x256, .bf16⟩
  | .local _ .vmem, ⟨7, _⟩ => ⟨S512x256, .bf16⟩
  | .local _ .vmem, ⟨8, _⟩ => ⟨S512x128, .bf16⟩
  | .local _ .vmem, ⟨9, _⟩ => ⟨S512x128, .bf16⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S8x512x128, .bf16⟩
  | .local _ .vmem, ⟨15, _⟩ => ⟨S8x512x128, .bf16⟩
  | .local _ .vmem, ⟨16, _⟩ => ⟨S512x128, .bf16⟩
  | .local _ .vmem, ⟨17, _⟩ => ⟨S512x128, .bf16⟩
  | .local _ .vmem, ⟨18, _⟩ => ⟨S2x512x128, .bf16⟩
  | .local _ .vmem, ⟨19, _⟩ => ⟨S2x512x128, .bf16⟩
  | .local _ .vmem, ⟨20, _⟩ => ⟨S4x512x128, .bf16⟩
  | .local _ .vmem, ⟨21, _⟩ => ⟨S4x512x128, .bf16⟩
  | .local _ .vmem, ⟨22, _⟩ => ⟨S512x128, .bf16⟩
  | .local _ .vmem, ⟨23, _⟩ => ⟨S512x128, .bf16⟩
  | .local _ .vmem, ⟨24, _⟩ => ⟨S512x128, .f32⟩
  | .local _ .vmem, ⟨25, _⟩ => ⟨S512x128, .f32⟩
  | _, _ => ⟨S16384x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_1 (i : grid0.Coords) : Fin 2 → Nat :=
  let arg0 : BitVec 32 := BitVec.ofNat 32 (i 0).val
  let c58_i32 : BitVec 32 := 58#32
  let c0_i32 : BitVec 32 := 0#32
  ![arg0.toNat, c58_i32.toNat]

def cc0_transform_2 (i : grid0.Coords) : Fin 2 → Nat :=
  let arg0 : BitVec 32 := BitVec.ofNat 32 (i 0).val
  let c59_i32 : BitVec 32 := 59#32
  let c0_i32 : BitVec 32 := 0#32
  ![arg0.toNat, c59_i32.toNat]

def cc0_transform_3 (i : grid0.Coords) : Fin 2 → Nat :=
  let arg0 : BitVec 32 := BitVec.ofNat 32 (i 0).val
  let c28_i32 : BitVec 32 := 28#32
  let c0_i32 : BitVec 32 := 0#32
  ![arg0.toNat, c28_i32.toNat]

def cc0_transform_4 (i : grid0.Coords) : Fin 2 → Nat :=
  let arg0 : BitVec 32 := BitVec.ofNat 32 (i 0).val
  let c60_i32 : BitVec 32 := 60#32
  let c0_i32 : BitVec 32 := 0#32
  ![arg0.toNat, c60_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Kernel7Ideal.lean ====
variable {F : FTy → Type} [FloatOps F] [Named F]
def κ : String → Option EReal := fun
  | "qs" => some (((Real.log 256)⁻¹ : ℝ) : EReal)
  | _ => none
-- ==== Reference7Ideal.lean ====
abbrev S16384x8192 : Shape := ⟨2, ![16384, 8192]⟩
abbrev S16384x128 : Shape := ⟨2, ![16384, 128]⟩
abbrev S16384x3200 : Shape := ⟨2, ![16384, 3200]⟩
abbrev S16384x25x2x64 : Shape := ⟨4, ![16384, 25, 2, 64]⟩
abbrev S16384x1x2x64 : Shape := ⟨4, ![16384, 1, 2, 64]⟩
abbrev S16384x25x2x8 : Shape := ⟨4, ![16384, 25, 2, 8]⟩
abbrev S16384x1x2x8 : Shape := ⟨4, ![16384, 1, 2, 8]⟩
abbrev S16384x25x2x48 : Shape := ⟨4, ![16384, 25, 2, 48]⟩
abbrev S16384x50x64 : Shape := ⟨3, ![16384, 50, 64]⟩
abbrev S_ : Shape := ⟨0, ![]⟩
abbrev S16384x4x64 : Shape := ⟨3, ![16384, 4, 64]⟩
abbrev S16384x8x64 : Shape := ⟨3, ![16384, 8, 64]⟩
abbrev S16384x4x128 : Shape := ⟨3, ![16384, 4, 128]⟩
abbrev S16384x8x128 : Shape := ⟨3, ![16384, 8, 128]⟩
abbrev S16384x2x64 : Shape := ⟨3, ![16384, 2, 64]⟩
abbrev S16384x2x128 : Shape := ⟨3, ![16384, 2, 128]⟩
abbrev S16384x1x64 : Shape := ⟨3, ![16384, 1, 64]⟩
abbrev S16384x64 : Shape := ⟨2, ![16384, 64]⟩
abbrev S8x16384x128 : Shape := ⟨3, ![8, 16384, 128]⟩
abbrev S2x16384x128 : Shape := ⟨3, ![2, 16384, 128]⟩
abbrev S4x16384x128 : Shape := ⟨3, ![4, 16384, 128]⟩

abbrev nBuf : Space → Nat
  | .hbm => 76
  | .vmem => 0
  | .smem => 0
  | _ => 0

abbrev bufTy : (tb : Table) → Fin (tcTables nBuf tb) → BufTy
  | .hbm, ⟨0, _⟩ => ⟨S16384x8192, .bf16⟩
  | .hbm, ⟨1, _⟩ => ⟨S16384x128, .f32⟩
  | .hbm, ⟨2, _⟩ => ⟨S16384x128, .f32⟩
  | .hbm, ⟨3, _⟩ => ⟨S16384x3200, .bf16⟩
  | .hbm, ⟨4, _⟩ => ⟨S16384x3200, .f32⟩
  | .hbm, ⟨5, _⟩ => ⟨S16384x25x2x64, .f32⟩
  | .hbm, ⟨6, _⟩ => ⟨S16384x1x2x64, .f32⟩
  | .hbm, ⟨7, _⟩ => ⟨S16384x1x2x64, .f32⟩
  | .hbm, ⟨8, _⟩ => ⟨S16384x25x2x8, .f32⟩
  | .hbm, ⟨9, _⟩ => ⟨S16384x25x2x8, .f32⟩
  | .hbm, ⟨10, _⟩ => ⟨S16384x1x2x8, .f32⟩
  | .hbm, ⟨11, _⟩ => ⟨S16384x25x2x8, .f32⟩
  | .hbm, ⟨12, _⟩ => ⟨S16384x25x2x8, .f32⟩
  | .hbm, ⟨13, _⟩ => ⟨S16384x1x2x8, .f32⟩
  | .hbm, ⟨14, _⟩ => ⟨S16384x25x2x8, .f32⟩
  | .hbm, ⟨15, _⟩ => ⟨S16384x25x2x8, .f32⟩
  | .hbm, ⟨16, _⟩ => ⟨S16384x25x2x8, .f32⟩
  | .hbm, ⟨17, _⟩ => ⟨S16384x1x2x8, .f32⟩
  | .hbm, ⟨18, _⟩ => ⟨S16384x25x2x8, .f32⟩
  | .hbm, ⟨19, _⟩ => ⟨S16384x25x2x8, .f32⟩
  | .hbm, ⟨20, _⟩ => ⟨S16384x1x2x8, .f32⟩
  | .hbm, ⟨21, _⟩ => ⟨S16384x25x2x8, .f32⟩
  | .hbm, ⟨22, _⟩ => ⟨S16384x25x2x8, .f32⟩
  | .hbm, ⟨23, _⟩ => ⟨S16384x25x2x8, .f32⟩
  | .hbm, ⟨24, _⟩ => ⟨S16384x25x2x48, .f32⟩
  | .hbm, ⟨25, _⟩ => ⟨S16384x25x2x64, .f32⟩
  | .hbm, ⟨26, _⟩ => ⟨S16384x50x64, .f32⟩
  | .hbm, ⟨27, _⟩ => ⟨S16384x50x64, .f32⟩
  | .hbm, ⟨28, _⟩ => ⟨S_, .f32⟩
  | .hbm, ⟨29, _⟩ => ⟨S16384x4x64, .f32⟩
  | .hbm, ⟨30, _⟩ => ⟨S16384x8x64, .f32⟩
  | .hbm, ⟨31, _⟩ => ⟨S_, .f32⟩
  | .hbm, ⟨32, _⟩ => ⟨S16384x8x64, .f32⟩
  | .hbm, ⟨33, _⟩ => ⟨S16384x8x64, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S16384x8x64, .f32⟩
  | .hbm, ⟨38, _⟩ => ⟨S16384x8x64, .f32⟩
  | .hbm, ⟨39, _⟩ => ⟨S16384x4x64, .f32⟩
  | .hbm, ⟨40, _⟩ => ⟨S16384x4x128, .f32⟩
  | .hbm, ⟨41, _⟩ => ⟨S16384x4x64, .f32⟩
  | .hbm, ⟨42, _⟩ => ⟨S16384x4x128, .f32⟩
  | .hbm, ⟨43, _⟩ => ⟨S16384x8x128, .f32⟩
  | .hbm, ⟨44, _⟩ => ⟨S16384x2x64, .f32⟩
  | .hbm, ⟨45, _⟩ => ⟨S16384x128, .f32⟩
  | .hbm, ⟨46, _⟩ => ⟨S16384x2x64, .f32⟩
  | .hbm, ⟨47, _⟩ => ⟨S_, .f32⟩
  | .hbm, ⟨48, _⟩ => ⟨S16384x2x64, .f32⟩
  | .hbm, ⟨49, _⟩ => ⟨S16384x2x128, .f32⟩
  | .hbm, ⟨50, _⟩ => ⟨S16384x4x64, .f32⟩
  | .hbm, ⟨51, _⟩ => ⟨S16384x4x128, .f32⟩
  | .hbm, ⟨52, _⟩ => ⟨S16384x1x64, .f32⟩
  | .hbm, ⟨53, _⟩ => ⟨S16384x64, .f32⟩
  | .hbm, ⟨54, _⟩ => ⟨S16384x1x64, .f32⟩
  | .hbm, ⟨55, _⟩ => ⟨S16384x64, .f32⟩
  | .hbm, ⟨56, _⟩ => ⟨S16384x128, .f32⟩
  | .hbm, ⟨57, _⟩ => ⟨S16384x1x64, .f32⟩
  | .hbm, ⟨58, _⟩ => ⟨S16384x64, .f32⟩
  | .hbm, ⟨59, _⟩ => ⟨S16384x1x64, .f32⟩
  | .hbm, ⟨60, _⟩ => ⟨S16384x64, .f32⟩
  | .hbm, ⟨61, _⟩ => ⟨S16384x128, .f32⟩
  | .hbm, ⟨62, _⟩ => ⟨S_, .f32⟩
  | .hbm, ⟨63, _⟩ => ⟨S16384x128, .f32⟩
  | .hbm, ⟨64, _⟩ => ⟨S16384x128, .f32⟩
  | .hbm, ⟨65, _⟩ => ⟨S_, .f32⟩
  | .hbm, ⟨66, _⟩ => ⟨S16384x128, .f32⟩
  | .hbm, ⟨67, _⟩ => ⟨S16384x128, .f32⟩
  | .hbm, ⟨68, _⟩ => ⟨S8x16384x128, .f32⟩
  | .hbm, ⟨69, _⟩ => ⟨S8x16384x128, .bf16⟩
  | .hbm, ⟨70, _⟩ => ⟨S16384x128, .bf16⟩
  | .hbm, ⟨71, _⟩ => ⟨S2x16384x128, .f32⟩
  | .hbm, ⟨72, _⟩ => ⟨S2x16384x128, .bf16⟩
  | .hbm, ⟨73, _⟩ => ⟨S4x16384x128, .f32⟩
  | .hbm, ⟨74, _⟩ => ⟨S4x16384x128, .bf16⟩
  | .hbm, ⟨75, _⟩ => ⟨S16384x128, .bf16⟩
  | _, _ => ⟨S16384x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_cst : Ref sig .tc := ⟨.hbm, 28, rfl⟩
abbrev main_v25 : Ref sig .tc := ⟨.hbm, 29, rfl⟩
abbrev main_v26 : Ref sig .tc := ⟨.hbm, 30, rfl⟩
abbrev main_cst_0 : Ref sig .tc := ⟨.hbm, 31, rfl⟩
abbrev main_v27 : Ref sig .tc := ⟨.hbm, 32, rfl⟩
abbrev main_v28 : Ref sig .tc := ⟨.hbm, 33, rfl⟩
abbrev main_cst_1 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_cst_2 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_cst_3 : Ref sig .tc := ⟨.hbm, 62, rfl⟩
abbrev main_v55 : Ref sig .tc := ⟨.hbm, 63, rfl⟩
abbrev main_v56 : Ref sig .tc := ⟨.hbm, 64, rfl⟩
abbrev main_cst_4 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩

abbrev nD : Nat := 1
abbrev τ : Topo := Topo.v7x

variable {F : FTy → Type} [FloatOps F]
-- ==== Proof.Block.lean ====
module

public import proofs.«01_k».proof.Proof.Gen.KernelIdeal.Value
public import Idealize.ShloMosaic.Lib.Pipeline.ValueKit
public import Idealize.ShloMosaic.Lib.Pipeline.ReadBack
public import Idealize.ShloMosaic.Lib.Pointwise

@[expose] public section
set_option maxRecDepth 16384
noncomputable section
namespace Cert.Retention
open Idealize.ShloMosaic Idealize.ShloMosaic.TcCoe Cert.KernelIdeal Cert.KernelIdeal.Gen

/-- The lane that the rotation pairs with lane `l`: the other half of the same head's 64 lanes. -/
def swapLane (l : Fin 256) : Fin 256 := if l.val % 64 < 32 then ⟨(l.val + 32) % 256, by omega⟩ else ⟨l.val - 32, by omega⟩

/-- The kernel's test for the first half of a head, read on the lane number. -/
theorem half_test : ∀ l : Fin 256, (IntOp.cmpi .slt (IntOp.andi (BitVec.ofNat 32 l.val) 63#32) 32#32 = 1) ↔ l.val % 64 < 32 := by
  decide +kernel

/-- The rotated rows of a chunk. -/
def rotV (cs sn : Vec Ideal S128x256 .f32) (x : Vec Ideal S128x256 .bf16) : FVec Ideal S128x256 .f32 := k0_pay19 cs sn x

theorem rotV_apply (cs sn : Vec Ideal S128x256 .f32) (x : Vec Ideal S128x256 .bf16) (i : Fin 128) (l : Fin 256) :
    rotV cs sn x (ix2 i l) = x (ix2 i l) * cs (ix2 i l) + x (ix2 i (swapLane l)) * sn (ix2 i l) := by
  unfold rotV
  pointwise [k0_pay19]
  refine congrArg (x (ix2 i l) * cs (ix2 i l) + ·) (congrArg (· * sn (ix2 i l)) ?_)
  unfold swapLane
  by_cases hl : l.val % 64 < 32
  · rw [if_pos hl]
    exact (if_pos ((half_test l).2 hl)).trans (congrArg (fun q : Fin 256 => x (ix2 i q)) (Fin.ext (by dsimp only; omega)))
  · rw [if_neg hl]
    exact (if_neg fun e => hl ((half_test l).1 e)).trans (congrArg (fun q : Fin 256 => x (ix2 i q)) (Fin.ext (by dsimp only; omega)))

/-- Lane `d` of head `h` among the 256 query lanes, and lane `e` among the 512 value lanes. -/
def qLane (h : Fin 4) (d : Fin 64) : Fin 256 := ⟨64 * h.val + d.val, by omega⟩
def vLane (h : Fin 4) (e : Fin 128) : Fin 512 := ⟨128 * h.val + e.val, by omega⟩

/-- The decay of head `h`'s state over one chunk, and its logarithm for one position. -/
def gammaC (h : Fin 4) : EReal := match h with
  | 0 => Named.named (F := Ideal) κ "gC0" (φ := .f32) 0x3C8CC36A#32
  | 1 => Named.named (F := Ideal) κ "gC1" (φ := .f32) 0x3E08698E#32
  | 2 => Named.named (F := Ideal) κ "gC2" (φ := .f32) 0x3EBB9DB9#32
  | 3 => Named.named (F := Ideal) κ "gC3" (φ := .f32) 0x3F1B1EB1#32
def logG (h : Fin 4) : EReal := match h with
  | 0 => Named.named (F := Ideal) κ "lg0" (φ := .f32) 0xBD020AEC#32
  | 1 => Named.named (F := Ideal) κ "lg1" (φ := .f32) 0xBC8102B3#32
  | 2 => Named.named (F := Ideal) κ "lg2" (φ := .f32) 0xBC0080AC#32
  | 3 => Named.named (F := Ideal) κ "lg3" (φ := .f32) 0xBB80402B#32

/-! ## One chunk -/

/-- What a chunk adds to a head's state. -/
def kvE (K ke : Fin 128 → Fin 256 → EReal) (V : Fin 128 → Fin 512 → EReal) (h : Fin 4) (d : Fin 64) (e : Fin 128) : EReal :=
  ∑ j, K j (qLane h d) * ke j (qLane h d) * V j (vLane h e)

/-- A head's state after a chunk. -/
def stepE (K ke : Fin 128 → Fin 256 → EReal) (V : Fin 128 → Fin 512 → EReal) (S : Fin 4 → Fin 64 → Fin 128 → EReal)
    (h : Fin 4) (d : Fin 64) (e : Fin 128) : EReal :=
  gammaC h * S h d e + kvE K ke V h d e

/-- A head's rows before the normalisation: within the chunk, and from the state before it. -/
def mixE (Q K : Fin 128 → Fin 256 → EReal) (V : Fin 128 → Fin 512 → EReal) (D : Fin 4 → Fin 128 → Fin 128 → EReal)
    (qd : Fin 128 → Fin 256 → EReal) (S : Fin 4 → Fin 64 → Fin 128 → EReal) (h : Fin 4) (i e : Fin 128) : EReal :=
  (∑ j, (∑ d, Q i (qLane h d) * K j (qLane h d)) * D h i j * V j (vLane h e))
    + ∑ d, Q i (qLane h d) * qd i (qLane h d) * S h d e

/-- The normalised row, gated. -/
def gateE (o : Fin 128 → EReal) (g : EReal) (e : Fin 128) : EReal :=
  o e * Ideal.rsqrt (Ideal.div (∑ e', o e' * o e') (Ideal.ofBits .f32 0x43000000#32) + Ideal.ofBits .f32 0x358637BD#32)
    * (g * Ideal.div 1 (1 + Ideal.exp (0 - g)))

/-! ## One grid point: four chunks -/

/-- The row `i` of chunk `c` among a grid point's 512 rows. -/
def ptRow (c : Fin 4) (i : Fin 128) : Fin 512 := ⟨128 * c.val + i.val, by omega⟩

section point
variable (x0 x1 : Vec Ideal S512x256 .bf16) (x2 x3 : Vec Ideal S512x512 .bf16) (x4 x5 : Vec Ideal S512x256 .f32)
  (xs0 : Vec Ideal S4x64x128 .f32) (xs1 : Vec Ideal S4x128x128 .f32) (xs2 xs3 : Vec Ideal S128x256 .f32)

def ptRot (x : Vec Ideal S512x256 .bf16) (c : Fin 4) (i : Fin 128) (l : Fin 256) : EReal :=
  x (ix2 (ptRow c i) l) * x4 (ix2 (ptRow c i) l) + x (ix2 (ptRow c i) (swapLane l)) * x5 (ix2 (ptRow c i) l)
def ptQ (c : Fin 4) (i : Fin 128) (l : Fin 256) : EReal := ptRot x4 x5 x0 c i l * Ideal.ofBits .f32 0x3E000000#32
def ptV (c : Fin 4) (i : Fin 128) (w : Fin 512) : EReal := x2 (ix2 (ptRow c i) w)
/-- The state before chunk `c` of the point. -/
def ptS : ℕ → Fin 4 → Fin 64 → Fin 128 → EReal
  | 0 => fun h d e => xs0 (ix3 h d e)
  | c + 1 => stepE (ptRot x4 x5 x1 (Fin.ofNat 4 c)) (fun j l => xs3 (ix2 j l)) (ptV x2 (Fin.ofNat 4 c)) (ptS c)
/-- What the point leaves in its output block. -/
def ptOut (c h : Fin 4) (i e : Fin 128) : EReal :=
  gateE (mixE (ptQ x0 x4 x5 c) (ptRot x4 x5 x1 c) (ptV x2 c) (fun h i j => xs1 (ix3 h i j)) (fun i l => xs2 (ix2 i l))
    (ptS x1 x2 x4 x5 xs0 xs3 c.val) h i) (x3 (ix2 (ptRow c i) (vLane h e))) e
end point

theorem rot26 (cs sn : Vec Ideal S128x256 .f32) (x : Vec Ideal S128x256 .bf16) : k0_pay26 cs sn x = rotV cs sn x := rfl
theorem rot32 (cs sn : Vec Ideal S128x256 .f32) (x : Vec Ideal S128x256 .bf16) : k0_pay32 cs sn x = rotV cs sn x := rfl
theorem rot38 (cs sn : Vec Ideal S128x256 .f32) (x : Vec Ideal S128x256 .bf16) : k0_pay38 cs sn x = rotV cs sn x := rfl
theorem rot19 (cs sn : Vec Ideal S128x256 .f32) (x : Vec Ideal S128x256 .bf16) : k0_pay19 cs sn x = rotV cs sn x := rfl
/-- The queries are the rotated rows times one eighth. -/
theorem rot18 (cs sn : Vec Ideal S128x256 .f32) (x : Vec Ideal S128x256 .bf16) :
    k0_pay18 cs sn x = mulf (rotV cs sn x) (constant S128x256 .f32 0x3E000000#32) := rfl
theorem rot25 (cs sn : Vec Ideal S128x256 .f32) (x : Vec Ideal S128x256 .bf16) :
    k0_pay25 cs sn x = mulf (rotV cs sn x) (constant S128x256 .f32 0x3E000000#32) := rfl
theorem rot31 (cs sn : Vec Ideal S128x256 .f32) (x : Vec Ideal S128x256 .bf16) :
    k0_pay31 cs sn x = mulf (rotV cs sn x) (constant S128x256 .f32 0x3E000000#32) := rfl
theorem rot37 (cs sn : Vec Ideal S128x256 .f32) (x : Vec Ideal S128x256 .bf16) :
    k0_pay37 cs sn x = mulf (rotV cs sn x) (constant S128x256 .f32 0x3E000000#32) := rfl

/-- The rotation as it stands once its name is opened. -/
theorem rot_fold (cs sn : Vec Ideal S128x256 .f32) (x : Vec Ideal S128x256 .bf16) :
    addf (mulf (extf .f32 x bitsLt_bf16_f32) cs)
      (mulf (select (cmpi .slt (andi (iota .tc S128x256 32 [1] iota_S128x256_d1_w32) (broadcast S128x256 63#32)) (broadcast S128x256 32#32))
        (dynamicRotate 1 224#32 none (extf .f32 x bitsLt_bf16_f32) rotates_S128x256_d1)
        (dynamicRotate 1 32#32 none (extf .f32 x bitsLt_bf16_f32) rotates_S128x256_d1)) sn) = rotV cs sn x := rfl

/-! ## Rows and lanes at each chunk and head -/

theorem fin4_0 : (((0 : Fin 4) : ℕ)) = 0 := rfl
theorem fin4_1 : (((1 : Fin 4) : ℕ)) = 1 := rfl
theorem fin4_2 : (((2 : Fin 4) : ℕ)) = 2 := rfl
theorem fin4_3 : (((3 : Fin 4) : ℕ)) = 3 := rfl
theorem ptRow_0 (i : Fin 128) : ptRow 0 i = ⟨i.val, by omega⟩ := Fin.ext (Nat.zero_add _)
theorem ptRow_1 (i : Fin 128) : ptRow 1 i = ⟨128 + i.val, by omega⟩ := rfl
theorem ptRow_2 (i : Fin 128) : ptRow 2 i = ⟨256 + i.val, by omega⟩ := rfl
theorem ptRow_3 (i : Fin 128) : ptRow 3 i = ⟨384 + i.val, by omega⟩ := rfl
theorem qLane_0 (d : Fin 64) : qLane 0 d = ⟨d.val, by omega⟩ := Fin.ext (Nat.zero_add _)
theorem qLane_1 (d : Fin 64) : qLane 1 d = ⟨64 + d.val, by omega⟩ := rfl
theorem qLane_2 (d : Fin 64) : qLane 2 d = ⟨128 + d.val, by omega⟩ := rfl
theorem qLane_3 (d : Fin 64) : qLane 3 d = ⟨192 + d.val, by omega⟩ := rfl
theorem vLane_0 (e : Fin 128) : vLane 0 e = ⟨e.val, by omega⟩ := Fin.ext (Nat.zero_add _)
theorem vLane_1 (e : Fin 128) : vLane 1 e = ⟨128 + e.val, by omega⟩ := rfl
theorem vLane_2 (e : Fin 128) : vLane 2 e = ⟨256 + e.val, by omega⟩ := rfl
theorem vLane_3 (e : Fin 128) : vLane 3 e = ⟨384 + e.val, by omega⟩ := rfl
theorem gammaC_0 : gammaC 0 = Named.named (F := Ideal) κ "gC0" (φ := .f32) 0x3C8CC36A#32 := rfl
theorem gammaC_1 : gammaC 1 = Named.named (F := Ideal) κ "gC1" (φ := .f32) 0x3E08698E#32 := rfl
theorem gammaC_2 : gammaC 2 = Named.named (F := Ideal) κ "gC2" (φ := .f32) 0x3EBB9DB9#32 := rfl
theorem gammaC_3 : gammaC 3 = Named.named (F := Ideal) κ "gC3" (φ := .f32) 0x3F1B1EB1#32 := rfl
theorem ptS_0 (x1 : Vec Ideal S512x256 .bf16) (x2 : Vec Ideal S512x512 .bf16) (x4 x5 : Vec Ideal S512x256 .f32)
    (xs0 : Vec Ideal S4x64x128 .f32) (xs3 : Vec Ideal S128x256 .f32) :
    ptS x1 x2 x4 x5 xs0 xs3 0 = fun h d e => xs0 (ix3 h d e) := rfl
theorem ptS_1 (x1 : Vec Ideal S512x256 .bf16) (x2 : Vec Ideal S512x512 .bf16) (x4 x5 : Vec Ideal S512x256 .f32)
    (xs0 : Vec Ideal S4x64x128 .f32) (xs3 : Vec Ideal S128x256 .f32) :
    ptS x1 x2 x4 x5 xs0 xs3 1 = stepE (ptRot x4 x5 x1 0) (fun j l => xs3 (ix2 j l)) (ptV x2 0) (ptS x1 x2 x4 x5 xs0 xs3 0) := rfl
theorem ptS_2 (x1 : Vec Ideal S512x256 .bf16) (x2 : Vec Ideal S512x512 .bf16) (x4 x5 : Vec Ideal S512x256 .f32)
    (xs0 : Vec Ideal S4x64x128 .f32) (xs3 : Vec Ideal S128x256 .f32) :
    ptS x1 x2 x4 x5 xs0 xs3 2 = stepE (ptRot x4 x5 x1 1) (fun j l => xs3 (ix2 j l)) (ptV x2 1) (ptS x1 x2 x4 x5 xs0 xs3 1) := rfl
theorem ptS_3 (x1 : Vec Ideal S512x256 .bf16) (x2 : Vec Ideal S512x512 .bf16) (x4 x5 : Vec Ideal S512x256 .f32)
    (xs0 : Vec Ideal S4x64x128 .f32) (xs3 : Vec Ideal S128x256 .f32) :
    ptS x1 x2 x4 x5 xs0 xs3 3 = stepE (ptRot x4 x5 x1 2) (fun j l => xs3 (ix2 j l)) (ptV x2 2) (ptS x1 x2 x4 x5 xs0 xs3 2) := rfl
theorem ptS_4 (x1 : Vec Ideal S512x256 .bf16) (x2 : Vec Ideal S512x512 .bf16) (x4 x5 : Vec Ideal S512x256 .f32)
    (xs0 : Vec Ideal S4x64x128 .f32) (xs3 : Vec Ideal S128x256 .f32) :
    ptS x1 x2 x4 x5 xs0 xs3 4 = stepE (ptRot x4 x5 x1 3) (fun j l => xs3 (ix2 j l)) (ptV x2 3) (ptS x1 x2 x4 x5 xs0 xs3 3) := rfl

end Cert.Retention
end
-- ==== Proof.Consts.lean ====
module

public import proofs.«01_k».proof.Proof.Block

@[expose] public section
set_option maxRecDepth 16384
noncomputable section
namespace Cert.Retention
open Idealize.ShloMosaic Idealize.ShloMosaic.TcCoe Cert.KernelIdeal Cert.KernelIdeal.Gen

/-- The decay of head `h` over one position: 31/32, 63/64, 127/128, 255/256. -/
def decR (h : Fin 4) : ℝ := match h with
  | 0 => 31 / 32
  | 1 => 63 / 64
  | 2 => 127 / 128
  | 3 => 255 / 256
/-- Its logarithm. -/
def lgR (h : Fin 4) : ℝ := Real.log (decR h)

theorem decR_pos (h : Fin 4) : 0 < decR h := by
  fin_cases h <;> simp only [decR] <;> norm_num

theorem logG_eq (h : Fin 4) : logG h = (lgR h : EReal) := by
  fin_cases h <;> exact IdealRules.named_const.ideal_named_scalar _ _ _ _ rfl

theorem exp_lg (h : Fin 4) : Real.exp (128 * lgR h) = decR h ^ 128 := by
  rw [lgR, show (128 : ℝ) * Real.log (decR h) = ((128 : ℕ) : ℝ) * Real.log (decR h) by norm_num, Real.exp_nat_mul, Real.exp_log (decR_pos h)]

/-- The named decay over a chunk is the power that its name states. -/
theorem gammaC_eq (h : Fin 4) : gammaC h = (Real.exp (128 * lgR h) : EReal) := by
  rw [exp_lg]
  fin_cases h <;>
    refine (IdealRules.named_const.ideal_named_scalar _ _ _ _ rfl).trans (congrArg Real.toEReal ?_) <;>
    simp only [decR] <;> norm_num

/-- The weight of position `j` in the row of position `i`, of the state before the chunk in row `i`, and of
position `j` in the state after the chunk. -/
def decT (h : Fin 4) (i j : Fin 128) : ℝ := if j ≤ i then Real.exp (lgR h * ((i.val : ℝ) - j.val)) else 0
def qdT (h : Fin 4) (i : Fin 128) : ℝ := Real.exp (((i.val : ℝ) + 1) * lgR h)
def keT (h : Fin 4) (i : Fin 128) : ℝ := Real.exp ((127 - (i.val : ℝ)) * lgR h)

/-- Positions and their differences as the integers the kernel casts. -/
theorem cast_pos (a : Fin 128) : FloatOps.sitofp (F := Ideal) .f32 (BitVec.ofNat 32 a.val) = ((a.val : ℝ) : EReal) := by
  show (((BitVec.ofNat 32 a.val).toInt : ℝ) : EReal) = _
  have h : (BitVec.ofNat 32 a.val).toInt = (a.val : ℤ) := by
    rw [BitVec.toInt_eq_toNat_bmod, BitVec.toNat_ofNat, Int.bmod_def]; omega
  rw [h]; norm_cast
theorem cast_diff (a b : Fin 128) : FloatOps.sitofp (F := Ideal) .f32 (IntOp.subi (BitVec.ofNat 32 a.val) (BitVec.ofNat 32 b.val))
    = (((a.val : ℝ) - b.val : ℝ) : EReal) := by
  show (((BitVec.ofNat 32 a.val - BitVec.ofNat 32 b.val).toInt : ℝ) : EReal) = _
  have h : (BitVec.ofNat 32 a.val - BitVec.ofNat 32 b.val).toInt = (a.val : ℤ) - b.val := by
    rw [BitVec.toInt_sub, BitVec.toInt_eq_toNat_bmod, BitVec.toInt_eq_toNat_bmod, BitVec.toNat_ofNat, BitVec.toNat_ofNat, Int.bmod_def, Int.bmod_def, Int.bmod_def]; omega
  rw [h]; push_cast; rfl
theorem ofBits_127 : Ideal.ofBits .f32 0x42FE0000#32 = ((127 : ℝ) : EReal) := by
  simp [Ideal.ofBits, Ideal.ieee, -EReal.coe_mul]; norm_num

theorem dec_entry (h : Fin 4) (a b : Fin 128) :
    (if 0 ≤ FloatOps.sitofp (F := Ideal) .f32 (IntOp.subi (BitVec.ofNat 32 a.val) (BitVec.ofNat 32 b.val)) then
      Ideal.exp (logG h * max (FloatOps.sitofp (F := Ideal) .f32 (IntOp.subi (BitVec.ofNat 32 a.val) (BitVec.ofNat 32 b.val))) 0) else 0)
    = (decT h a b : EReal) := by
  rw [cast_diff, logG_eq]
  have e : (0 : EReal) ≤ (((a.val : ℝ) - b.val : ℝ) : EReal) ↔ b ≤ a := by
    rw [EReal.coe_nonneg, sub_nonneg, Nat.cast_le]; rfl
  unfold decT
  by_cases hb : b ≤ a
  · rw [if_pos (e.2 hb), if_pos hb, max_eq_left (e.2 hb), ← EReal.coe_mul, Ideal.exp_coe]
  · rw [if_neg (mt e.1 hb), if_neg hb, EReal.coe_zero]
theorem qd_entry (h : Fin 4) (a : Fin 128) :
    Ideal.exp ((FloatOps.sitofp (F := Ideal) .f32 (BitVec.ofNat 32 a.val) + 1) * logG h) = (qdT h a : EReal) := by
  rw [cast_pos, logG_eq, ← EReal.coe_one, ← EReal.coe_add, ← EReal.coe_mul, Ideal.exp_coe]; rfl
theorem ke_entry (h : Fin 4) (a : Fin 128) :
    Ideal.exp ((Ideal.ofBits .f32 0x42FE0000#32 - FloatOps.sitofp (F := Ideal) .f32 (BitVec.ofNat 32 a.val)) * logG h) = (keT h a : EReal) := by
  rw [cast_pos, logG_eq, ofBits_127, ← EReal.coe_sub, ← EReal.coe_mul, Ideal.exp_coe]; rfl

end Cert.Retention
end
-- ==== Proof.First.lean ====
module

public import proofs.«01_k».proof.Proof.Consts

@[expose] public section
set_option maxRecDepth 16384
noncomputable section
namespace Cert.Retention
open Idealize.ShloMosaic Idealize.ShloMosaic.TcCoe Cert.KernelIdeal Cert.KernelIdeal.Gen

variable (c : Dev nD) (i : grid0.Coords) (arg1 : Memref sig .tc .vmem S512x256 .bf16) (harg1 : arg1.IsWhole) (arg2 : Memref sig .tc .vmem S512x256 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x256 .f32) (harg5 : arg5.IsWhole) (arg6 : Memref sig .tc .vmem S512x256 .f32) (harg6 : arg6.IsWhole) (arg7 : Memref sig .tc .vmem S512x512 .bf16) (harg7 : arg7.IsWhole) (arg8 : Memref sig .tc .vmem S4x64x128 .f32) (harg8 : arg8.IsWhole) (arg9 : Memref sig .tc .vmem S4x128x128 .f32) (harg9 : arg9.IsWhole) (arg10 : Memref sig .tc .vmem S128x256 .f32) (harg10 : arg10.IsWhole) (arg11 : Memref sig .tc .vmem S128x256 .f32) (harg11 : arg11.IsWhole)
    (x0 : Vec Ideal S512x256 .bf16) (x1 : Vec Ideal S512x256 .bf16) (x2 : Vec Ideal S512x512 .bf16) (x3 : Vec Ideal S512x512 .bf16) (x4 : Vec Ideal S512x256 .f32) (x5 : Vec Ideal S512x256 .f32)

/-- The cleared state, as the one store that writes it. -/
def zeroC : Vec Ideal S4x64x128 .f32 :=
  View.canon (Val := Elt Ideal) [⟨Rect.unit ![0, 0, 0] ![4, 64, 128] inb_S4x64x128_S4x64x128_0_0_0, k0_pay1 (F := Ideal)⟩]

theorem zeroC_apply (h : Fin 4) (d : Fin 64) (e : Fin 128) : zeroC (ix3 h d e) = 0 := by
  have : zeroC = k0_pay1 (F := Ideal) := View.canon_unit_zero (by decide) _ _
  rw [this]
  pointwise [k0_pay1]

/-- Pieces stored before ones that cover everything are not seen. -/
theorem canon_append_cover {s : Shape} {t : EltTy} (M : List (View.Piece (Elt Ideal) s t)) (y : s.Idx) :
    ∀ L : List (View.Piece (Elt Ideal) s t), (∃ p ∈ L, y ∈ p.1.set) → View.canon (L ++ M) y = View.canon L y
  | [], h => by simp at h
  | p :: L, h => by
    by_cases hy : y ∈ p.1.set
    · obtain ⟨r, w⟩ := p
      obtain ⟨x, rfl⟩ : ∃ x, r.emb x = y := r.exists_idx_of_mem hy
      rw [List.cons_append, View.canon_cons_emb, View.canon_cons_emb]
    · rw [List.cons_append, View.canon_cons_of_not_mem p _ hy, View.canon_cons_of_not_mem p _ hy]
      refine canon_append_cover M y L ?_
      obtain ⟨q, hq, hy'⟩ := h
      rcases List.mem_cons.1 hq with rfl | hq
      · exact absurd hy' hy
      · exact ⟨q, hq, hy'⟩

/-- A point that fills the tables writes the block that one that finds them there would. -/
theorem out_A (hc0 : cond0_0 i) (i' : grid0.Coords) (hc' : ¬cond0_0 i') :
   out0_A_6 c i arg1 harg1 arg2 harg2 arg3 harg3 arg4 harg4 arg5 harg5 arg6 harg6 arg7 harg7 arg8 harg8 arg9 harg9 arg10 harg10 arg11 harg11 hc0 x0 x1 x2 x3 x4 x5 = out0_B_6 c i' arg1 harg1 arg2 harg2 arg3 harg3 arg4 harg4 arg5 harg5 arg6 harg6 arg7 harg7 arg8 harg8 arg9 harg9 arg10 harg10 arg11 harg11 hc' x0 x1 x2 x3 x4 x5 zeroC (sout0_A_1 c i arg1 harg1 arg2 harg2 arg3 harg3 arg4 harg4 arg5 harg5 arg6 harg6 arg7 harg7 arg8 harg8 arg9 harg9 arg10 harg10 arg11 harg11 hc0 x0 x1 x2 x3 x4 x5) (sout0_A_2 c i arg1 harg1 arg2 harg2 arg3 harg3 arg4 harg4 arg5 harg5 arg6 harg6 arg7 harg7 arg8 harg8 arg9 harg9 arg10 harg10 arg11 harg11 hc0 x0 x1 x2 x3 x4 x5) (sout0_A_3 c i arg1 harg1 arg2 harg2 arg3 harg3 arg4 harg4 arg5 harg5 arg6 harg6 arg7 harg7 arg8 harg8 arg9 harg9 arg10 harg10 arg11 harg11 hc0 x0 x1 x2 x3 x4 x5) := by
  unfold out0_A_6 out0_B_6 sout0_A_1 sout0_A_2 sout0_A_3
  frame_open
  simp only [View.read_writes_junk_eq_canon, View.readCov_eq_canon', View.readAt_eq_ld, Memref.IsWhole.read_unread]

/-- It leaves the state likewise. -/
theorem state_A (hc0 : cond0_0 i) (i' : grid0.Coords) (hc' : ¬cond0_0 i') :
   sout0_A_0 c i arg1 harg1 arg2 harg2 arg3 harg3 arg4 harg4 arg5 harg5 arg6 harg6 arg7 harg7 arg8 harg8 arg9 harg9 arg10 harg10 arg11 harg11 hc0 x0 x1 x2 x3 x4 x5 = sout0_B_0 c i' arg1 harg1 arg2 harg2 arg3 harg3 arg4 harg4 arg5 harg5 arg6 harg6 arg7 harg7 arg8 harg8 arg9 harg9 arg10 harg10 arg11 harg11 hc' x0 x1 x2 x3 x4 x5 zeroC (sout0_A_1 c i arg1 harg1 arg2 harg2 arg3 harg3 arg4 harg4 arg5 harg5 arg6 harg6 arg7 harg7 arg8 harg8 arg9 harg9 arg10 harg10 arg11 harg11 hc0 x0 x1 x2 x3 x4 x5) (sout0_A_2 c i arg1 harg1 arg2 harg2 arg3 harg3 arg4 harg4 arg5 harg5 arg6 harg6 arg7 harg7 arg8 harg8 arg9 harg9 arg10 harg10 arg11 harg11 hc0 x0 x1 x2 x3 x4 x5) (sout0_A_3 c i arg1 harg1 arg2 harg2 arg3 harg3 arg4 harg4 arg5 harg5 arg6 harg6 arg7 harg7 arg8 harg8 arg9 harg9 arg10 harg10 arg11 harg11 hc0 x0 x1 x2 x3 x4 x5) := by
  funext y
  have hcov := scover0_B_0 c i' arg1 harg1 arg2 harg2 arg3 harg3 arg4 harg4 arg5 harg5 arg6 harg6 arg7 harg7 arg8 harg8 arg9 harg9 arg10 harg10 arg11 harg11 hc' x0 x1 x2 x3 x4 x5 zeroC (sout0_A_1 c i arg1 harg1 arg2 harg2 arg3 harg3 arg4 harg4 arg5 harg5 arg6 harg6 arg7 harg7 arg8 harg8 arg9 harg9 arg10 harg10 arg11 harg11 hc0 x0 x1 x2 x3 x4 x5) (sout0_A_2 c i arg1 harg1 arg2 harg2 arg3 harg3 arg4 harg4 arg5 harg5 arg6 harg6 arg7 harg7 arg8 harg8 arg9 harg9 arg10 harg10 arg11 harg11 hc0 x0 x1 x2 x3 x4 x5) (sout0_A_3 c i arg1 harg1 arg2 harg2 arg3 harg3 arg4 harg4 arg5 harg5 arg6 harg6 arg7 harg7 arg8 harg8 arg9 harg9 arg10 harg10 arg11 harg11 hc0 x0 x1 x2 x3 x4 x5) y
  revert hcov
  unfold sout0_A_0 sout0_B_0 sout0_A_1 sout0_A_2 sout0_A_3
  frame_open
  simp only [View.read_writes_junk_eq_canon, View.readCov_eq_canon', View.readAt_eq_ld, Memref.IsWhole.read_unread]
  exact fun hcov => canon_append_cover _ y _ hcov

/-! ## The tables -/

/-- The weights within a chunk. -/
theorem decay_tab (hc0 : cond0_0 i) (h : Fin 4) (r j : Fin 128) : sout0_A_1 c i arg1 harg1 arg2 harg2 arg3 harg3 arg4 harg4 arg5 harg5 arg6 harg6 arg7 harg7 arg8 harg8 arg9 harg9 arg10 harg10 arg11 harg11 hc0 x0 x1 x2 x3 x4 x5 (ix3 h r j) = (decT h r j : EReal) := by
  unfold sout0_A_1
  frame_out
  canon_tiles x hx
  all_goals
    obtain ⟨z, a, b, rfl⟩ : ∃ (z : Fin 1) (a b : Fin 128), x = ix3 z a b := ⟨x 0, x 1, x 2, eq_ix3 x⟩
    obtain rfl : r = a := Fin.ext hx1
    obtain rfl : j = b := Fin.ext hx2
    change h.val = _ at hx0
    change z.val < 1 at x0_lt
    simp only [show ((ix3 z r j) 0).val = z.val from rfl] at hx0
    first
      | (have hh : h = 0 := Fin.ext (by show h.val = 0; omega); subst hh)
      | (have hh : h = 1 := Fin.ext (by show h.val = 1; omega); subst hh)
      | (have hh : h = 2 := Fin.ext (by show h.val = 2; omega); subst hh)
      | (have hh : h = 3 := Fin.ext (by show h.val = 3; omega); subst hh)
    pointwise [k0_pay2, k0_pay4, k0_pay7, k0_pay10, k0_pay11, k0_pay14]
    first | exact dec_entry 0 r j | exact dec_entry 1 r j | exact dec_entry 2 r j | exact dec_entry 3 r j

/-- The weights of the state before a chunk. -/
theorem qdec_tab (hc0 : cond0_0 i) (h : Fin 4) (r : Fin 128) (d : Fin 64) : sout0_A_2 c i arg1 harg1 arg2 harg2 arg3 harg3 arg4 harg4 arg5 harg5 arg6 harg6 arg7 harg7 arg8 harg8 arg9 harg9 arg10 harg10 arg11 harg11 hc0 x0 x1 x2 x3 x4 x5 (ix2 r (qLane h d)) = (qdT h r : EReal) := by
  unfold sout0_A_2
  frame_out
  canon_tiles x hx
  all_goals
    obtain ⟨a, b, rfl⟩ : ∃ (a : Fin 128) (b : Fin 64), x = ix2 a b := ⟨x 0, x 1, eq_ix2 x⟩
    change r.val = a.val at hx0
    change 64 * h.val + d.val = _ at hx1
    change b.val < 64 at x1_lt
    simp only [show ((ix2 a b) 1).val = b.val from rfl] at hx1
    obtain rfl : r = a := Fin.ext hx0
    first
      | (have hh : h = 0 := Fin.ext (by show h.val = 0; omega); subst hh)
      | (have hh : h = 1 := Fin.ext (by show h.val = 1; omega); subst hh)
      | (have hh : h = 2 := Fin.ext (by show h.val = 2; omega); subst hh)
      | (have hh : h = 3 := Fin.ext (by show h.val = 3; omega); subst hh)
    pointwise [k0_pay3, k0_pay5, k0_pay8, k0_pay12, k0_pay15, k0_pay16]
    first | exact qd_entry 0 r | exact qd_entry 1 r | exact qd_entry 2 r | exact qd_entry 3 r

/-- The weights of a chunk's positions in the state after it. -/
theorem kend_tab (hc0 : cond0_0 i) (h : Fin 4) (r : Fin 128) (d : Fin 64) : sout0_A_3 c i arg1 harg1 arg2 harg2 arg3 harg3 arg4 harg4 arg5 harg5 arg6 harg6 arg7 harg7 arg8 harg8 arg9 harg9 arg10 harg10 arg11 harg11 hc0 x0 x1 x2 x3 x4 x5 (ix2 r (qLane h d)) = (keT h r : EReal) := by
  unfold sout0_A_3
  frame_out
  canon_tiles x hx
  all_goals
    obtain ⟨a, b, rfl⟩ : ∃ (a : Fin 128) (b : Fin 64), x = ix2 a b := ⟨x 0, x 1, eq_ix2 x⟩
    change r.val = a.val at hx0
    change 64 * h.val + d.val = _ at hx1
    change b.val < 64 at x1_lt
    simp only [show ((ix2 a b) 1).val = b.val from rfl] at hx1
    obtain rfl : r = a := Fin.ext hx0
    first
      | (have hh : h = 0 := Fin.ext (by show h.val = 0; omega); subst hh)
      | (have hh : h = 1 := Fin.ext (by show h.val = 1; omega); subst hh)
      | (have hh : h = 2 := Fin.ext (by show h.val = 2; omega); subst hh)
      | (have hh : h = 3 := Fin.ext (by show h.val = 3; omega); subst hh)
    pointwise [k0_pay3, k0_pay6, k0_pay9, k0_pay13, k0_pay17]
    first | exact ke_entry 0 r | exact ke_entry 1 r | exact ke_entry 2 r | exact ke_entry 3 r

end Cert.Retention
end
-- ==== Proof.Point.lean ====
module

public import proofs.«01_k».proof.Proof.Block

@[expose] public section
set_option maxRecDepth 16384
noncomputable section
namespace Cert.Retention
open Idealize.ShloMosaic Idealize.ShloMosaic.TcCoe Cert.KernelIdeal Cert.KernelIdeal.Gen

variable (c : Dev nD) (i : grid0.Coords) (arg1 : Memref sig .tc .vmem S512x256 .bf16) (harg1 : arg1.IsWhole) (arg2 : Memref sig .tc .vmem S512x256 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x256 .f32) (harg5 : arg5.IsWhole) (arg6 : Memref sig .tc .vmem S512x256 .f32) (harg6 : arg6.IsWhole) (arg7 : Memref sig .tc .vmem S512x512 .bf16) (harg7 : arg7.IsWhole) (arg8 : Memref sig .tc .vmem S4x64x128 .f32) (harg8 : arg8.IsWhole) (arg9 : Memref sig .tc .vmem S4x128x128 .f32) (harg9 : arg9.IsWhole) (arg10 : Memref sig .tc .vmem S128x256 .f32) (harg10 : arg10.IsWhole) (arg11 : Memref sig .tc .vmem S128x256 .f32) (harg11 : arg11.IsWhole)
    (x0 : Vec Ideal S512x256 .bf16) (x1 : Vec Ideal S512x256 .bf16) (x2 : Vec Ideal S512x512 .bf16) (x3 : Vec Ideal S512x512 .bf16) (x4 : Vec Ideal S512x256 .f32) (x5 : Vec Ideal S512x256 .f32) (xs0 : Vec Ideal S4x64x128 .f32) (xs1 : Vec Ideal S4x128x128 .f32) (xs2 : Vec Ideal S128x256 .f32) (xs3 : Vec Ideal S128x256 .f32)

set_option maxHeartbeats 2000000
/-- After a point that keeps the tables, the state is the four chunks' steps from the one before. -/
theorem state_B (hc0 : ¬cond0_0 i) (h : Fin 4) (d : Fin 64) (e : Fin 128) :
   sout0_B_0 c i arg1 harg1 arg2 harg2 arg3 harg3 arg4 harg4 arg5 harg5 arg6 harg6 arg7 harg7 arg8 harg8 arg9 harg9 arg10 harg10 arg11 harg11 hc0 x0 x1 x2 x3 x4 x5 xs0 xs1 xs2 xs3 (ix3 h d e)
     = ptS x1 x2 x4 x5 xs0 xs3 4 h d e := by
  unfold sout0_B_0
  frame_open
  simp (disch := decide) only [↓ View.readCov_skip, ↓ View.readCov_cons_toLoadRect, ↓ View.readCov_fill]
  frame_out
  canon_tiles x hx
  all_goals
    obtain ⟨z, a, b, rfl⟩ : ∃ (z : Fin 1) (a : Fin 64) (b : Fin 128), x = ix3 z a b := ⟨x 0, x 1, x 2, eq_ix3 x⟩
    obtain rfl : d = a := Fin.ext hx1
    obtain rfl : e = b := Fin.ext hx2
    change h.val = _ at hx0
    change z.val < 1 at x0_lt
    simp only [show ((ix3 z d e) 0).val = z.val from rfl] at hx0
    first
      | (have hh : h = 0 := Fin.ext (by show h.val = 0; omega); subst hh)
      | (have hh : h = 1 := Fin.ext (by show h.val = 1; omega); subst hh)
      | (have hh : h = 2 := Fin.ext (by show h.val = 2; omega); subst hh)
      | (have hh : h = 3 := Fin.ext (by show h.val = 3; omega); subst hh)
    simp only [rot19]
    repeat erw [rot_fold]
    pointwise [k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay100, k0_pay103, k0_pay106, k0_pay109, k0_pay112, k0_pay115, k0_pay118, k0_pay120, k0_pay124, k0_pay127, k0_pay132, k0_pay135, k0_pay139, k0_pay145, k0_pay148, k0_pay150, k0_pay156, k0_pay157, k0_pay158, k0_pay159]
    simp only [rotV_apply]
    pointwise
    simp only [ptS_0, ptS_1, ptS_2, ptS_3, ptS_4, stepE, kvE, ptRot, ptV, ptRow_0, ptRow_1, ptRow_2, ptRow_3, qLane_0, qLane_1, qLane_2, qLane_3, vLane_0, vLane_1, vLane_2, vLane_3, gammaC_0, gammaC_1, gammaC_2, gammaC_3]

/-- At a point that keeps the tables, the block written. -/
theorem out_B (hc0 : ¬cond0_0 i) (ch h : Fin 4) (r e : Fin 128) :
   out0_B_6 c i arg1 harg1 arg2 harg2 arg3 harg3 arg4 harg4 arg5 harg5 arg6 harg6 arg7 harg7 arg8 harg8 arg9 harg9 arg10 harg10 arg11 harg11 hc0 x0 x1 x2 x3 x4 x5 xs0 xs1 xs2 xs3 (ix2 (ptRow ch r) (vLane h e))
     = ptOut x0 x1 x2 x3 x4 x5 xs0 xs1 xs2 xs3 ch h r e := by
  unfold out0_B_6
  frame_open
  simp (disch := decide) only [↓ View.readCov_skip, ↓ View.readCov_cons_toLoadRect, ↓ View.readCov_fill]
  frame_out
  canon_tiles x hx
  all_goals
    obtain ⟨a, b, rfl⟩ : ∃ a b : Fin 128, x = ix2 a b := ⟨x 0, x 1, eq_ix2 x⟩
    change 128 * ch.val + r.val = _ at hx0
    change 128 * h.val + e.val = _ at hx1
    simp only [show ((ix2 a b) 0).val = a.val from rfl] at hx0
    simp only [show ((ix2 a b) 1).val = b.val from rfl] at hx1
    first
      | (have hh : ch = 0 := Fin.ext (by show ch.val = 0; omega); subst hh)
      | (have hh : ch = 1 := Fin.ext (by show ch.val = 1; omega); subst hh)
      | (have hh : ch = 2 := Fin.ext (by show ch.val = 2; omega); subst hh)
      | (have hh : ch = 3 := Fin.ext (by show ch.val = 3; omega); subst hh)
    first
      | (have hh : h = 0 := Fin.ext (by show h.val = 0; omega); subst hh)
      | (have hh : h = 1 := Fin.ext (by show h.val = 1; omega); subst hh)
      | (have hh : h = 2 := Fin.ext (by show h.val = 2; omega); subst hh)
      | (have hh : h = 3 := Fin.ext (by show h.val = 3; omega); subst hh)
    obtain rfl : r = a := Fin.ext (by omega)
    obtain rfl : e = b := Fin.ext (by omega)
    simp only [rot19, rot18, k0_pay20, k0_pay21, k0_pay22]
    repeat erw [rot_fold]
    pointwise [k0_pay20, k0_pay21, k0_pay22, k0_pay23, k0_pay24, k0_pay27, k0_pay28, k0_pay29, k0_pay30, k0_pay33, k0_pay34, k0_pay35, k0_pay36, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155]
    simp only [rotV_apply]
    pointwise
    simp only [fin4_0, fin4_1, fin4_2, fin4_3, ptOut, gateE, mixE, ptQ, ptS_0, ptS_1, ptS_2, ptS_3, stepE, kvE, ptRot, ptV, ptRow_0, ptRow_1, ptRow_2, ptRow_3, qLane_0, qLane_1, qLane_2, qLane_3, vLane_0, vLane_1, vLane_2, vLane_3, gammaC_0, gammaC_1, gammaC_2, gammaC_3]

end Cert.Retention
end
-- ==== Proof.Seq.lean ====
module

public import proofs.«01_k».proof.Proof.First
public import proofs.«01_k».proof.Proof.Point

@[expose] public section
set_option maxRecDepth 16384
noncomputable section
namespace Cert.Retention
open Idealize.ShloMosaic Idealize.ShloMosaic.TcCoe Cert.KernelIdeal Cert.KernelIdeal.Gen

/-! ## The whole sequence: 128 chunks of 128 rows -/

/-- Row `i` of chunk `n` of the sequence. -/
def gRow (n : ℕ) (i : Fin 128) : Fin 16384 := Fin.ofNat 16384 (128 * n + i.val)
/-- The columns of the projections that hold the queries, keys, values and gates. -/
def qCol (l : Fin 256) : Fin 8192 := ⟨3072 + l.val, by omega⟩
def kCol (l : Fin 256) : Fin 8192 := ⟨3328 + l.val, by omega⟩
def vCol (w : Fin 512) : Fin 8192 := ⟨3584 + w.val, by omega⟩
def gCol (w : Fin 512) : Fin 8192 := ⟨4096 + w.val, by omega⟩

section
variable (p : (⟨2, ![16384, 8192]⟩ : Shape).Idx → EReal) (co si : (⟨2, ![16384, 256]⟩ : Shape).Idx → EReal)

def sRot (col : Fin 256 → Fin 8192) (n : ℕ) (i : Fin 128) (l : Fin 256) : EReal :=
  p (ix2 (gRow n i) (col l)) * co (ix2 (gRow n i) l) + p (ix2 (gRow n i) (col (swapLane l))) * si (ix2 (gRow n i) l)
def sQ (n : ℕ) (i : Fin 128) (l : Fin 256) : EReal := sRot p co si qCol n i l * Ideal.ofBits .f32 0x3E000000#32
def sV (n : ℕ) (i : Fin 128) (w : Fin 512) : EReal := p (ix2 (gRow n i) (vCol w))
def sQd (i : Fin 128) (l : Fin 256) : EReal := (qdT ⟨l.val / 64, by omega⟩ i : EReal)
def sKe (i : Fin 128) (l : Fin 256) : EReal := (keT ⟨l.val / 64, by omega⟩ i : EReal)
/-- The state before chunk `n`. -/
def sS : ℕ → Fin 4 → Fin 64 → Fin 128 → EReal
  | 0 => fun _ _ _ => 0
  | n + 1 => stepE (sRot p co si kCol n) sKe (sV p n) (sS n)
/-- What the retention gives for row `i` of chunk `n`, head `h`, lane `e`. -/
def sOut (n : ℕ) (h : Fin 4) (i e : Fin 128) : EReal :=
  gateE (mixE (sQ p co si n) (sRot p co si kCol n) (sV p n) (fun h i j => (decT h i j : EReal)) sQd (sS p co si n) h i)
    (p (ix2 (gRow n i) (gCol (vLane h e)))) e
end

/-! ## The grid points -/

variable (m : (ℓ : Loc nD τ sig) → Buf (Elt Ideal) ℓ) (c : Dev nD)

/-- The arrays that the kernel is launched on: the projections and the two rotation tables. -/
def mP : (⟨2, ![16384, 8192]⟩ : Shape).Idx → EReal := m ((c : Thread nD τ).loc main_arg0)
def mC : (⟨2, ![16384, 256]⟩ : Shape).Idx → EReal := m ((c : Thread nD τ).loc main_arg1)
def mS : (⟨2, ![16384, 256]⟩ : Shape).Idx → EReal := m ((c : Thread nD τ).loc main_arg2)

theorem win_at : ∀ t : Fin cfg0.N, win0_0.index t 0 = t.val ∧ win0_0.index t 1 = 12 ∧ win0_1.index t 0 = t.val ∧ win0_1.index t 1 = 13
    ∧ win0_2.index t 0 = t.val ∧ win0_2.index t 1 = 7 ∧ win0_3.index t 0 = t.val ∧ win0_3.index t 1 = 8
    ∧ win0_4.index t 0 = t.val ∧ win0_4.index t 1 = 0 ∧ win0_5.index t 0 = t.val ∧ win0_5.index t 1 = 0 := by
  decide +kernel

theorem N32 : cfg0.N = 32 := N_0

theorem row_at (t : Fin cfg0.N) (ch : Fin 4) (i : Fin 128) :
    t.val * 512 + (ptRow ch i).val = (gRow (4 * t.val + ch.val) i).val := by
  have ht := lt_of_lt_of_eq t.isLt N32
  show t.val * 512 + (128 * ch.val + i.val) = (128 * (4 * t.val + ch.val) + i.val) % 16384
  omega

theorem blk0 (t : Fin cfg0.N) (ch : Fin 4) (i : Fin 128) (l : Fin 256) :
    iblk m c 0 t (ix2 (ptRow ch i) l) = mP m c (ix2 (gRow (4 * t.val + ch.val) i) (qCol l)) := by
  have hw := win_at t
  unfold mP
  blk_simp [iblk]
  rw [V_main_arg0]
  refine congrArg _ (funext fun a => Fin.ext ?_)
  fin_cases a
  · blk_simp [hw]
    exact row_at t ch i
  · blk_simp [hw]
    first | rfl | (change 12 * 256 + l.val = 3072 + l.val; omega)

theorem blk1 (t : Fin cfg0.N) (ch : Fin 4) (i : Fin 128) (l : Fin 256) :
    iblk m c 1 t (ix2 (ptRow ch i) l) = mP m c (ix2 (gRow (4 * t.val + ch.val) i) (kCol l)) := by
  have hw := win_at t
  unfold mP
  blk_simp [iblk]
  rw [V_main_arg0]
  refine congrArg _ (funext fun a => Fin.ext ?_)
  fin_cases a
  · blk_simp [hw]
    exact row_at t ch i
  · blk_simp [hw]
    first | rfl | (change 13 * 256 + l.val = 3328 + l.val; omega)

theorem blk2 (t : Fin cfg0.N) (ch : Fin 4) (i : Fin 128) (l : Fin 512) :
    iblk m c 2 t (ix2 (ptRow ch i) l) = mP m c (ix2 (gRow (4 * t.val + ch.val) i) (vCol l)) := by
  have hw := win_at t
  unfold mP
  blk_simp [iblk]
  rw [V_main_arg0]
  refine congrArg _ (funext fun a => Fin.ext ?_)
  fin_cases a
  · blk_simp [hw]
    exact row_at t ch i
  · blk_simp [hw]
    first | rfl | (change 7 * 512 + l.val = 3584 + l.val; omega)

theorem blk3 (t : Fin cfg0.N) (ch : Fin 4) (i : Fin 128) (l : Fin 512) :
    iblk m c 3 t (ix2 (ptRow ch i) l) = mP m c (ix2 (gRow (4 * t.val + ch.val) i) (gCol l)) := by
  have hw := win_at t
  unfold mP
  blk_simp [iblk]
  rw [V_main_arg0]
  refine congrArg _ (funext fun a => Fin.ext ?_)
  fin_cases a
  · blk_simp [hw]
    exact row_at t ch i
  · blk_simp [hw]
    first | rfl | (change 8 * 512 + l.val = 4096 + l.val; omega)

theorem blk4 (t : Fin cfg0.N) (ch : Fin 4) (i : Fin 128) (l : Fin 256) :
    iblk m c 4 t (ix2 (ptRow ch i) l) = mC m c (ix2 (gRow (4 * t.val + ch.val) i) l) := by
  have hw := win_at t
  unfold mC
  blk_simp [iblk]
  rw [V_main_arg1]
  refine congrArg _ (funext fun a => Fin.ext ?_)
  fin_cases a
  · blk_simp [hw]
    exact row_at t ch i
  · blk_simp [hw]
    first | rfl | (change l.val = l.val; omega)

theorem blk5 (t : Fin cfg0.N) (ch : Fin 4) (i : Fin 128) (l : Fin 256) :
    iblk m c 5 t (ix2 (ptRow ch i) l) = mS m c (ix2 (gRow (4 * t.val + ch.val) i) l) := by
  have hw := win_at t
  unfold mS
  blk_simp [iblk]
  rw [V_main_arg2]
  refine congrArg _ (funext fun a => Fin.ext ?_)
  fin_cases a
  · blk_simp [hw]
    exact row_at t ch i
  · blk_simp [hw]
    first | rfl | (change l.val = l.val; omega)

section
variable (t : Fin cfg0.N)

theorem rot_q (ch : Fin 4) : ptRot (iblk m c 4 t) (iblk m c 5 t) (iblk m c 0 t) ch = sRot (mP m c) (mC m c) (mS m c) qCol (4 * t.val + ch.val) := by
  funext i l; simp only [ptRot, sRot, blk0, blk4, blk5]
theorem rot_k (ch : Fin 4) : ptRot (iblk m c 4 t) (iblk m c 5 t) (iblk m c 1 t) ch = sRot (mP m c) (mC m c) (mS m c) kCol (4 * t.val + ch.val) := by
  funext i l; simp only [ptRot, sRot, blk1, blk4, blk5]
theorem q_at (ch : Fin 4) : ptQ (iblk m c 0 t) (iblk m c 4 t) (iblk m c 5 t) ch = sQ (mP m c) (mC m c) (mS m c) (4 * t.val + ch.val) := by
  funext i l; simp only [ptQ, sQ, rot_q]
theorem v_at (ch : Fin 4) : ptV (iblk m c 2 t) ch = sV (mP m c) (4 * t.val + ch.val) := by
  funext i w; simp only [ptV, sV, blk2]

/-- The state a point starts from, and the tables, are what the sequence has there. -/
structure Starts (n : ℕ) (xs0 : Vec Ideal S4x64x128 .f32) (xs1 : Vec Ideal S4x128x128 .f32) (xs2 xs3 : Vec Ideal S128x256 .f32) : Prop where
  st : (fun h d e => xs0 (ix3 h d e)) = sS (mP m c) (mC m c) (mS m c) n
  dec : (fun h i j => xs1 (ix3 h i j)) = fun h i j => (decT h i j : EReal)
  qd : (fun i l => xs2 (ix2 i l)) = sQd
  ke : (fun i l => xs3 (ix2 i l)) = sKe

variable {m c}
variable {xs0 : Vec Ideal S4x64x128 .f32} {xs1 : Vec Ideal S4x128x128 .f32} {xs2 xs3 : Vec Ideal S128x256 .f32}

theorem state_at {t : Fin cfg0.N} (H : Starts m c (4 * t.val) xs0 xs1 xs2 xs3) :
    ∀ k ≤ 4, ptS (iblk m c 1 t) (iblk m c 2 t) (iblk m c 4 t) (iblk m c 5 t) xs0 xs3 k = sS (mP m c) (mC m c) (mS m c) (4 * t.val + k)
  | 0, _ => H.st
  | k + 1, hk => by
    have e : (Fin.ofNat 4 k).val = k := Nat.mod_eq_of_lt (by omega)
    show stepE _ _ _ _ = stepE (sRot (mP m c) (mC m c) (mS m c) kCol (4 * t.val + k)) sKe (sV (mP m c) (4 * t.val + k)) (sS (mP m c) (mC m c) (mS m c) (4 * t.val + k))
    rw [rot_k, v_at, e, state_at H k (by omega), H.ke]

theorem out_at {t : Fin cfg0.N} (H : Starts m c (4 * t.val) xs0 xs1 xs2 xs3) (ch h : Fin 4) (r e : Fin 128) :
    ptOut (iblk m c 0 t) (iblk m c 1 t) (iblk m c 2 t) (iblk m c 3 t) (iblk m c 4 t) (iblk m c 5 t) xs0 xs1 xs2 xs3 ch h r e
      = sOut (mP m c) (mC m c) (mS m c) (4 * t.val + ch.val) h r e := by
  unfold ptOut sOut
  rw [q_at, rot_k, v_at, H.dec, H.qd, state_at H ch.val (by omega), blk3]
end

theorem qd_lane (xs : Vec Ideal S128x256 .f32) (f : Fin 4 → Fin 128 → ℝ) (H : ∀ h r d, xs (ix2 r (qLane h d)) = (f h r : EReal)) :
    (fun i l => xs (ix2 i l)) = fun i (l : Fin 256) => (f ⟨l.val / 64, by omega⟩ i : EReal) := by
  funext i l
  have e : l = qLane ⟨l.val / 64, by omega⟩ ⟨l.val % 64, by omega⟩ := Fin.ext (by show l.val = 64 * (l.val / 64) + l.val % 64; omega)
  conv_lhs => rw [e]
  exact H _ _ _

/-- A point of the grid that is not the first. -/
def later : grid0.Coords := grid0.coords (⟨1, by decide⟩ : Fin grid0.N)
theorem later_B : ¬cond0_0 later := by
  have := (hcond0_0 (⟨1, by decide⟩ : Fin cfg0.N))
  exact fun h => absurd (this.1 h) (by decide)

section
variable {m : (ℓ : Loc nD τ sig) → Buf (Elt Ideal) ℓ} {c : Dev nD} (i : grid0.Coords) (arg1 : Memref sig .tc .vmem S512x256 .bf16) (harg1 : arg1.IsWhole) (arg2 : Memref sig .tc .vmem S512x256 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x256 .f32) (harg5 : arg5.IsWhole) (arg6 : Memref sig .tc .vmem S512x256 .f32) (harg6 : arg6.IsWhole) (arg7 : Memref sig .tc .vmem S512x512 .bf16) (harg7 : arg7.IsWhole) (arg8 : Memref sig .tc .vmem S4x64x128 .f32) (harg8 : arg8.IsWhole) (arg9 : Memref sig .tc .vmem S4x128x128 .f32) (harg9 : arg9.IsWhole) (arg10 : Memref sig .tc .vmem S128x256 .f32) (harg10 : arg10.IsWhole) (arg11 : Memref sig .tc .vmem S128x256 .f32) (harg11 : arg11.IsWhole)

/-- A point that starts where the sequence stands writes the sequence's results and leaves it four chunks on. -/
theorem leaves (hc0 : ¬cond0_0 i) {t : Fin cfg0.N} {xs0 : Vec Ideal S4x64x128 .f32} {xs1 : Vec Ideal S4x128x128 .f32} {xs2 xs3 : Vec Ideal S128x256 .f32}
    (T : Starts m c (4 * t.val) xs0 xs1 xs2 xs3) :
    (∀ ch h r e, out0_B_6 c i arg1 harg1 arg2 harg2 arg3 harg3 arg4 harg4 arg5 harg5 arg6 harg6 arg7 harg7 arg8 harg8 arg9 harg9 arg10 harg10 arg11 harg11 hc0 (iblk m c 0 t) (iblk m c 1 t) (iblk m c 2 t) (iblk m c 3 t) (iblk m c 4 t) (iblk m c 5 t) xs0 xs1 xs2 xs3 (ix2 (ptRow ch r) (vLane h e)) = sOut (mP m c) (mC m c) (mS m c) (4 * t.val + ch.val) h r e)
    ∧ Starts m c (4 * (t.val + 1)) (sout0_B_0 c i arg1 harg1 arg2 harg2 arg3 harg3 arg4 harg4 arg5 harg5 arg6 harg6 arg7 harg7 arg8 harg8 arg9 harg9 arg10 harg10 arg11 harg11 hc0 (iblk m c 0 t) (iblk m c 1 t) (iblk m c 2 t) (iblk m c 3 t) (iblk m c 4 t) (iblk m c 5 t) xs0 xs1 xs2 xs3) xs1 xs2 xs3 := by
  refine ⟨fun ch h r e => ?_, ?_, T.dec, T.qd, T.ke⟩
  · rw [← out_at T]
    apply out_B
  · funext h d e
    refine Eq.trans ?_ (congrFun (congrFun (congrFun (state_at T 4 le_rfl) h) d) e)
    apply state_B
end

/-- What each point writes, and what it leaves for the next. -/
theorem point_at (n : ℕ) (hn : n < cfg0.N) :
    (∀ ch h r e, (outsAt0 m c n hn).1 (ix2 (ptRow ch r) (vLane h e)) = sOut (mP m c) (mC m c) (mS m c) (4 * n + ch.val) h r e)
    ∧ Starts m c (4 * (n + 1)) (outsAt0 m c n hn).2.1 (outsAt0 m c n hn).2.2.1 (outsAt0 m c n hn).2.2.2.1 (outsAt0 m c n hn).2.2.2.2 := by
  induction n with
  | zero =>
    have h0 : (⟨0, hn⟩ : Fin cfg0.N).val % 32 = 0 := rfl
    have E : outsAt0 m c 0 hn = _ := outsAt0_A m c ⟨0, hn⟩ h0
    have T : Starts m c (4 * (⟨0, hn⟩ : Fin cfg0.N).val) zeroC (outsAt0 m c 0 hn).2.2.1 (outsAt0 m c 0 hn).2.2.2.1 (outsAt0 m c 0 hn).2.2.2.2 := by
      rw [E]
      dsimp only
      refine ⟨?_, ?_, qd_lane _ qdT fun h r d => ?_, qd_lane _ keT fun h r d => ?_⟩
      · funext h d e; exact zeroC_apply h d e
      · funext h i j; exact decay_tab _ _ _ _ _ _ _ _ _ _ _ _ _ _ _ _ _ _ _ _ _ _ _ _ _ _ _ _ _ _ _ h i j
      · exact qdec_tab _ _ _ _ _ _ _ _ _ _ _ _ _ _ _ _ _ _ _ _ _ _ _ _ _ _ _ _ _ _ _ h r d
      · exact kend_tab _ _ _ _ _ _ _ _ _ _ _ _ _ _ _ _ _ _ _ _ _ _ _ _ _ _ _ _ _ _ _ h r d
    rw [E] at T ⊢
    rw [out_A (hc' := later_B), state_A (hc' := later_B)]
    dsimp only at T ⊢
    exact leaves _ _ _ _ _ _ _ _ _ _ _ _ _ _ _ _ _ _ _ _ _ _ _ _ T
  | succ n ih =>
    obtain ⟨-, T⟩ := ih (Nat.lt_of_succ_lt hn)
    have hN := lt_of_lt_of_eq hn N32
    have h0 : ¬(⟨n + 1, hn⟩ : Fin cfg0.N).val % 32 = 0 := by show ¬(n + 1) % 32 = 0; omega
    rw [show outsAt0 m c (n + 1) hn = _ from outsAt0_B m c ⟨n + 1, hn⟩ h0]
    dsimp only
    exact leaves _ _ _ _ _ _ _ _ _ _ _ _ _ _ _ _ _ _ _ _ _ _ _ _ T

/-- THE KERNEL'S RESULT: row `128 n + i`, lane `128 h + e`. -/
theorem kernel_value (n : Fin 128) (i : Fin 128) (h : Fin 4) (e : Fin 128) :
    Cert.KernelIdeal.Value.G6 m c (ix2 (gRow n.val i) (vLane h e)) = sOut (mP m c) (mC m c) (mS m c) n.val h i e := by
  have hn : n.val / 4 < cfg0.N := lt_of_lt_of_eq (by omega : n.val / 4 < 32) N32.symm
  have hg : (gRow n.val i).val = 128 * n.val + i.val := Nat.mod_eq_of_lt (by omega)
  have hp : Cert.KernelIdeal.Value.pt6Of (ix2 (gRow n.val i) (vLane h e)) = n.val / 4 := by
    show 1 * ((gRow n.val i).val / 512 - 0) + 1 * ((128 * h.val + e.val) / 512 - 0) = _
    rw [hg]; omega
  have hl : Cert.KernelIdeal.Value.loc6Of (ix2 (gRow n.val i) (vLane h e)) = ix2 (ptRow ⟨n.val % 4, by omega⟩ i) (vLane h e) := by
    funext a
    fin_cases a
    · refine Fin.ext ?_
      show (gRow n.val i).val % 512 = 128 * (n.val % 4) + i.val
      rw [hg]; omega
    · refine Fin.ext ?_
      show (128 * h.val + e.val) % 512 = 128 * h.val + e.val
      omega
  unfold Cert.KernelIdeal.Value.G6
  rw [dif_pos (by rw [hp]; exact hn), hl]
  refine (congrArg (fun z => z.1 (ix2 (ptRow ⟨n.val % 4, by omega⟩ i) (vLane h e)))
    ((Cert.KernelIdeal.Value.fold0_congr m c _ _ _ (by omega) hp).trans (Cert.KernelIdeal.Value.outsAt0_sweep m c (n.val / 4) hn).symm)).trans ?_
  rw [(point_at m c (n.val / 4) hn).1]
  exact congrArg (fun k => sOut (mP m c) (mC m c) (mS m c) k h i e) (by show 4 * (n.val / 4) + n.val % 4 = n.val; omega)

end Cert.Retention
end
-- ==== Proof.Ref.lean ====
module

public import proofs.«01_k».proof.Proof.Seq
public import proofs.«01_k».proof.Proof.Gen.ReferenceIdeal.Run

@[expose] public section
set_option maxRecDepth 16384
noncomputable section
namespace Cert.RetentionRef
open Idealize.ShloMosaic Idealize.ShloMosaic.TcCoe Idealize.ShloMosaic.Tactic Idealize.ShloMosaic.StableHlo Idealize.SL Idealize.SL.Sem Cert.ReferenceIdeal Cert.ReferenceIdeal.Gen

/-! ## The reference's arrays, by name -/

/-- The rotation of the 4 heads' 64 lanes, over the whole sequence. -/
def rRot (x : FVec Ideal S16384x256 .bf16) (co si : FVec Ideal S16384x256 .f32) : FVec Ideal S16384x4x64 .f32 :=
  concatenate S16384x4x64 2 [⟨S16384x4x32, (addf (mulf (extractStridedSlice S16384x4x32 ![0, 0, 0] (shapeCast _ (extf .f32 x bitsLt_bf16_f32) shapeCasts_S16384x256_S16384x4x64) slices_S16384x4x64_S16384x4x32_0_0_0) (extractStridedSlice S16384x4x32 ![0, 0, 0] (shapeCast _ co shapeCasts_S16384x256_S16384x4x64) slices_S16384x4x64_S16384x4x32_0_0_0)) (mulf (extractStridedSlice S16384x4x32 ![0, 0, 32] (shapeCast _ (extf .f32 x bitsLt_bf16_f32) shapeCasts_S16384x256_S16384x4x64) slices_S16384x4x64_S16384x4x32_0_0_32) (extractStridedSlice S16384x4x32 ![0, 0, 0] (shapeCast _ si shapeCasts_S16384x256_S16384x4x64) slices_S16384x4x64_S16384x4x32_0_0_0)))⟩, ⟨S16384x4x32, (addf (mulf (extractStridedSlice S16384x4x32 ![0, 0, 32] (shapeCast _ (extf .f32 x bitsLt_bf16_f32) shapeCasts_S16384x256_S16384x4x64) slices_S16384x4x64_S16384x4x32_0_0_32) (extractStridedSlice S16384x4x32 ![0, 0, 32] (shapeCast _ co shapeCasts_S16384x256_S16384x4x64) slices_S16384x4x64_S16384x4x32_0_0_32)) (mulf (extractStridedSlice S16384x4x32 ![0, 0, 0] (shapeCast _ (extf .f32 x bitsLt_bf16_f32) shapeCasts_S16384x256_S16384x4x64) slices_S16384x4x64_S16384x4x32_0_0_0) (extractStridedSlice S16384x4x32 ![0, 0, 32] (shapeCast _ si shapeCasts_S16384x256_S16384x4x64) slices_S16384x4x64_S16384x4x32_0_0_32)))⟩] concatenates_S16384x4x32_S16384x4x32_S16384x4x64_d2
/-- The rotated and scaled queries, by chunk. -/
def rQ (p : FVec Ideal S16384x8192 .bf16) (co si : FVec Ideal S16384x256 .f32) : FVec Ideal S128x128x4x64 .f32 :=
  shapeCast _ (mulf (rRot (extractStridedSlice S16384x256 ![0, 3072] p slices_S16384x8192_S16384x256_0_3072) co si) (broadcastInDim S16384x4x64 ![] bcast_S_S16384x4x64 (constant S_ .f32 0x3E000000#32))) shapeCasts_S16384x4x64_S128x128x4x64
/-- The rotated keys, by chunk. -/
def rK (p : FVec Ideal S16384x8192 .bf16) (co si : FVec Ideal S16384x256 .f32) : FVec Ideal S128x128x4x64 .f32 :=
  shapeCast _ (rRot (extractStridedSlice S16384x256 ![0, 3328] p slices_S16384x8192_S16384x256_0_3328) co si) shapeCasts_S16384x4x64_S128x128x4x64
/-- The values, by chunk. -/
def rV (p : FVec Ideal S16384x8192 .bf16) : FVec Ideal S128x128x4x128 .f32 :=
  shapeCast _ (extf .f32 (extractStridedSlice S16384x512 ![0, 3584] p slices_S16384x8192_S16384x512_0_3584) bitsLt_bf16_f32) shapeCasts_S16384x512_S128x128x4x128
/-- The logarithms of the four decays. -/
def rLg : FVec Ideal S4 .f32 :=
  Host.log1p (Host.negf (Host.powf (broadcastInDim S4 ![] bcast_S_S4 (constant S_ .f32 0x40000000#32)) (subf (broadcastInDim S4 ![] bcast_S_S4 (constant S_ .f32 0xC0A00000#32)) (sitofp .f32 (iotaInDim S4 32 0)))))
/-- The weights within a chunk. -/
def rDec : FVec Ideal S4x128x128 .f32 :=
  select (broadcastInDim S4x128x128 ![1, 2] bcast_S128x128_S4x128x128_1_2 (cmpi .sge (broadcastInDim S128x128 ![0, 1] bcast_S128x1_S128x128_0_1 (broadcastInDim S128x1 ![0] bcast_S128_S128x1_0 (iotaInDim S128 32 0))) (broadcastInDim S128x128 ![0, 1] bcast_S1x128_S128x128_0_1 (broadcastInDim S1x128 ![1] bcast_S128_S1x128_1 (iotaInDim S128 32 0))))) (Host.exp (mulf (broadcastInDim S4x128x128 ![0, 1, 2] bcast_S4x1x1_S4x128x128_0_1_2 (broadcastInDim S4x1x1 ![0] bcast_S4_S4x1x1_0 rLg)) (broadcastInDim S4x128x128 ![0, 1, 2] bcast_S1x128x128_S4x128x128_0_1_2 (broadcastInDim S1x128x128 ![1, 2] bcast_S128x128_S1x128x128_1_2 (maximumf (subf (broadcastInDim S128x128 ![0, 1] bcast_S128x1_S128x128_0_1 (broadcastInDim S128x1 ![0] bcast_S128_S128x1_0 (sitofp .f32 (iotaInDim S128 32 0)))) (broadcastInDim S128x128 ![0, 1] bcast_S1x128_S128x128_0_1 (broadcastInDim S1x128 ![1] bcast_S128_S1x128_1 (sitofp .f32 (iotaInDim S128 32 0))))) (broadcastInDim S128x128 ![] bcast_S_S128x128 (constant S_ .f32 0x00000000#32))))))) (broadcastInDim S4x128x128 ![] bcast_S_S4x128x128 (id (constant S_ .f32 0x00000000#32)))
/-- The weights of the state before a chunk. -/
def rQd : FVec Ideal S128x4 .f32 :=
  Host.exp (mulf (broadcastInDim S128x4 ![0, 1] bcast_S128x1_S128x4_0_1 (broadcastInDim S128x1 ![0] bcast_S128_S128x1_0 (addf (sitofp .f32 (iotaInDim S128 32 0)) (broadcastInDim S128 ![] bcast_S_S128 (constant S_ .f32 0x3F800000#32))))) (broadcastInDim S128x4 ![0, 1] bcast_S1x4_S128x4_0_1 (broadcastInDim S1x4 ![1] bcast_S4_S1x4_1 rLg)))
/-- The weighted scores within each chunk. -/
def rScore (p : FVec Ideal S16384x8192 .bf16) (co si : FVec Ideal S16384x256 .f32) : FVec Ideal S128x4x128x128 .f32 :=
  mulf (Host.dotGeneral dot_S128x128x4x64_S128x128x4x64_S128x4x128x128_3_3_1_1_02_02 none (rQ p co si) (rK p co si)) (broadcastInDim S128x4x128x128 ![0, 1, 2, 3] bcast_S1x4x128x128_S128x4x128x128_0_1_2_3 (broadcastInDim S1x4x128x128 ![1, 2, 3] bcast_S4x128x128_S1x4x128x128_1_2_3 rDec))
/-- The queries under the weights of the state. -/
def rQD (p : FVec Ideal S16384x8192 .bf16) (co si : FVec Ideal S16384x256 .f32) : FVec Ideal S128x128x4x64 .f32 :=
  mulf (rQ p co si) (broadcastInDim S128x128x4x64 ![0, 1, 2, 3] bcast_S1x128x4x1_S128x128x4x64_0_1_2_3 (broadcastInDim S1x128x4x1 ![1, 2] bcast_S128x4_S1x128x4x1_1_2 rQd))
/-- The rows' results before the norm, by chunk. -/
def rMix (p : FVec Ideal S16384x8192 .bf16) (co si : FVec Ideal S16384x256 .f32) (prev : FVec Ideal S128x4x64x128 .f32) : FVec Ideal S128x128x4x128 .f32 :=
  addf (transpose S128x128x4x128 [0, 3, 1, 2] (Host.dotGeneral dot_S128x128x4x128_S128x4x128x128_S128x4x128x128_1_3_3_2_02_01 none (rV p) (rScore p co si)) transposes_S128x4x128x128_S128x128x4x128_0_3_1_2) (transpose S128x128x4x128 [0, 3, 1, 2] (Host.dotGeneral dot_S128x4x64x128_S128x128x4x64_S128x4x128x128_2_3_3_1_01_02 none prev (rQD p co si)) transposes_S128x4x128x128_S128x128x4x128_0_3_1_2)
/-- The same by row of the sequence. -/
def rO (p : FVec Ideal S16384x8192 .bf16) (co si : FVec Ideal S16384x256 .f32) (prev : FVec Ideal S128x4x64x128 .f32) : FVec Ideal S16384x4x128 .f32 :=
  shapeCast _ (rMix p co si prev) shapeCasts_S128x128x4x128_S16384x4x128
/-- The gates: `x` times its logistic. -/
def rGate (p : FVec Ideal S16384x8192 .bf16) : FVec Ideal S16384x512 .f32 :=
  mulf (extf .f32 (extractStridedSlice S16384x512 ![0, 4096] p slices_S16384x8192_S16384x512_0_4096) bitsLt_bf16_f32) (Host.divf (broadcastInDim S16384x512 ![] bcast_S_S16384x512 (constant S_ .f32 0x3F800000#32)) (addf (broadcastInDim S16384x512 ![] bcast_S_S16384x512 (constant S_ .f32 0x3F800000#32)) (Host.exp (Host.negf (extf .f32 (extractStridedSlice S16384x512 ![0, 4096] p slices_S16384x8192_S16384x512_0_4096) bitsLt_bf16_f32)))))
/-- One over the root mean square of each head's lanes. -/
def rNorm (o : FVec Ideal S16384x4x128 .f32) : FVec Ideal S16384x4x1 .f32 :=
  Host.rsqrt (addf (Host.divf (broadcastInDim S16384x4x1 ![0, 1] bcast_S16384x4_S16384x4x1_0_1 (Host.reduceAdd (mulf o o) (constant S_ .f32 0x00000000#32) reducesTo_S16384x4x128_S16384x4_d2 h_S_)) (broadcastInDim S16384x4x1 ![] bcast_S_S16384x4x1 (constant S_ .f32 0x43000000#32))) (broadcastInDim S16384x4x1 ![] bcast_S_S16384x4x1 (constant S_ .f32 0x358637BD#32)))
/-- The reference's result, of the states before the chunks. -/
def rOut (p : FVec Ideal S16384x8192 .bf16) (co si : FVec Ideal S16384x256 .f32) (prev : FVec Ideal S128x4x64x128 .f32) : FVec Ideal S16384x512 .bf16 :=
  truncf .bf16 (mulf (shapeCast _ (mulf (rO p co si prev) (broadcastInDim S16384x4x128 ![0, 1, 2] bcast_S16384x4x1_S16384x4x128_0_1_2 (rNorm (rO p co si prev)))) shapeCasts_S16384x4x128_S16384x512) (rGate p)) bitsLt_bf16_f32
/-- The weights of a chunk's positions in the state after it. -/
def rKe : FVec Ideal S128x4 .f32 :=
  Host.exp (mulf (broadcastInDim S128x4 ![0, 1] bcast_S128x1_S128x4_0_1 (broadcastInDim S128x1 ![0] bcast_S128_S128x1_0 (subf (broadcastInDim S128 ![] bcast_S_S128 (constant S_ .f32 0x42FE0000#32)) (sitofp .f32 (iotaInDim S128 32 0))))) (broadcastInDim S128x4 ![0, 1] bcast_S1x4_S128x4_0_1 (broadcastInDim S1x4 ![1] bcast_S4_S1x4_1 rLg)))
/-- What each chunk adds to the state. -/
def rKv (p : FVec Ideal S16384x8192 .bf16) (co si : FVec Ideal S16384x256 .f32) : FVec Ideal S128x4x64x128 .f32 :=
  Host.dotGeneral dot_S128x128x4x64_S128x128x4x128_S128x4x64x128_1_1_3_3_02_02 none (mulf (rK p co si) (broadcastInDim S128x128x4x64 ![0, 1, 2, 3] bcast_S1x128x4x1_S128x128x4x64_0_1_2_3 (broadcastInDim S1x128x4x1 ![1, 2] bcast_S128x4_S1x128x4x1_1_2 rKe))) (rV p)
/-- The decay over a chunk. -/
def rGc : FVec Ideal S4x1x1 .f32 :=
  broadcastInDim S4x1x1 ![0] bcast_S4_S4x1x1_0 (Host.exp (mulf (broadcastInDim S4 ![] bcast_S_S4 (constant S_ .f32 0x43000000#32)) rLg))

/-- The state before the first chunk. -/
def rZero : FVec Ideal S4x64x128 .f32 := broadcastInDim S4x64x128 ![] bcast_S_S4x64x128 (constant S_ .f32 0x00000000#32)

theorem out_named (V0 : Valuation τ sig (Elt Ideal)) :
    Value.out_main_v156 V0 = rOut (V0 (Proc.devRef .tc main_arg0)) (V0 (Proc.devRef .tc main_arg1)) (V0 (Proc.devRef .tc main_arg2)) (V0 (Proc.devRef .tc main_v48_4)) := rfl

section
variable (m : (ℓ : Loc nD τ sig) → Buf (Elt Ideal) ℓ) (c : Dev nD)

theorem entry_kv : entryContents Value.preI m c (Proc.devRef .tc main_v48_0) = rKv (m ((c : Thread nD τ).loc main_arg0)) (m ((c : Thread nD τ).loc main_arg1)) (m ((c : Thread nD τ).loc main_arg2)) := by
  simp only [entryContents, Value.preI, hostOps0, afterL_cons, afterL_nil]
  after_results_entrywise []
theorem entry_gc : entryContents Value.preI m c (Proc.devRef .tc main_v48_1) = rGc := by
  simp only [entryContents, Value.preI, hostOps0, afterL_cons, afterL_nil]
  after_results_entrywise []
theorem entry_st : entryContents Value.preI m c (Proc.devRef .tc main_v48_3) = rZero := by
  simp only [entryContents, Value.preI, hostOps0, afterL_cons, afterL_nil]
  after_results_entrywise []
end

end Cert.RetentionRef
end
-- ==== Proof.RefValue.lean ====
module

public import proofs.«01_k».proof.Proof.Ref

@[expose] public section
set_option maxRecDepth 16384
noncomputable section
namespace Cert.RetentionRef
open Idealize.ShloMosaic Idealize.ShloMosaic.TcCoe Idealize.ShloMosaic.Tactic Idealize.ShloMosaic.StableHlo Idealize.SL Idealize.SL.Sem Cert.ReferenceIdeal Cert.ReferenceIdeal.Gen
open Cert.Retention (gRow qCol kCol vCol gCol swapLane qLane vLane sRot sQ sV sQd sKe sS sOut decR lgR decT qdT keT cast_pos)

/-- One trip's state, and the states kept so far, of those before it. -/
def stF (kv : FVec Ideal S128x4x64x128 .f32) (g : FVec Ideal S4x1x1 .f32) (S : FVec Ideal S4x64x128 .f32) (k : IVec S_ 32) : FVec Ideal S4x64x128 .f32 :=
  addf (mulf (broadcastInDim S4x64x128 ![0, 1, 2] bcast_S4x1x1_S4x64x128_0_1_2 g) S) (shapeCast S4x64x128 (Host.dynamicSlice S1x4x64x128 kv (fun a => (((![k, constantI S_ 32 0#32, constantI S_ 32 0#32, constantI S_ 32 0#32] : Fin 4 → IVec S_ 32)) a (Shape.Idx.first h_S_)).toInt) sliceFits_S128x4x64x128_S1x4x64x128) shapeCasts_S1x4x64x128_S4x64x128)
def prF (P : FVec Ideal S128x4x64x128 .f32) (S : FVec Ideal S4x64x128 .f32) (k : IVec S_ 32) : FVec Ideal S128x4x64x128 .f32 :=
  Host.dynamicUpdateSlice P (broadcastInDim S1x4x64x128 ![1, 2, 3] bcast_S4x64x128_S1x4x64x128_1_2_3 S) (fun a => (((![k, constantI S_ 32 0#32, constantI S_ 32 0#32, constantI S_ 32 0#32] : Fin 4 → IVec S_ 32)) a (Shape.Idx.first h_S_)).toInt) updateFits_S128x4x64x128_S1x4x64x128

theorem st_step (V0 : Valuation τ sig (Elt Ideal)) : Value.step_main_v48_3 V0 = stF (V0 (Proc.devRef .tc main_v48_0)) (V0 (Proc.devRef .tc main_v48_1)) (V0 (Proc.devRef .tc main_v48_3)) (V0 (Proc.devRef .tc main_v48_2)) := by
  unfold Value.step_main_v48_3 stF
  rfl
theorem pr_step (V0 : Valuation τ sig (Elt Ideal)) : Value.step_main_v48_4 V0 = prF (V0 (Proc.devRef .tc main_v48_4)) (V0 (Proc.devRef .tc main_v48_3)) (V0 (Proc.devRef .tc main_v48_2)) := by
  unfold Value.step_main_v48_4 prF
  rfl
/-! ## One trip of the scan at an index -/

theorem word_int (k : ℕ) (hk : k < 128) : (BitVec.ofNat 32 k).toInt = (k : ℤ) := by
  rw [BitVec.toInt_eq_toNat_bmod, BitVec.toNat_ofNat, Int.bmod_def]; omega

section
variable (k : ℕ) (hk : k < 128)
include hk
theorem start_at (a : Fin 4) : Host.clampedStart S128x4x64x128 S1x4x64x128 sliceFits_S128x4x64x128_S1x4x64x128.1 (fun a => (((![fun _ => BitVec.ofNat 32 k, constantI S_ 32 0#32, constantI S_ 32 0#32, constantI S_ 32 0#32] : Fin 4 → IVec S_ 32)) a (Shape.Idx.first h_S_)).toInt) a
    = if a = 0 then k else 0 := by
  fin_cases a
  · exact Host.clampedStart_of_le _ _ 0 k (word_int k hk) (by show k + 1 ≤ 128; omega)
  · exact Host.clampedStart_of_le _ _ 1 0 rfl (by decide)
  · exact Host.clampedStart_of_le _ _ 2 0 rfl (by decide)
  · exact Host.clampedStart_of_le _ _ 3 0 rfl (by decide)
theorem st_at (kv g S) (h : Fin 4) (d : Fin 64) (e : Fin 128) :
   stF kv g S (fun _ => BitVec.ofNat 32 k) (ix3 h d e) = g (ix3 h 0 0) * S (ix3 h d e) + kv (ix4 ⟨k, hk⟩ h d e) := by
  unfold stF
  pointwise
  have w0 := start_at k hk 0
  have w1 := start_at k hk 1
  have w2 := start_at k hk 2
  have w3 := start_at k hk 3
  simp only [w0, w1, w2, w3, Nat.zero_add, if_true, if_false, Fin.isValue, Fin.reduceEq]
theorem pr_at (P S) (n : Fin 128) (h : Fin 4) (d : Fin 64) (e : Fin 128) :
   prF P S (fun _ => BitVec.ofNat 32 k) (ix4 n h d e) = if n.val = k then S (ix3 h d e) else P (ix4 n h d e) := by
  unfold prF
  pointwise
  have w0 := start_at k hk 0
  have w1 := start_at k hk 1
  have w2 := start_at k hk 2
  have w3 := start_at k hk 3
  simp only [w0, w1, w2, w3, Nat.sub_zero, Nat.zero_le, if_true, if_false, Fin.isValue, Fin.reduceEq, and_true]
  by_cases e : n.val = k
  · rw [dif_pos (by omega), if_pos e]
  · rw [dif_neg (by omega), if_neg e]
end

/-! ## The reference's arrays at an index -/

section
variable (p : FVec Ideal S16384x8192 .bf16) (co si : FVec Ideal S16384x256 .f32)

theorem row_eq (n i : Fin 128) (hh : n.val * 128 + i.val < 16384) : (⟨n.val * 128 + i.val, hh⟩ : Fin 16384) = gRow n.val i :=
  Fin.ext (by show n.val * 128 + i.val = (128 * n.val + i.val) % 16384; omega)

theorem rRot_at (x : FVec Ideal S16384x256 .bf16) (s : Fin 16384) (h : Fin 4) (d : Fin 64) : rRot x co si (ix3 s h d)
    = x (ix2 s (qLane h d)) * co (ix2 s (qLane h d)) + x (ix2 s (swapLane (qLane h d))) * si (ix2 s (qLane h d)) := by
  unfold rRot
  pointwise
  by_cases hd : d.val < 32
  · rw [dif_pos hd]
    have e1 : (⟨h.val * 64 + d.val, by omega⟩ : Fin 256) = qLane h d := Fin.ext (by show h.val * 64 + d.val = 64 * h.val + d.val; omega)
    have e2 : (⟨h.val * 64 + (32 + d.val), by omega⟩ : Fin 256) = swapLane (qLane h d) := by
      fin_cases h <;> revert d <;> decide
    rw [e1, e2]
  · rw [dif_neg hd]
    have e1 : (⟨h.val * 64 + (32 + (d.val - 32)), by omega⟩ : Fin 256) = qLane h d := Fin.ext (by show h.val * 64 + (32 + (d.val - 32)) = 64 * h.val + d.val; omega)
    have e2 : (⟨h.val * 64 + (d.val - 32), by omega⟩ : Fin 256) = swapLane (qLane h d) := by
      fin_cases h <;> revert d <;> decide
    rw [e1, e2]
theorem rK_at (n i : Fin 128) (h : Fin 4) (d : Fin 64) : rK p co si (ix4 n i h d) = sRot p co si kCol n.val i (qLane h d) := by
  unfold rK
  pointwise
  rw [rRot_at, row_eq]
  pointwise
  rfl
theorem rQ_at (n i : Fin 128) (h : Fin 4) (d : Fin 64) : rQ p co si (ix4 n i h d) = sQ p co si n.val i (qLane h d) := by
  unfold rQ
  pointwise
  rw [rRot_at, row_eq]
  pointwise
  rfl
theorem rV_at (n i : Fin 128) (h : Fin 4) (e : Fin 128) : rV p (ix4 n i h e) = sV p n.val i (vLane h e) := by
  unfold rV
  pointwise
  rw [row_eq]
  exact congrArg (fun w => p (ix2 (gRow n.val i) w)) (Fin.ext (by show 3584 + (h.val * 128 + e.val) = 3584 + (128 * h.val + e.val); omega))

theorem ofBits_2 : Ideal.ofBits .f32 0x40000000#32 = ((2 : ℝ) : EReal) := by
  simp [Ideal.ofBits, Ideal.ieee, -EReal.coe_mul]; norm_num
theorem ofBits_m5 : Ideal.ofBits .f32 0xC0A00000#32 = ((-5 : ℝ) : EReal) := by
  simp [Ideal.ofBits, Ideal.ieee, -EReal.coe_mul]; norm_num
theorem ofBits_128 : Ideal.ofBits .f32 0x43000000#32 = ((128 : ℝ) : EReal) := by
  simp [Ideal.ofBits, Ideal.ieee, -EReal.coe_mul]; norm_num
theorem cast_head (h : Fin 4) : FloatOps.sitofp (F := Ideal) .f32 (BitVec.ofNat 32 h.val) = ((h.val : ℝ) : EReal) :=
  cast_pos ⟨h.val, by omega⟩

theorem rLg_at (h : Fin 4) : rLg (ix1 h) = (lgR h : EReal) := by
  unfold rLg
  pointwise
  rw [cast_head, ofBits_2, ofBits_m5, ← EReal.coe_sub]
  show Ideal.log (1 + -((Real.rpow 2 (-5 - (h.val : ℝ)) : ℝ) : EReal)) = _
  have e : 1 + -Real.rpow 2 (-5 - (h.val : ℝ)) = decR h := by
    have : Real.rpow 2 (-5 - (h.val : ℝ)) = ((2 : ℝ) ^ (5 + h.val))⁻¹ := by
      show (2 : ℝ) ^ (-5 - (h.val : ℝ)) = _
      rw [← Real.rpow_natCast, ← Real.rpow_neg (by norm_num)]
      congr 1; push_cast; ring
    rw [this]
    fin_cases h <;> norm_num [decR]
  rw [← EReal.coe_neg, ← EReal.coe_one, ← EReal.coe_add, e]
  show (if decR h ≤ 0 then ⊥ else (Real.log (decR h) : EReal)) = _
  rw [if_neg (not_le.2 (Retention.decR_pos h))]; rfl

theorem rDec_at (h : Fin 4) (i j : Fin 128) : rDec (ix3 h i j) = (decT h i j : EReal) := by
  unfold rDec
  pointwise
  rw [rLg_at, cast_pos, cast_pos, ← EReal.coe_sub]
  have e : IntOp.cmpi .sge (BitVec.ofNat 32 i.val) (BitVec.ofNat 32 j.val) = if j ≤ i then 1#1 else 0#1 := by
    have hi := word_int i.val i.isLt
    have hj := word_int j.val j.isLt
    unfold IntOp.cmpi
    simp only [BitVec.sle, hi, hj, Nat.cast_le]
    by_cases hb : j ≤ i
    · rw [if_pos hb, decide_eq_true (show j.val ≤ i.val from hb)]; rfl
    · rw [if_neg hb, decide_eq_false (show ¬j.val ≤ i.val from hb)]; rfl
  rw [e]
  unfold decT
  by_cases hb : j ≤ i
  · rw [if_pos hb, if_pos hb, max_eq_left (by rw [EReal.coe_nonneg, sub_nonneg, Nat.cast_le]; exact hb), ← EReal.coe_mul]
    exact Ideal.exp_coe _
  · rw [if_neg hb, if_neg hb]
    show Ideal.ofBits .f32 0#32 = _
    simp [Ideal.ofBits, Ideal.ieee]

theorem rQd_at (h : Fin 4) (i : Fin 128) : rQd (ix2 i h) = (qdT h i : EReal) := by
  unfold rQd
  pointwise
  rw [rLg_at, cast_pos, ← EReal.coe_one, ← EReal.coe_add, ← EReal.coe_mul]
  exact Ideal.exp_coe _
theorem rKe_at (h : Fin 4) (i : Fin 128) : rKe (ix2 i h) = (keT h i : EReal) := by
  unfold rKe
  pointwise
  rw [rLg_at, cast_pos, Retention.ofBits_127, ← EReal.coe_sub, ← EReal.coe_mul]
  exact Ideal.exp_coe _
theorem rGc_at (h : Fin 4) : rGc (ix3 h 0 0) = Retention.gammaC h := by
  unfold rGc
  pointwise
  rw [rLg_at, ofBits_128, ← EReal.coe_mul, Retention.gammaC_eq]
  exact Ideal.exp_coe _

theorem lane_head (h : Fin 4) (d : Fin 64) (hh : (qLane h d).val / 64 < 4) : (⟨(qLane h d).val / 64, hh⟩ : Fin 4) = h :=
  Fin.ext (by show (64 * h.val + d.val) / 64 = h.val; omega)

theorem rKv_at (n : Fin 128) (h : Fin 4) (d : Fin 64) (e : Fin 128) :
    rKv p co si (ix4 n h d e) = Retention.kvE (sRot p co si kCol n.val) sKe (sV p n.val) h d e := by
  unfold rKv
  pointwise
  unfold Retention.kvE
  refine Finset.sum_congr rfl fun j _ => ?_
  rw [rK_at, rV_at, rKe_at, sKe, lane_head]

theorem rScore_at (n i j : Fin 128) (h : Fin 4) : rScore p co si (ix4 n h i j)
    = (∑ d, sQ p co si n.val i (qLane h d) * sRot p co si kCol n.val j (qLane h d)) * (decT h i j : EReal) := by
  unfold rScore
  pointwise
  rw [rDec_at]
  refine congrArg (· * _) (Finset.sum_congr rfl fun d _ => ?_)
  rw [rQ_at, rK_at]
theorem rQD_at (n i : Fin 128) (h : Fin 4) (d : Fin 64) : rQD p co si (ix4 n i h d) = sQ p co si n.val i (qLane h d) * sQd i (qLane h d) := by
  unfold rQD
  pointwise
  rw [rQ_at, rQd_at, sQd, lane_head]

section
variable {prev : FVec Ideal S128x4x64x128 .f32} (hp : ∀ n h d e, prev (ix4 n h d e) = sS p co si n.val h d e)
include hp

theorem rMix_at (n i : Fin 128) (h : Fin 4) (e : Fin 128) : rMix p co si prev (ix4 n i h e)
    = Retention.mixE (sQ p co si n.val) (sRot p co si kCol n.val) (sV p n.val) (fun h i j => (decT h i j : EReal)) sQd (sS p co si n.val) h i e := by
  unfold rMix
  pointwise
  unfold Retention.mixE
  refine congrArg₂ (· + ·) (Finset.sum_congr rfl fun j _ => ?_) (Finset.sum_congr rfl fun d _ => ?_)
  · rw [rV_at, rScore_at, mul_comm]
  · rw [hp, rQD_at, mul_comm]

theorem rO_at (n i : Fin 128) (h : Fin 4) (e : Fin 128) : rO p co si prev (ix3 (gRow n.val i) h e)
    = Retention.mixE (sQ p co si n.val) (sRot p co si kCol n.val) (sV p n.val) (fun h i j => (decT h i j : EReal)) sQd (sS p co si n.val) h i e := by
  unfold rO
  pointwise
  have hg : (gRow n.val i).val = 128 * n.val + i.val := Nat.mod_eq_of_lt (by omega)
  have e1 : (⟨(gRow n.val i).val / 128, by omega⟩ : Fin 128) = n := Fin.ext (by show (gRow n.val i).val / 128 = _; rw [hg]; omega)
  have e2 : (⟨(gRow n.val i).val % 128, by omega⟩ : Fin 128) = i := Fin.ext (by show (gRow n.val i).val % 128 = _; rw [hg]; omega)
  rw [e1, e2, rMix_at p co si hp]

/-- THE REFERENCE'S RESULT: row `128 n + i`, lane `128 h + e`. -/
theorem rOut_at (n i : Fin 128) (h : Fin 4) (e : Fin 128) : rOut p co si prev (ix2 (gRow n.val i) (vLane h e)) = sOut p co si n.val h i e := by
  unfold rOut
  pointwise
  have e1 : (⟨(vLane h e).val / 128, by omega⟩ : Fin 4) = h := Fin.ext (by show (128 * h.val + e.val) / 128 = _; omega)
  have e2 : (⟨(vLane h e).val % 128, by omega⟩ : Fin 128) = e := Fin.ext (by show (128 * h.val + e.val) % 128 = _; omega)
  rw [e1, e2]
  unfold rNorm rGate
  pointwise
  simp only [rO_at p co si hp]
  unfold sOut Retention.gateE
  rw [zero_sub]
  rfl
end
end

/-! ## The scan -/

section
variable (m : (ℓ : Loc nD τ sig) → Buf (Elt Ideal) ℓ) (c : Dev nD)

/-- The arrays that the reference is run on. -/
def rP : FVec Ideal S16384x8192 .bf16 := m ((c : Thread nD τ).loc main_arg0)
def rC : FVec Ideal S16384x256 .f32 := m ((c : Thread nD τ).loc main_arg1)
def rS : FVec Ideal S16384x256 .f32 := m ((c : Thread nD τ).loc main_arg2)

/-- What the loop carries before trip `k`. -/
structure Carries (k : ℕ) (V : Valuation τ sig (Elt Ideal)) : Prop where
  kv : V (Proc.devRef .tc main_v48_0) = rKv (rP m c) (rC m c) (rS m c)
  gc : V (Proc.devRef .tc main_v48_1) = rGc
  ctr : V (Proc.devRef .tc main_v48_2) = fun _ => BitVec.ofNat 32 k
  st : ∀ h d e, (V (Proc.devRef .tc main_v48_3) : FVec Ideal S4x64x128 .f32) (ix3 h d e) = sS (rP m c) (rC m c) (rS m c) k h d e
  pr : ∀ n : Fin 128, n.val < k → ∀ h d e, (V (Proc.devRef .tc main_v48_4) : FVec Ideal S128x4x64x128 .f32) (ix4 n h d e) = sS (rP m c) (rC m c) (rS m c) n.val h d e

theorem carries : ∀ k ≤ 128, Carries m c k (Value.STEP^[k] (entryContents Value.preI m c))
  | 0, _ => ⟨entry_kv m c, entry_gc m c, Value.ctr_entry m c, fun h d e => by
      rw [Function.iterate_zero, id_eq, entry_st]
      show Ideal.ofBits .f32 0#32 = 0
      simp [Ideal.ofBits, Ideal.ieee], fun n hn => absurd hn (Nat.not_lt_zero _)⟩
  | k + 1, hk => by
    have H := carries k (by omega)
    rw [Function.iterate_succ_apply']
    refine ⟨?_, ?_, ?_, fun h d e => ?_, fun n hn h d e => ?_⟩
    · rw [Value.STEP_main_v48_0, H.kv]
    · rw [Value.STEP_main_v48_1, H.gc]
    · rw [Value.STEP_main_v48_2]
      unfold Value.step_main_v48_2
      rw [H.ctr]
      funext x
      show BitVec.ofNat 32 k + 1#32 = BitVec.ofNat 32 (k + 1)
      rw [BitVec.ofNat_add]
    · rw [Value.STEP_main_v48_3, st_step, H.ctr]
      refine (st_at k (by omega) _ _ _ h d e).trans ?_
      rw [H.kv, H.gc, H.st, rGc_at, rKv_at]
      rfl
    · rw [Value.STEP_main_v48_4, pr_step, H.ctr]
      refine (pr_at k (by omega) _ _ n h d e).trans ?_
      by_cases e' : n.val = k
      · rw [if_pos e', H.st, e']
      · rw [if_neg e', H.pr n (by omega)]

/-- The reference's result buffer, at an index. -/
theorem reference_value (n i : Fin 128) (h : Fin 4) (e : Fin 128) :
    (Value.out_main_v156 (Value.STEP^[128] (entryContents Value.preI m c)) : FVec Ideal S16384x512 .bf16) (ix2 (gRow n.val i) (vLane h e))
      = sOut (rP m c) (rC m c) (rS m c) n.val h i e := by
  rw [out_named, Value.iter_main_arg0, Value.iter_main_arg1, Value.iter_main_arg2]
  exact rOut_at (rP m c) (rC m c) (rS m c) (fun n h d e => (carries m c 128 le_rfl).pr n n.isLt h d e) n i h e
end

end Cert.RetentionRef
end
-- ==== Proof.GlaBlock.lean ====
module

public import proofs.«01_k».proof.Proof.Block
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value

@[expose] public section
set_option maxRecDepth 16384
noncomputable section
namespace Cert.Gla
open Idealize.ShloMosaic Idealize.ShloMosaic.TcCoe Cert.Kernel4Ideal Cert.Kernel4Ideal.Gen
open Cert.Retention (qLane vLane gateE)

/-- Row `i` of chunk `c` among a grid point's 512 rows. -/
def gRow (c : Fin 8) (i : Fin 64) : Fin 512 := ⟨64 * c.val + i.val, by omega⟩
/-- Row `i` of part `n` of the stacked sums: the running sums, then the six levels' bases. -/
def sRow (n : Fin 7) (i : Fin 64) : Fin 448 := ⟨64 * n.val + i.val, by omega⟩

/-! ## The stacked sums of a chunk -/

/-- The rows of chunk `c` of the logarithms of the decays. -/
def chunkL (L : FVec Ideal S512x256 .f32) (c : Fin 8) : FVec Ideal S64x256 .f32 :=
  fun x => L (ix2 (gRow c (x 0)) (x 1))
/-- The sums over a chunk that the rows of `cr` select. -/
def stk (cr : FVec Ideal S448x64 .bf16) (l : FVec Ideal S64x256 .f32) : FVec Ideal S448x256 .f32 :=
  let hi := truncf .bf16 l bitsLt_bf16_f32
  let r := subf l (extf .f32 hi bitsLt_bf16_f32)
  let mid := truncf .bf16 r bitsLt_bf16_f32
  let lo := truncf .bf16 (subf r (extf .f32 mid bitsLt_bf16_f32)) bitsLt_bf16_f32
  let dot (x : FVec Ideal S64x256 .bf16) : FVec Ideal S448x256 .f32 :=
    matmul dot_S448x64_S64x256_S448x256_1_0_0_1_n_n none cr x (constant S448x256 .f32 0x00000000#32)
  addf (addf (dot hi) (dot mid)) (dot lo)

theorem chunkL_0 (L : FVec Ideal S512x256 .f32) : extractStridedSlice S64x256 ![0, 0] L slices_S512x256_o0_0_S64x256 = chunkL L 0 := by
  funext x; rw [eq_ix2 x]; pointwise [chunkL]; exact congrArg (fun q => L (ix2 q (x 1))) (Fin.ext (by simp [gRow]))
theorem chunkL_1 (L : FVec Ideal S512x256 .f32) : extractStridedSlice S64x256 ![64, 0] L slices_S512x256_o64_0_S64x256 = chunkL L 1 := by
  funext x; rw [eq_ix2 x]; pointwise [chunkL]; rfl
theorem chunkL_2 (L : FVec Ideal S512x256 .f32) : extractStridedSlice S64x256 ![128, 0] L slices_S512x256_o128_0_S64x256 = chunkL L 2 := by
  funext x; rw [eq_ix2 x]; pointwise [chunkL]; rfl
theorem chunkL_3 (L : FVec Ideal S512x256 .f32) : extractStridedSlice S64x256 ![192, 0] L slices_S512x256_o192_0_S64x256 = chunkL L 3 := by
  funext x; rw [eq_ix2 x]; pointwise [chunkL]; rfl
theorem chunkL_4 (L : FVec Ideal S512x256 .f32) : extractStridedSlice S64x256 ![256, 0] L slices_S512x256_o256_0_S64x256 = chunkL L 4 := by
  funext x; rw [eq_ix2 x]; pointwise [chunkL]; rfl
theorem chunkL_5 (L : FVec Ideal S512x256 .f32) : extractStridedSlice S64x256 ![320, 0] L slices_S512x256_o320_0_S64x256 = chunkL L 5 := by
  funext x; rw [eq_ix2 x]; pointwise [chunkL]; rfl
theorem chunkL_6 (L : FVec Ideal S512x256 .f32) : extractStridedSlice S64x256 ![384, 0] L slices_S512x256_o384_0_S64x256 = chunkL L 6 := by
  funext x; rw [eq_ix2 x]; pointwise [chunkL]; rfl
theorem chunkL_7 (L : FVec Ideal S512x256 .f32) : extractStridedSlice S64x256 ![448, 0] L slices_S512x256_o448_0_S64x256 = chunkL L 7 := by
  funext x; rw [eq_ix2 x]; pointwise [chunkL]; rfl

/-- The matrix of the sums' selections, and the masks of the pairs, of the row and column numbers. -/
def crV : FVec Ideal S448x64 .bf16 :=
  k0_pay25 (iota .tc S64x64 32 [0] iota_S64x64_d0_w32) (iota .tc S64x64 32 [1] iota_S64x64_d1_w32) (k0_pay14 (iota .tc S64x64 32 [0] iota_S64x64_d0_w32) (iota .tc S64x64 32 [1] iota_S64x64_d1_w32)) (k0_pay18 (k0_pay15 (iota .tc S64x64 32 [0] iota_S64x64_d0_w32) (iota .tc S64x64 32 [1] iota_S64x64_d1_w32)) k0_pay16 k0_pay17) (k0_pay19 (iota .tc S64x64 32 [0] iota_S64x64_d0_w32) (iota .tc S64x64 32 [1] iota_S64x64_d1_w32))
    (k0_pay20 (iota .tc S64x64 32 [0] iota_S64x64_d0_w32) (iota .tc S64x64 32 [1] iota_S64x64_d1_w32)) (k0_pay21 (iota .tc S64x64 32 [0] iota_S64x64_d0_w32) (iota .tc S64x64 32 [1] iota_S64x64_d1_w32)) (k0_pay22 (iota .tc S64x64 32 [0] iota_S64x64_d0_w32) (iota .tc S64x64 32 [1] iota_S64x64_d1_w32)) k0_pay23 k0_pay24
def maskV (n : Fin 7) : IVec S64x64 1 := match n with
  | 0 => k0_pay13 (iota .tc S64x64 32 [0] iota_S64x64_d0_w32) (iota .tc S64x64 32 [1] iota_S64x64_d1_w32)
  | 1 => k0_pay5
  | 2 => k0_pay6
  | 3 => k0_pay7
  | 4 => k0_pay10 (iota .tc S64x64 32 [0] iota_S64x64_d0_w32) (iota .tc S64x64 32 [1] iota_S64x64_d1_w32) k0_pay8 k0_pay9
  | 5 => k0_pay11 (iota .tc S64x64 32 [0] iota_S64x64_d0_w32) (iota .tc S64x64 32 [1] iota_S64x64_d1_w32)
  | 6 => k0_pay12 (iota .tc S64x64 32 [0] iota_S64x64_d0_w32) (iota .tc S64x64 32 [1] iota_S64x64_d1_w32)
/-- The stacked sums of chunk `c` of a grid point. -/
def sumV (a : Vec Ideal S512x128 .bf16) (w : Vec Ideal S128x256 .f32) (b : Vec Ideal S1x256 .f32) (c : Fin 8) : FVec Ideal S448x256 .f32 :=
  stk crV (chunkL (k0_pay27 (k0_pay26 w a) b) c)

section fold
variable (a : Vec Ideal S512x128 .bf16) (w : Vec Ideal S128x256 .f32) (b : Vec Ideal S1x256 .f32)
theorem cr_fold : k0_pay25 (F := Ideal) (iota .tc S64x64 32 [0] iota_S64x64_d0_w32) (iota .tc S64x64 32 [1] iota_S64x64_d1_w32) (k0_pay14 (iota .tc S64x64 32 [0] iota_S64x64_d0_w32) (iota .tc S64x64 32 [1] iota_S64x64_d1_w32)) (k0_pay18 (k0_pay15 (iota .tc S64x64 32 [0] iota_S64x64_d0_w32) (iota .tc S64x64 32 [1] iota_S64x64_d1_w32)) k0_pay16 k0_pay17) (k0_pay19 (iota .tc S64x64 32 [0] iota_S64x64_d0_w32) (iota .tc S64x64 32 [1] iota_S64x64_d1_w32))
    (k0_pay20 (iota .tc S64x64 32 [0] iota_S64x64_d0_w32) (iota .tc S64x64 32 [1] iota_S64x64_d1_w32)) (k0_pay21 (iota .tc S64x64 32 [0] iota_S64x64_d0_w32) (iota .tc S64x64 32 [1] iota_S64x64_d1_w32)) (k0_pay22 (iota .tc S64x64 32 [0] iota_S64x64_d0_w32) (iota .tc S64x64 32 [1] iota_S64x64_d1_w32)) k0_pay23 k0_pay24 = crV := rfl
theorem sum_0 : k0_pay28 crV (k0_pay26 w a) b = sumV a w b 0 := by rw [sumV, ← chunkL_0]; rfl
theorem sum_1 : k0_pay29 crV (k0_pay26 w a) b = sumV a w b 1 := by rw [sumV, ← chunkL_1]; rfl
theorem sum_2 : k0_pay36 crV (k0_pay34 (k0_pay26 w a) b) (k0_pay35 crV (k0_pay26 w a) b) = sumV a w b 2 := by rw [sumV, ← chunkL_2]; rfl
theorem sum_3 : k0_pay37 crV (k0_pay27 (k0_pay26 w a) b) = sumV a w b 3 := by rw [sumV, ← chunkL_3]; rfl
theorem sum_4 : k0_pay38 crV (k0_pay27 (k0_pay26 w a) b) = sumV a w b 4 := by rw [sumV, ← chunkL_4]; rfl
theorem sum_5 : k0_pay39 crV (k0_pay27 (k0_pay26 w a) b) = sumV a w b 5 := by rw [sumV, ← chunkL_5]; rfl
theorem sum_6 : k0_pay45 crV (k0_pay41 (k0_pay27 (k0_pay26 w a) b)) (k0_pay43 (k0_pay27 (k0_pay26 w a) b)) (k0_pay44 (k0_pay27 (k0_pay26 w a) b))
    (constant S448x256 .f32 0x00000000#32) = sumV a w b 6 := by rw [sumV, ← chunkL_6]; rfl
theorem sum_7 : k0_pay46 crV (k0_pay27 (k0_pay26 w a) b) = sumV a w b 7 := by rw [sumV, ← chunkL_7]; rfl
theorem mask_0 : k0_pay13 (iota .tc S64x64 32 [0] iota_S64x64_d0_w32) (iota .tc S64x64 32 [1] iota_S64x64_d1_w32) = maskV 0 := rfl
theorem mask_1 : k0_pay5 = maskV 1 := rfl
theorem mask_2 : k0_pay6 = maskV 2 := rfl
theorem mask_3 : k0_pay7 = maskV 3 := rfl
theorem mask_4 : k0_pay10 (iota .tc S64x64 32 [0] iota_S64x64_d0_w32) (iota .tc S64x64 32 [1] iota_S64x64_d1_w32) k0_pay8 k0_pay9 = maskV 4 := rfl
theorem mask_5 : k0_pay11 (iota .tc S64x64 32 [0] iota_S64x64_d0_w32) (iota .tc S64x64 32 [1] iota_S64x64_d1_w32) = maskV 5 := rfl
theorem mask_6 : k0_pay12 (iota .tc S64x64 32 [0] iota_S64x64_d0_w32) (iota .tc S64x64 32 [1] iota_S64x64_d1_w32) = maskV 6 := rfl
end fold

/-! ## One chunk -/

section chunk
variable (M : Fin 7 → Fin 64 → Fin 64 → BitVec 1) (T : Fin 448 → Fin 256 → EReal)
  (Q K : Fin 64 → Fin 256 → EReal) (V : Fin 64 → Fin 512 → EReal)

/-- The pairs of one level, each side weighted from the level's base. -/
def levE (n : Fin 7) (h : Fin 4) (i j : Fin 64) : EReal :=
  Scalar.select (M n i j) (∑ d, Q i (qLane h d) * Ideal.exp (min (T (sRow 0 i) (qLane h d) - T (sRow n i) (qLane h d)) 0)
    * (K j (qLane h d) * Ideal.exp (min (T (sRow n j) (qLane h d) - T (sRow 0 j) (qLane h d)) 0))) 0
/-- The weighted scores: a position with itself, then the six levels. -/
def scoreE (h : Fin 4) (i j : Fin 64) : EReal :=
  Scalar.select (M 0 i j) (∑ d, Q i (qLane h d) * K j (qLane h d)) 0
    + levE M T Q K 1 h i j + levE M T Q K 2 h i j + levE M T Q K 3 h i j
    + levE M T Q K 4 h i j + levE M T Q K 5 h i j + levE M T Q K 6 h i j
/-- A head's state after a chunk. -/
def stepE (S : Fin 4 → Fin 128 → Fin 64 → EReal) (h : Fin 4) (e : Fin 128) (d : Fin 64) : EReal :=
  Ideal.exp (T 63 (qLane h d)) * S h e d
    + ∑ j, V j (vLane h e) * (K j (qLane h d) * Ideal.exp (T 63 (qLane h d) - T (sRow 0 j) (qLane h d)))
/-- A head's rows before the normalisation: within the chunk, and from the state before it. -/
def mixE (S : Fin 4 → Fin 128 → Fin 64 → EReal) (h : Fin 4) (i : Fin 64) (e : Fin 128) : EReal :=
  (∑ j, scoreE M T Q K h i j * V j (vLane h e)) + ∑ d, Q i (qLane h d) * Ideal.exp (T (sRow 0 i) (qLane h d)) * S h e d
end chunk

/-! ## One grid point: eight chunks -/

section point
variable (x0 x1 : Vec Ideal S512x256 .bf16) (x2 x3 : Vec Ideal S512x512 .bf16) (x4 : Vec Ideal S512x128 .bf16)
  (x5 : Vec Ideal S128x256 .f32) (x6 : Vec Ideal S1x256 .f32) (xs0 : Vec Ideal S4x128x64 .f32)

def gM (n : Fin 7) (i j : Fin 64) : BitVec 1 := maskV n (ix2 i j)
def gT (c : Fin 8) (r : Fin 448) (l : Fin 256) : EReal := sumV x4 x5 x6 c (ix2 r l)
def gQ (c : Fin 8) (i : Fin 64) (l : Fin 256) : EReal := x0 (ix2 (gRow c i) l) * Ideal.ofBits .f32 0x3E000000#32
def gK (c : Fin 8) (i : Fin 64) (l : Fin 256) : EReal := x1 (ix2 (gRow c i) l)
def gV (c : Fin 8) (i : Fin 64) (w : Fin 512) : EReal := x2 (ix2 (gRow c i) w)
/-- The state before chunk `c` of the point. -/
def gS : ℕ → Fin 4 → Fin 128 → Fin 64 → EReal
  | 0 => fun h e d => xs0 (ix3 h e d)
  | c + 1 => stepE (gT x4 x5 x6 (Fin.ofNat 8 c)) (gK x1 (Fin.ofNat 8 c)) (gV x2 (Fin.ofNat 8 c)) (gS c)
/-- What the point leaves in its output block. -/
def gOut (c : Fin 8) (h : Fin 4) (i : Fin 64) (e : Fin 128) : EReal :=
  gateE (mixE gM (gT x4 x5 x6 c) (gQ x0 c) (gK x1 c) (gV x2 c) (gS x1 x2 x4 x5 x6 xs0 c.val) h i) (x3 (ix2 (gRow c i) (vLane h e))) e

theorem gS_0 : gS x1 x2 x4 x5 x6 xs0 0 = fun h e d => xs0 (ix3 h e d) := rfl
theorem gS_1 : gS x1 x2 x4 x5 x6 xs0 1 = stepE (gT x4 x5 x6 0) (gK x1 0) (gV x2 0) (gS x1 x2 x4 x5 x6 xs0 0) := rfl
theorem gS_2 : gS x1 x2 x4 x5 x6 xs0 2 = stepE (gT x4 x5 x6 1) (gK x1 1) (gV x2 1) (gS x1 x2 x4 x5 x6 xs0 1) := rfl
theorem gS_3 : gS x1 x2 x4 x5 x6 xs0 3 = stepE (gT x4 x5 x6 2) (gK x1 2) (gV x2 2) (gS x1 x2 x4 x5 x6 xs0 2) := rfl
theorem gS_4 : gS x1 x2 x4 x5 x6 xs0 4 = stepE (gT x4 x5 x6 3) (gK x1 3) (gV x2 3) (gS x1 x2 x4 x5 x6 xs0 3) := rfl
theorem gS_5 : gS x1 x2 x4 x5 x6 xs0 5 = stepE (gT x4 x5 x6 4) (gK x1 4) (gV x2 4) (gS x1 x2 x4 x5 x6 xs0 4) := rfl
theorem gS_6 : gS x1 x2 x4 x5 x6 xs0 6 = stepE (gT x4 x5 x6 5) (gK x1 5) (gV x2 5) (gS x1 x2 x4 x5 x6 xs0 5) := rfl
theorem gS_7 : gS x1 x2 x4 x5 x6 xs0 7 = stepE (gT x4 x5 x6 6) (gK x1 6) (gV x2 6) (gS x1 x2 x4 x5 x6 xs0 6) := rfl
theorem gS_8 : gS x1 x2 x4 x5 x6 xs0 8 = stepE (gT x4 x5 x6 7) (gK x1 7) (gV x2 7) (gS x1 x2 x4 x5 x6 xs0 7) := rfl
end point

/-! ## Rows at each chunk and part -/

theorem fin8_0 : ((((0 : Fin 8)) : ℕ)) = 0 := rfl
theorem fin8_1 : ((((1 : Fin 8)) : ℕ)) = 1 := rfl
theorem fin8_2 : ((((2 : Fin 8)) : ℕ)) = 2 := rfl
theorem fin8_3 : ((((3 : Fin 8)) : ℕ)) = 3 := rfl
theorem fin8_4 : ((((4 : Fin 8)) : ℕ)) = 4 := rfl
theorem fin8_5 : ((((5 : Fin 8)) : ℕ)) = 5 := rfl
theorem fin8_6 : ((((6 : Fin 8)) : ℕ)) = 6 := rfl
theorem fin8_7 : ((((7 : Fin 8)) : ℕ)) = 7 := rfl
theorem gRow_0 (i : Fin 64) : gRow 0 i = ⟨i.val, by omega⟩ := Fin.ext (Nat.zero_add _)
theorem gRow_1 (i : Fin 64) : gRow 1 i = ⟨64 + i.val, by omega⟩ := rfl
theorem gRow_2 (i : Fin 64) : gRow 2 i = ⟨128 + i.val, by omega⟩ := rfl
theorem gRow_3 (i : Fin 64) : gRow 3 i = ⟨192 + i.val, by omega⟩ := rfl
theorem gRow_4 (i : Fin 64) : gRow 4 i = ⟨256 + i.val, by omega⟩ := rfl
theorem gRow_5 (i : Fin 64) : gRow 5 i = ⟨320 + i.val, by omega⟩ := rfl
theorem gRow_6 (i : Fin 64) : gRow 6 i = ⟨384 + i.val, by omega⟩ := rfl
theorem gRow_7 (i : Fin 64) : gRow 7 i = ⟨448 + i.val, by omega⟩ := rfl
theorem sRow_0 (i : Fin 64) : sRow 0 i = ⟨i.val, by omega⟩ := Fin.ext (Nat.zero_add _)
theorem sRow_1 (i : Fin 64) : sRow 1 i = ⟨64 + i.val, by omega⟩ := rfl
theorem sRow_2 (i : Fin 64) : sRow 2 i = ⟨128 + i.val, by omega⟩ := rfl
theorem sRow_3 (i : Fin 64) : sRow 3 i = ⟨192 + i.val, by omega⟩ := rfl
theorem sRow_4 (i : Fin 64) : sRow 4 i = ⟨256 + i.val, by omega⟩ := rfl
theorem sRow_5 (i : Fin 64) : sRow 5 i = ⟨320 + i.val, by omega⟩ := rfl
theorem sRow_6 (i : Fin 64) : sRow 6 i = ⟨384 + i.val, by omega⟩ := rfl

end Cert.Gla
end
-- ==== Proof.GlaPoint.lean ====
module

public import proofs.«01_k».proof.Proof.GlaBlock

@[expose] public section
set_option maxRecDepth 16384
noncomputable section
namespace Cert.Gla
open Idealize.ShloMosaic Idealize.ShloMosaic.TcCoe Cert.Kernel4Ideal Cert.Kernel4Ideal.Gen
open Cert.Retention (qLane vLane gateE)

variable (c : Dev nD) (i : grid0.Coords) (arg1 : Memref sig .tc .vmem S512x256 .bf16) (harg1 : arg1.IsWhole) (arg2 : Memref sig .tc .vmem S512x256 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x128 .bf16) (harg5 : arg5.IsWhole) (arg6 : Memref sig .tc .vmem S128x256 .f32) (harg6 : arg6.IsWhole) (arg7 : Memref sig .tc .vmem S1x256 .f32) (harg7 : arg7.IsWhole) (arg8 : Memref sig .tc .vmem S512x512 .bf16) (harg8 : arg8.IsWhole) (arg9 : Memref sig .tc .vmem S4x128x64 .f32) (harg9 : arg9.IsWhole)
    (x0 x1 : Vec Ideal S512x256 .bf16) (x2 x3 : Vec Ideal S512x512 .bf16) (x4 : Vec Ideal S512x128 .bf16) (x5 : Vec Ideal S128x256 .f32) (x6 : Vec Ideal S1x256 .f32) (xs0 : Vec Ideal S4x128x64 .f32)

set_option maxHeartbeats 4000000
/-- After a point that carries the state, the state is the eight chunks' steps from the one before. -/
theorem state_B (hc0 : ¬cond0_0 i) (h : Fin 4) (e : Fin 128) (d : Fin 64) :
   sout0_B_0 c i arg1 harg1 arg2 harg2 arg3 harg3 arg4 harg4 arg5 harg5 arg6 harg6 arg7 harg7 arg8 harg8 arg9 harg9 hc0 x0 x1 x2 x3 x4 x5 x6 xs0 (ix3 h e d)
     = gS x1 x2 x4 x5 x6 xs0 8 h e d := by
  unfold sout0_B_0
  frame_open
  simp (disch := decide) only [↓ View.readCov_skip, ↓ View.readCov_cons_toLoadRect, ↓ View.readCov_fill]
  frame_out
  canon_tiles x hx
  all_goals
    obtain ⟨z, a, b, rfl⟩ : ∃ (z : Fin 1) (a : Fin 128) (b : Fin 64), x = ix3 z a b := ⟨x 0, x 1, x 2, eq_ix3 x⟩
    obtain rfl : e = a := Fin.ext hx1
    obtain rfl : d = b := Fin.ext hx2
    change h.val = _ at hx0
    change z.val < 1 at x0_lt
    simp only [show ((ix3 z e d) 0).val = z.val from rfl] at hx0
    first
      | (have hh : h = 0 := Fin.ext (by show h.val = 0; omega); subst hh)
      | (have hh : h = 1 := Fin.ext (by show h.val = 1; omega); subst hh)
      | (have hh : h = 2 := Fin.ext (by show h.val = 2; omega); subst hh)
      | (have hh : h = 3 := Fin.ext (by show h.val = 3; omega); subst hh)
    rw [cr_fold]
    simp only [sum_0, sum_1, sum_2, sum_3, sum_4, sum_5, sum_6, sum_7]
    pointwise [k0_pay1, k0_pay2, k0_pay3, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay466, k0_pay467, k0_pay468, k0_pay469, k0_pay470, k0_pay471, k0_pay472, k0_pay473, k0_pay474, k0_pay475, k0_pay476, k0_pay477, k0_pay478, k0_pay479, k0_pay480, k0_pay481, k0_pay482, k0_pay483, k0_pay484, k0_pay485, k0_pay486, k0_pay487, k0_pay488, k0_pay489, k0_pay490, k0_pay491, k0_pay492, k0_pay493, k0_pay494, k0_pay495, k0_pay496, k0_pay497, k0_pay498, k0_pay499, k0_pay500, k0_pay501, k0_pay502, k0_pay503, k0_pay504, k0_pay505, k0_pay506, k0_pay507, k0_pay508, k0_pay509, k0_pay510, k0_pay511, k0_pay512, k0_pay513, k0_pay514, k0_pay515, k0_pay516, k0_pay517, k0_pay518, k0_pay519, k0_pay520, k0_pay521, k0_pay522, k0_pay523, k0_pay524, k0_pay525, k0_pay526, k0_pay527, k0_pay528, k0_pay529, k0_pay530, k0_pay531, k0_pay532, k0_pay533, k0_pay534, k0_pay535, k0_pay536, k0_pay537, k0_pay538, k0_pay539, k0_pay540, k0_pay541, k0_pay542, k0_pay543, k0_pay544, k0_pay545, k0_pay546, k0_pay547, k0_pay548, k0_pay549, k0_pay550, k0_pay551, k0_pay552, k0_pay553, k0_pay554, k0_pay555, k0_pay556, k0_pay557, k0_pay558, k0_pay559, k0_pay560, k0_pay561, k0_pay562, k0_pay563, k0_pay564, k0_pay565, k0_pay566, k0_pay567, k0_pay568, k0_pay569, k0_pay570, k0_pay571, k0_pay572, k0_pay573, k0_pay574, k0_pay575]
    simp only [gS_0, gS_1, gS_2, gS_3, gS_4, gS_5, gS_6, gS_7, gS_8, stepE, gT, gK, gV, fin8_0, fin8_1, fin8_2, fin8_3, fin8_4, fin8_5, fin8_6, fin8_7, gRow_0, gRow_1, gRow_2, gRow_3, gRow_4, gRow_5, gRow_6, gRow_7, sRow_0, sRow_1, sRow_2, sRow_3, sRow_4, sRow_5, sRow_6, Cert.Retention.qLane_0, Cert.Retention.qLane_1, Cert.Retention.qLane_2, Cert.Retention.qLane_3, Cert.Retention.vLane_0, Cert.Retention.vLane_1, Cert.Retention.vLane_2, Cert.Retention.vLane_3]

/-- At a point that carries the state, the block written. -/
theorem out_B (hc0 : ¬cond0_0 i) (ch : Fin 8) (h : Fin 4) (r : Fin 64) (e : Fin 128) :
   out0_B_7 c i arg1 harg1 arg2 harg2 arg3 harg3 arg4 harg4 arg5 harg5 arg6 harg6 arg7 harg7 arg8 harg8 arg9 harg9 hc0 x0 x1 x2 x3 x4 x5 x6 xs0 (ix2 (gRow ch r) (vLane h e))
     = gOut x0 x1 x2 x3 x4 x5 x6 xs0 ch h r e := by
  unfold out0_B_7
  frame_open
  simp (disch := decide) only [↓ View.readCov_skip, ↓ View.readCov_cons_toLoadRect, ↓ View.readCov_fill]
  frame_out
  canon_tiles x hx
  all_goals
    obtain ⟨a, b, rfl⟩ : ∃ (a : Fin 64) (b : Fin 128), x = ix2 a b := ⟨x 0, x 1, eq_ix2 x⟩
    change 64 * ch.val + r.val = _ at hx0
    change 128 * h.val + e.val = _ at hx1
    simp only [show ((ix2 a b) 0).val = a.val from rfl] at hx0
    simp only [show ((ix2 a b) 1).val = b.val from rfl] at hx1
    first
      | (have hh : ch = 0 := Fin.ext (by show ch.val = 0; omega); subst hh)
      | (have hh : ch = 1 := Fin.ext (by show ch.val = 1; omega); subst hh)
      | (have hh : ch = 2 := Fin.ext (by show ch.val = 2; omega); subst hh)
      | (have hh : ch = 3 := Fin.ext (by show ch.val = 3; omega); subst hh)
      | (have hh : ch = 4 := Fin.ext (by show ch.val = 4; omega); subst hh)
      | (have hh : ch = 5 := Fin.ext (by show ch.val = 5; omega); subst hh)
      | (have hh : ch = 6 := Fin.ext (by show ch.val = 6; omega); subst hh)
      | (have hh : ch = 7 := Fin.ext (by show ch.val = 7; omega); subst hh)
    first
      | (have hh : h = 0 := Fin.ext (by show h.val = 0; omega); subst hh)
      | (have hh : h = 1 := Fin.ext (by show h.val = 1; omega); subst hh)
      | (have hh : h = 2 := Fin.ext (by show h.val = 2; omega); subst hh)
      | (have hh : h = 3 := Fin.ext (by show h.val = 3; omega); subst hh)
    obtain rfl : r = a := Fin.ext (by omega)
    obtain rfl : e = b := Fin.ext (by omega)
    rw [cr_fold, mask_0, mask_4, mask_5, mask_6]
    simp only [mask_1, mask_2, mask_3, sum_0, sum_1, sum_2, sum_3, sum_4, sum_5, sum_6, sum_7]
    pointwise [k0_pay1, k0_pay2, k0_pay3, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay466, k0_pay467, k0_pay468, k0_pay469, k0_pay470, k0_pay471, k0_pay472, k0_pay473, k0_pay474, k0_pay475, k0_pay476, k0_pay477, k0_pay478, k0_pay479, k0_pay480, k0_pay481, k0_pay482, k0_pay483, k0_pay484, k0_pay485, k0_pay486, k0_pay487, k0_pay488, k0_pay489, k0_pay490, k0_pay491, k0_pay492, k0_pay493, k0_pay494, k0_pay495, k0_pay496, k0_pay497, k0_pay498, k0_pay499, k0_pay500, k0_pay501, k0_pay502, k0_pay503, k0_pay504, k0_pay505, k0_pay506, k0_pay507, k0_pay508, k0_pay509, k0_pay510, k0_pay511, k0_pay512, k0_pay513, k0_pay514, k0_pay515, k0_pay516, k0_pay517, k0_pay518, k0_pay519, k0_pay520, k0_pay521, k0_pay522, k0_pay523, k0_pay524, k0_pay525, k0_pay526, k0_pay527, k0_pay528, k0_pay529, k0_pay530, k0_pay531, k0_pay532, k0_pay533, k0_pay534, k0_pay535, k0_pay536, k0_pay537, k0_pay538, k0_pay539, k0_pay540, k0_pay541, k0_pay542, k0_pay543, k0_pay544, k0_pay545, k0_pay546, k0_pay547, k0_pay548, k0_pay549, k0_pay550, k0_pay551, k0_pay552, k0_pay553, k0_pay554, k0_pay555, k0_pay556, k0_pay557, k0_pay558, k0_pay559, k0_pay560, k0_pay561, k0_pay562, k0_pay563, k0_pay564, k0_pay565, k0_pay566, k0_pay567, k0_pay568, k0_pay569, k0_pay570, k0_pay571, k0_pay572, k0_pay573, k0_pay574, k0_pay575]
    simp only [gOut, gateE, mixE, scoreE, levE, gS_0, gS_1, gS_2, gS_3, gS_4, gS_5, gS_6, gS_7, gS_8, stepE, gM, gT, gQ, gK, gV, fin8_0, fin8_1, fin8_2, fin8_3, fin8_4, fin8_5, fin8_6, fin8_7, gRow_0, gRow_1, gRow_2, gRow_3, gRow_4, gRow_5, gRow_6, gRow_7, sRow_0, sRow_1, sRow_2, sRow_3, sRow_4, sRow_5, sRow_6, Cert.Retention.qLane_0, Cert.Retention.qLane_1, Cert.Retention.qLane_2, Cert.Retention.qLane_3, Cert.Retention.vLane_0, Cert.Retention.vLane_1, Cert.Retention.vLane_2, Cert.Retention.vLane_3]

end Cert.Gla
end
-- ==== Proof.GlaSums.lean ====
module

public import proofs.«01_k».proof.Proof.GlaBlock

@[expose] public section
set_option maxRecDepth 16384
noncomputable section
namespace Cert.Gla
open Idealize.ShloMosaic Idealize.ShloMosaic.TcCoe Cert.Kernel4Ideal Cert.Kernel4Ideal.Gen
open Cert.Retention (qLane vLane gateE)

/-- The pairs of position `i` with position `j` that part `n` takes: a position with itself; then, at each of the six
block sizes, the pairs of one block's second half with its first. -/
def lvl (n : Fin 7) (i j : Fin 64) : Bool :=
  if n = 0 then i.val == j.val
  else i.val >>> (7 - n.val) == j.val >>> (7 - n.val) && Nat.testBit i.val (6 - n.val) && !Nat.testBit j.val (6 - n.val)
/-- The last position that row `i` of part `n` of the stacked sums takes in: itself, or the last of its block's first half. -/
def bnd (n : Fin 7) (i : Fin 64) : ℕ :=
  if n = 0 then i.val else (i.val >>> (7 - n.val)) <<< (7 - n.val) + (2 ^ (6 - n.val) - 1)

theorem mask_iff (n : Fin 7) (i j : Fin 64) : (gM n i j = 1) ↔ lvl n i j = true := by
  revert n; intro n
  fin_cases n
  · show maskV 0 (ix2 i j) = 1 ↔ _
    rw [← mask_0]
    pointwise [k0_pay13]
    revert i j; decide +kernel
  · show maskV 1 (ix2 i j) = 1 ↔ _
    rw [← mask_1]
    pointwise [k0_pay5]
    revert i j; decide +kernel
  · show maskV 2 (ix2 i j) = 1 ↔ _
    rw [← mask_2]
    pointwise [k0_pay6]
    revert i j; decide +kernel
  · show maskV 3 (ix2 i j) = 1 ↔ _
    rw [← mask_3]
    pointwise [k0_pay7]
    revert i j; decide +kernel
  · show maskV 4 (ix2 i j) = 1 ↔ _
    rw [← mask_4]
    pointwise [k0_pay10, k0_pay8, k0_pay9]
    revert i j; decide +kernel
  · show maskV 5 (ix2 i j) = 1 ↔ _
    rw [← mask_5]
    pointwise [k0_pay11]
    revert i j; decide +kernel
  · show maskV 6 (ix2 i j) = 1 ↔ _
    rw [← mask_6]
    pointwise [k0_pay12]
    revert i j; decide +kernel

theorem one_part : ∀ i j : Fin 64, (j ≤ i ∧ ∃ m : Fin 7, ∀ n, lvl n i j = decide (n = m)) ∨ (¬j ≤ i ∧ ∀ n, lvl n i j = false) := by
  decide +kernel

theorem bnd_between : ∀ (n : Fin 7) (i j : Fin 64), lvl n i j = true → bnd n i = bnd n j ∧ j.val ≤ bnd n i ∧ bnd n i ≤ i.val := by
  decide +kernel

theorem select_iff {α : Type} {c : BitVec 1} {p : Prop} [Decidable p] (h : (c = 1) ↔ p) (x y : α) : Scalar.select c x y = if p then x else y :=
  if_congr h rfl rfl

theorem cr_at (n : Fin 7) (i j : Fin 64) : crV (ix2 (sRow n i) j) = if j.val ≤ bnd n i then 1 else 0 := by
  unfold crV
  fin_cases n
  · show k0_pay25 _ _ _ _ _ _ _ _ _ _ (ix2 (sRow 0 i) j) = _
    rw [sRow_0]
    pointwise [k0_pay25, k0_pay14]
    refine select_iff ?_ 1 0
    revert i j; decide +kernel
  · show k0_pay25 _ _ _ _ _ _ _ _ _ _ (ix2 (sRow 1 i) j) = _
    rw [sRow_1]
    pointwise [k0_pay25, k0_pay15, k0_pay18, k0_pay16, k0_pay17]
    refine select_iff ?_ 1 0
    revert i j; decide +kernel
  · show k0_pay25 _ _ _ _ _ _ _ _ _ _ (ix2 (sRow 2 i) j) = _
    rw [sRow_2]
    pointwise [k0_pay25, k0_pay19]
    refine (dif_neg (by omega)).trans ?_
    refine (dif_neg (by omega)).trans ?_
    refine (dif_pos (by omega)).trans ?_
    refine select_iff ?_ 1 0
    revert i j; decide +kernel
  · show k0_pay25 _ _ _ _ _ _ _ _ _ _ (ix2 (sRow 3 i) j) = _
    rw [sRow_3]
    pointwise [k0_pay25, k0_pay20]
    refine (dif_neg (by omega)).trans ?_
    refine (dif_neg (by omega)).trans ?_
    refine (dif_neg (by omega)).trans ?_
    refine (dif_pos (by omega)).trans ?_
    refine select_iff ?_ 1 0
    revert i j; decide +kernel
  · show k0_pay25 _ _ _ _ _ _ _ _ _ _ (ix2 (sRow 4 i) j) = _
    rw [sRow_4]
    pointwise [k0_pay25, k0_pay21]
    refine (dif_neg (by omega)).trans ?_
    refine (dif_neg (by omega)).trans ?_
    refine (dif_neg (by omega)).trans ?_
    refine (dif_neg (by omega)).trans ?_
    refine (dif_pos (by omega)).trans ?_
    refine select_iff ?_ 1 0
    revert i j; decide +kernel
  · show k0_pay25 _ _ _ _ _ _ _ _ _ _ (ix2 (sRow 5 i) j) = _
    rw [sRow_5]
    pointwise [k0_pay25, k0_pay22, k0_pay23, k0_pay24]
    refine (dif_neg (by omega)).trans ?_
    refine (dif_neg (by omega)).trans ?_
    refine (dif_neg (by omega)).trans ?_
    refine (dif_neg (by omega)).trans ?_
    refine (dif_neg (by omega)).trans ?_
    refine (dif_pos (by omega)).trans ?_
    refine select_iff ?_ 1 0
    revert i j; decide +kernel
  · show k0_pay25 _ _ _ _ _ _ _ _ _ _ (ix2 (sRow 6 i) j) = _
    rw [sRow_6]
    pointwise [k0_pay25]
    refine (dif_neg (by omega)).trans ?_
    refine (dif_neg (by omega)).trans ?_
    refine (dif_neg (by omega)).trans ?_
    refine (dif_neg (by omega)).trans ?_
    refine (dif_neg (by omega)).trans ?_
    refine (dif_neg (by omega)).trans ?_
    refine select_iff ?_ 1 0
    revert i j; decide +kernel

end Cert.Gla
end
-- ==== Proof.GlaMath.lean ====
module

public import proofs.«01_k».proof.Proof.GlaSums

@[expose] public section
set_option maxRecDepth 16384
noncomputable section
namespace Cert.Gla
open Idealize.ShloMosaic Idealize.ShloMosaic.TcCoe Cert.Kernel4Ideal Cert.Kernel4Ideal.Gen
open Cert.Retention (qLane vLane gateE)

/-! ## The logarithms of the decays -/

/-- A sixteenth of the logarithm of the logistic function. -/
def lsR (z : ℝ) : ℝ := (min z 0 - Real.log (1 + Real.exp (-|z|))) * (1 / 16)

theorem lsR_nonpos (z : ℝ) : lsR z ≤ 0 := by
  have h : 0 ≤ Real.log (1 + Real.exp (-|z|)) := Real.log_nonneg (by linarith [Real.exp_pos (-|z|)])
  unfold lsR
  nlinarith [min_le_right z 0]

theorem log1p_exp (y : ℝ) : Ideal.log1p (Ideal.exp (y : EReal)) = (Real.log (1 + Real.exp y) : EReal) := by
  have h := Real.exp_pos y
  unfold Ideal.log1p
  rw [Ideal.exp_coe, ← EReal.coe_one, ← EReal.coe_add, Ideal.log_coe, if_neg (by linarith)]

theorem ofBits_sixteenth : Ideal.ofBits .f32 0x3D800000#32 = (((1 : ℝ) / 16 : ℝ) : EReal) := by
  simp [Ideal.ofBits, Ideal.ieee, -EReal.coe_mul]; norm_num

theorem coe_min (x y : ℝ) : ((min x y : ℝ) : EReal) = min (x : EReal) y := EReal.coe_strictMono.monotone.map_min
theorem coe_max (x y : ℝ) : ((max x y : ℝ) : EReal) = max (x : EReal) y := EReal.coe_strictMono.monotone.map_max
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The kernel's logarithm of a decay. -/
theorem log_decay (z : ℝ) :
    (min (z : EReal) 0 - Ideal.log1p (Ideal.exp (0 - max (z : EReal) (-z)))) * Ideal.ofBits .f32 0x3D800000#32 = (lsR z : EReal) := by
  rw [ofBits_sixteenth, ← EReal.coe_neg, ← coe_max, ← EReal.coe_zero, ← EReal.coe_sub, log1p_exp, ← coe_min, ← EReal.coe_sub, ← EReal.coe_mul, zero_sub]
  rfl

/-- A finite value, or a weight of zero on the other side. -/
def Tame (x y : EReal) : Prop := ((∃ r : ℝ, x = r) ∧ ∃ r : ℝ, y = r) ∨ y = 0

theorem Tame.right {x y : EReal} (h : Tame x y) : y - y = 0 := by
  rcases h with ⟨-, r, rfl⟩ | rfl
  · rw [← EReal.coe_sub, sub_self, EReal.coe_zero]
  · exact sub_self_zero
where sub_self_zero : (0 : EReal) - 0 = 0 := by rw [← EReal.coe_zero, ← EReal.coe_sub, sub_self]
theorem Tame.left {x y : EReal} (h : Tame x y) : (x - x) * y = 0 := by
  rcases h with ⟨⟨r, rfl⟩, -⟩ | rfl
  · rw [← EReal.coe_sub, sub_self, EReal.coe_zero, zero_mul]
  · exact mul_zero _
theorem Tame.left' {x y : EReal} (h : Tame x y) : (x - x - (x - x)) * y = 0 := by
  rcases h with ⟨⟨r, rfl⟩, -⟩ | rfl
  · rw [← EReal.coe_sub, sub_self, EReal.coe_zero, Tame.right.sub_self_zero, zero_mul]
  · exact mul_zero _

/-- The product of the two triples of parts is the plain product. -/
theorem z_at (a : Vec Ideal S512x128 .bf16) (w : Vec Ideal S128x256 .f32) (r : Fin 512) (l : Fin 256)
    (H : ∀ k, Tame (a (ix2 r k)) (w (ix2 k l))) : k0_pay26 w a (ix2 r l) = ∑ k, a (ix2 r k) * w (ix2 k l) := by
  pointwise [k0_pay26]
  have e0 : (0 : EReal) - 0 = 0 := Tame.right.sub_self_zero
  simp only [(H _).right, (H _).left, (H _).left', e0, mul_zero, Finset.sum_const_zero, add_zero]

theorem log_at (v : FVec Ideal S512x256 .f32) (b : Vec Ideal S1x256 .f32) (r : Fin 512) (l : Fin 256) (z : ℝ)
    (H : v (ix2 r l) + b (ix2 0 l) = z) : k0_pay27 v b (ix2 r l) = (lsR z : EReal) := by
  pointwise [k0_pay27]
  rw [H]
  exact log_decay z

/-! ## The sums over a chunk -/

/-- The sum of the entries of `A` up to position `x`. -/
def cum (A : Fin 64 → ℝ) (x : ℕ) : ℝ := ∑ j : Fin 64, if j.val ≤ x then A j else 0

theorem cum_anti (A : Fin 64 → ℝ) (hA : ∀ j, A j ≤ 0) {x y : ℕ} (h : x ≤ y) : cum A y ≤ cum A x := by
  refine Finset.sum_le_sum fun j _ => ?_
  by_cases h1 : j.val ≤ x
  · rw [if_pos h1, if_pos (h1.trans h)]
  · rw [if_neg h1]; split_ifs <;> first | exact hA j | exact le_rfl

theorem stk_at (L : FVec Ideal S64x256 .f32) (A : Fin 64 → ℝ) (l : Fin 256) (H : ∀ j, L (ix2 j l) = (A j : EReal)) (n : Fin 7) (i : Fin 64) :
    stk crV L (ix2 (sRow n i) l) = (cum A (bnd n i) : EReal) := by
  pointwise [stk]
  have e0 : (0 : EReal) - 0 = 0 := Tame.right.sub_self_zero
  have e1 : ∀ j, (A j : EReal) - A j = 0 := fun j => by rw [← EReal.coe_sub, sub_self, EReal.coe_zero]
  simp only [H, e1, e0, mul_zero, Finset.sum_const_zero, add_zero, cr_at]
  rw [cum, coe_sum]
  refine Finset.sum_congr rfl fun j _ => ?_
  split_ifs
  · exact one_mul _
  · exact zero_mul _

/-! ## The weighted scores -/

/-- The weighted scores, plainly. -/
def sScore (A : Fin 64 → Fin 256 → ℝ) (Q K : Fin 64 → Fin 256 → EReal) (h : Fin 4) (i j : Fin 64) : EReal :=
  if j ≤ i then ∑ d, Q i (qLane h d) * K j (qLane h d)
    * (Real.exp (cum (fun j => A j (qLane h d)) i.val - cum (fun j => A j (qLane h d)) j.val) : ℝ) else 0

theorem bnd_zero (i : Fin 64) : bnd 0 i = i.val := rfl

/-- Weighting each side from a base between the two weights the pair by the decay between them. -/
theorem two_sides (q k : EReal) {s b t : ℝ} (h1 : s ≤ b) (h2 : b ≤ t) :
    q * Ideal.exp (min ((s : EReal) - b) 0) * (k * Ideal.exp (min ((b : EReal) - t) 0)) = q * k * (Real.exp (s - t) : ℝ) := by
  have e1 : min ((s : EReal) - b) 0 = ((s - b : ℝ) : EReal) := by
    rw [← EReal.coe_sub, ← EReal.coe_zero, ← coe_min, min_eq_left (by linarith)]
  have e2 : min ((b : EReal) - t) 0 = ((b - t : ℝ) : EReal) := by
    rw [← EReal.coe_sub, ← EReal.coe_zero, ← coe_min, min_eq_left (by linarith)]
  rw [e1, e2, Ideal.exp_coe, Ideal.exp_coe, mul_mul_mul_comm, ← EReal.coe_mul, ← Real.exp_add]
  congr 3
  ring

section
variable (A : Fin 64 → Fin 256 → ℝ) (hA : ∀ j l, A j l ≤ 0) (T : Fin 448 → Fin 256 → EReal)
  (hT : ∀ n i l, T (sRow n i) l = (cum (fun j => A j l) (bnd n i) : EReal)) (Q K : Fin 64 → Fin 256 → EReal) (h : Fin 4) (i j : Fin 64)
include hA hT

theorem lev_at (n : Fin 7) : levE gM T Q K n h i j = if lvl n i j = true then ∑ d, Q i (qLane h d) * K j (qLane h d)
    * (Real.exp (cum (fun j => A j (qLane h d)) i.val - cum (fun j => A j (qLane h d)) j.val) : ℝ) else 0 := by
  unfold levE
  rw [select_iff (mask_iff n i j)]
  by_cases hl : lvl n i j = true
  · rw [if_pos hl, if_pos hl]
    obtain ⟨hb, hj, hi⟩ := bnd_between n i j hl
    refine Finset.sum_congr rfl fun d _ => ?_
    rw [hT, hT, hT, hT, ← hb, bnd_zero, bnd_zero]
    exact two_sides _ _ (cum_anti _ (fun j => hA j _) hi) (cum_anti _ (fun j => hA j _) hj)
  · rw [if_neg hl, if_neg hl]

theorem score_at : scoreE gM T Q K h i j = sScore A Q K h i j := by
  unfold scoreE sScore
  have hd : Scalar.select (gM 0 i j) (∑ d, Q i (qLane h d) * K j (qLane h d)) 0 = if lvl 0 i j = true then ∑ d, Q i (qLane h d) * K j (qLane h d)
    * ((Real.exp (cum (fun j => A j (qLane h d)) i.val - cum (fun j => A j (qLane h d)) j.val) : ℝ) : EReal) else 0 := by
    rw [select_iff (mask_iff 0 i j)]
    by_cases hl : lvl 0 i j = true
    · have e : i = j := Fin.ext (by simpa [lvl] using hl)
      subst e
      rw [if_pos hl, if_pos hl]
      refine Finset.sum_congr rfl fun d _ => ?_
      rw [sub_self, Real.exp_zero, EReal.coe_one, mul_one]
    · rw [if_neg hl, if_neg hl]
  rw [hd]
  simp only [lev_at A hA T hT]
  rcases one_part i j with ⟨hj, m, hm⟩ | ⟨hj, hm⟩
  · rw [if_pos hj]
    simp only [hm]
    fin_cases m <;> simp
  · rw [if_neg hj]
    simp [hm]
end

end Cert.Gla
end
-- ==== Proof.GlaSeq.lean ====
module

public import proofs.«01_k».proof.Proof.GlaPoint
public import proofs.«01_k».proof.Proof.GlaMath
public import proofs.«01_k».proof.Proof.First
public import Idealize.ShloMosaic.Lib.StableHlo.RunClose
public import proofs.«01_k».proof.Proof.Gen.Kernel4Ideal.Value

@[expose] public section
set_option maxRecDepth 16384
noncomputable section
namespace Cert.Gla
open Idealize.ShloMosaic Idealize.ShloMosaic.TcCoe Cert.Kernel4Ideal Cert.Kernel4Ideal.Gen
open Idealize.ShloMosaic.Tactic Idealize.ShloMosaic.StableHlo
open Cert.Retention (qLane vLane gateE canon_append_cover)

/-! ## The whole sequence: 256 chunks of 64 rows -/

/-- Row `i` of chunk `n` of the sequence. -/
def row (n : ℕ) (i : Fin 64) : Fin 16384 := Fin.ofNat 16384 (64 * n + i.val)
/-- The columns of the projections that hold the queries, keys, values, gates, and the decays' inputs. -/
def qCol (l : Fin 256) : Fin 8192 := ⟨6656 + l.val, by omega⟩
def kCol (l : Fin 256) : Fin 8192 := ⟨6912 + l.val, by omega⟩
def vCol (w : Fin 512) : Fin 8192 := ⟨5632 + w.val, by omega⟩
def gCol (w : Fin 512) : Fin 8192 := ⟨6144 + w.val, by omega⟩
def wCol (k : Fin 128) : Fin 8192 := ⟨7808 + k.val, by omega⟩
def aCol (k : Fin 16) : Fin 8192 := ⟨7808 + k.val, by omega⟩

section
variable (p : (⟨2, ![16384, 8192]⟩ : Shape).Idx → EReal) (w : (⟨2, ![16, 256]⟩ : Shape).Idx → EReal) (b : (⟨2, ![1, 256]⟩ : Shape).Idx → EReal)

/-- The decays' inputs and weights are finite. -/
structure Fine : Prop where
  a : ∀ s k, ∃ r : ℝ, p (ix2 s (aCol k)) = r
  w : ∀ k l, ∃ r : ℝ, w (ix2 k l) = r
  b : ∀ l, ∃ r : ℝ, b (ix2 0 l) = r

/-- What the decay of row `i` of chunk `n` at lane `l` is the logistic of. -/
def sZ (n : ℕ) (i : Fin 64) (l : Fin 256) : EReal := (∑ k : Fin 16, p (ix2 (row n i) (aCol k)) * w (ix2 k l)) + b (ix2 0 l)
/-- The logarithm of the decay. -/
def sA (n : ℕ) (i : Fin 64) (l : Fin 256) : ℝ := lsR (sZ p w b n i l).toReal
/-- Its sum over the chunk's rows up to `i`. -/
def sCum (n : ℕ) (i : Fin 64) (l : Fin 256) : ℝ := cum (fun j => sA p w b n j l) i.val
def sQ (n : ℕ) (i : Fin 64) (l : Fin 256) : EReal := p (ix2 (row n i) (qCol l)) * Ideal.ofBits .f32 0x3E000000#32
def sK (n : ℕ) (i : Fin 64) (l : Fin 256) : EReal := p (ix2 (row n i) (kCol l))
def sV (n : ℕ) (i : Fin 64) (l : Fin 512) : EReal := p (ix2 (row n i) (vCol l))
/-- The state before chunk `n`. -/
def sS : ℕ → Fin 4 → Fin 128 → Fin 64 → EReal
  | 0 => fun _ _ _ => 0
  | n + 1 => fun h e d => Ideal.exp (sCum p w b n 63 (qLane h d) : EReal) * sS n h e d
      + ∑ j, sV p n j (vLane h e) * (sK p n j (qLane h d) * Ideal.exp ((sCum p w b n 63 (qLane h d) : EReal) - sCum p w b n j (qLane h d)))
/-- The rows before the normalisation. -/
def sMix (n : ℕ) (h : Fin 4) (i : Fin 64) (e : Fin 128) : EReal :=
  (∑ j, sScore (sA p w b n) (sQ p n) (sK p n) h i j * sV p n j (vLane h e))
    + ∑ d, sQ p n i (qLane h d) * Ideal.exp (sCum p w b n i (qLane h d) : EReal) * sS p w b n h e d
/-- The result at row `i` of chunk `n`, head `h`, lane `e`. -/
def sOut (n : ℕ) (h : Fin 4) (i : Fin 64) (e : Fin 128) : EReal :=
  gateE (sMix p w b n h i) (p (ix2 (row n i) (gCol (vLane h e)))) e

variable {p w b}
theorem Fine.z (H : Fine p w b) (n : ℕ) (i : Fin 64) (l : Fin 256) : sZ p w b n i l = ((sZ p w b n i l).toReal : EReal) := by
  choose a ha using H.a
  choose v hv using H.w
  choose u hu using H.b
  have e : sZ p w b n i l = (((∑ k, a (row n i) k * v k l) + u l : ℝ) : EReal) := by
    unfold sZ
    simp only [ha, hv, hu]
    rw [EReal.coe_add, coe_sum]
    simp only [EReal.coe_mul]
  rw [e, EReal.toReal_coe]
end

/-! ## The grid's points -/

section first
variable (c : Dev nD) (i : grid0.Coords) (arg1 : Memref sig .tc .vmem S512x256 .bf16) (harg1 : arg1.IsWhole) (arg2 : Memref sig .tc .vmem S512x256 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x128 .bf16) (harg5 : arg5.IsWhole) (arg6 : Memref sig .tc .vmem S128x256 .f32) (harg6 : arg6.IsWhole) (arg7 : Memref sig .tc .vmem S1x256 .f32) (harg7 : arg7.IsWhole) (arg8 : Memref sig .tc .vmem S512x512 .bf16) (harg8 : arg8.IsWhole) (arg9 : Memref sig .tc .vmem S4x128x64 .f32) (harg9 : arg9.IsWhole)
    (x0 x1 : Vec Ideal S512x256 .bf16) (x2 x3 : Vec Ideal S512x512 .bf16) (x4 : Vec Ideal S512x128 .bf16) (x5 : Vec Ideal S128x256 .f32) (x6 : Vec Ideal S1x256 .f32)

/-- The cleared state, as the one store that writes it. -/
def zeroC : Vec Ideal S4x128x64 .f32 :=
  View.canon (Val := Elt Ideal) [⟨Rect.unit ![0, 0, 0] ![4, 128, 64] inb_S4x128x64_S4x128x64_0_0_0, k0_pay4 (F := Ideal)⟩]

theorem zeroC_apply (h : Fin 4) (e : Fin 128) (d : Fin 64) : zeroC (ix3 h e d) = 0 := by
  have : zeroC = k0_pay4 (F := Ideal) := View.canon_unit_zero (by decide) _ _
  rw [this]
  pointwise [k0_pay4]

/-- The first point writes the block that a later one would from the cleared state. -/
theorem out_A (hc0 : cond0_0 i) (i' : grid0.Coords) (hc' : ¬cond0_0 i') :
   out0_A_7 c i arg1 harg1 arg2 harg2 arg3 harg3 arg4 harg4 arg5 harg5 arg6 harg6 arg7 harg7 arg8 harg8 arg9 harg9 hc0 x0 x1 x2 x3 x4 x5 x6 = out0_B_7 c i' arg1 harg1 arg2 harg2 arg3 harg3 arg4 harg4 arg5 harg5 arg6 harg6 arg7 harg7 arg8 harg8 arg9 harg9 hc' x0 x1 x2 x3 x4 x5 x6 zeroC := by
  unfold out0_A_7 out0_B_7
  frame_open
  simp only [View.read_writes_junk_eq_canon, View.readCov_eq_canon', View.readAt_eq_ld, Memref.IsWhole.read_unread]

/-- It leaves the state likewise. -/
theorem state_A (hc0 : cond0_0 i) (i' : grid0.Coords) (hc' : ¬cond0_0 i') :
   sout0_A_0 c i arg1 harg1 arg2 harg2 arg3 harg3 arg4 harg4 arg5 harg5 arg6 harg6 arg7 harg7 arg8 harg8 arg9 harg9 hc0 x0 x1 x2 x3 x4 x5 x6 = sout0_B_0 c i' arg1 harg1 arg2 harg2 arg3 harg3 arg4 harg4 arg5 harg5 arg6 harg6 arg7 harg7 arg8 harg8 arg9 harg9 hc' x0 x1 x2 x3 x4 x5 x6 zeroC := by
  funext y
  have hcov := scover0_B_0 c i' arg1 harg1 arg2 harg2 arg3 harg3 arg4 harg4 arg5 harg5 arg6 harg6 arg7 harg7 arg8 harg8 arg9 harg9 hc' x0 x1 x2 x3 x4 x5 x6 zeroC y
  revert hcov
  unfold sout0_A_0 sout0_B_0
  frame_open
  simp only [View.read_writes_junk_eq_canon, View.readCov_eq_canon', View.readAt_eq_ld, Memref.IsWhole.read_unread]
  exact fun hcov => canon_append_cover _ y _ hcov
end first

variable (m : (ℓ : Loc nD τ sig) → Buf (Elt Ideal) ℓ) (c : Dev nD)

/-- The arrays that the kernel is launched on: the projections, and the decays' weights and offsets. -/
def mP : (⟨2, ![16384, 8192]⟩ : Shape).Idx → EReal := m ((c : Thread nD τ).loc main_arg0)
def mW : (⟨2, ![16, 256]⟩ : Shape).Idx → EReal := m ((c : Thread nD τ).loc main_arg1)
def mB : (⟨2, ![1, 256]⟩ : Shape).Idx → EReal := m ((c : Thread nD τ).loc main_arg2)

theorem win_at : ∀ t : Fin cfg0.N, win0_0.index t 0 = t.val ∧ win0_0.index t 1 = 26 ∧ win0_1.index t 0 = t.val ∧ win0_1.index t 1 = 27
    ∧ win0_2.index t 0 = t.val ∧ win0_2.index t 1 = 11 ∧ win0_3.index t 0 = t.val ∧ win0_3.index t 1 = 12
    ∧ win0_4.index t 0 = t.val ∧ win0_4.index t 1 = 61 ∧ win0_5.index t 0 = 0 ∧ win0_5.index t 1 = 0 ∧ win0_6.index t 0 = 0 ∧ win0_6.index t 1 = 0 := by
  decide +kernel

theorem N32 : cfg0.N = 32 := N_0

theorem row_at (t : Fin cfg0.N) (ch : Fin 8) (i : Fin 64) :
    t.val * 512 + (gRow ch i).val = (row (8 * t.val + ch.val) i).val := by
  have ht := lt_of_lt_of_eq t.isLt N32
  show t.val * 512 + (64 * ch.val + i.val) = (64 * (8 * t.val + ch.val) + i.val) % 16384
  omega

theorem blk0 (t : Fin cfg0.N) (ch : Fin 8) (i : Fin 64) (l : Fin 256) :
    iblk m c 0 t (ix2 (gRow ch i) l) = mP m c (ix2 (row (8 * t.val + ch.val) i) (qCol l)) := by
  have hw := win_at t
  unfold mP
  blk_simp [iblk]
  rw [V_main_arg0]
  refine congrArg _ (funext fun a => Fin.ext ?_)
  fin_cases a
  · blk_simp [hw]
    exact row_at t ch i
  · blk_simp [hw]
    first | rfl | (change 26 * 256 + l.val = 6656 + l.val; omega)

theorem blk1 (t : Fin cfg0.N) (ch : Fin 8) (i : Fin 64) (l : Fin 256) :
    iblk m c 1 t (ix2 (gRow ch i) l) = mP m c (ix2 (row (8 * t.val + ch.val) i) (kCol l)) := by
  have hw := win_at t
  unfold mP
  blk_simp [iblk]
  rw [V_main_arg0]
  refine congrArg _ (funext fun a => Fin.ext ?_)
  fin_cases a
  · blk_simp [hw]
    exact row_at t ch i
  · blk_simp [hw]
    first | rfl | (change 27 * 256 + l.val = 6912 + l.val; omega)

theorem blk2 (t : Fin cfg0.N) (ch : Fin 8) (i : Fin 64) (l : Fin 512) :
    iblk m c 2 t (ix2 (gRow ch i) l) = mP m c (ix2 (row (8 * t.val + ch.val) i) (vCol l)) := by
  have hw := win_at t
  unfold mP
  blk_simp [iblk]
  rw [V_main_arg0]
  refine congrArg _ (funext fun a => Fin.ext ?_)
  fin_cases a
  · blk_simp [hw]
    exact row_at t ch i
  · blk_simp [hw]
    first | rfl | (change 11 * 512 + l.val = 5632 + l.val; omega)

theorem blk3 (t : Fin cfg0.N) (ch : Fin 8) (i : Fin 64) (l : Fin 512) :
    iblk m c 3 t (ix2 (gRow ch i) l) = mP m c (ix2 (row (8 * t.val + ch.val) i) (gCol l)) := by
  have hw := win_at t
  unfold mP
  blk_simp [iblk]
  rw [V_main_arg0]
  refine congrArg _ (funext fun a => Fin.ext ?_)
  fin_cases a
  · blk_simp [hw]
    exact row_at t ch i
  · blk_simp [hw]
    first | rfl | (change 12 * 512 + l.val = 6144 + l.val; omega)

theorem blk4 (t : Fin cfg0.N) (ch : Fin 8) (i : Fin 64) (l : Fin 128) :
    iblk m c 4 t (ix2 (gRow ch i) l) = mP m c (ix2 (row (8 * t.val + ch.val) i) (wCol l)) := by
  have hw := win_at t
  unfold mP
  blk_simp [iblk]
  rw [V_main_arg0]
  refine congrArg _ (funext fun a => Fin.ext ?_)
  fin_cases a
  · blk_simp [hw]
    exact row_at t ch i
  · blk_simp [hw]
    first | rfl | (change 61 * 128 + l.val = 7808 + l.val; omega)

/-- The decays' weights as the kernel is given them: zero from row 16 on. -/
theorem V_pad : V m c main_v0 = pad S128x256 ![0, 0] ![112, 0] ![0, 0] (mW m c) (sitofp (F := Ideal) .f32 (constantI S_ 32 0#32)) pads_S16x256_S128x256_01120_000 h_S_ := by
  unfold V mW
  simp only [hostOps0, hostOps0_1, List.flatten_cons, List.flatten_nil, List.append_nil, List.cons_append, List.nil_append]
  after_results_entrywise []

theorem blk5 (t : Fin cfg0.N) (k : Fin 128) (l : Fin 256) :
    iblk m c 5 t (ix2 k l) = if h : k.val < 16 then mW m c (ix2 ⟨k.val, h⟩ l) else 0 := by
  have hw := win_at t
  have e : iblk m c 5 t (ix2 k l) = V m c main_v0 (ix2 k l) := by
    blk_simp [iblk]
    refine congrArg _ (funext fun a => Fin.ext ?_)
    fin_cases a
    · blk_simp [hw]
    · blk_simp [hw]
  rw [e, V_pad]
  pointwise
  split_ifs
  · rfl
  · refine (Cert.Retention.cast_pos 0).trans ?_
    simp

theorem blk6 (t : Fin cfg0.N) (l : Fin 256) : iblk m c 6 t (ix2 0 l) = mB m c (ix2 0 l) := by
  have hw := win_at t
  unfold mB
  blk_simp [iblk]
  rw [V_main_arg2]
  refine congrArg _ (funext fun a => Fin.ext ?_)
  fin_cases a
  · blk_simp [hw]
  · blk_simp [hw]

omit m c in
/-- A sum of 128 products whose second factors vanish from the sixteenth on. -/
theorem sum_low (a w : Fin 128 → EReal) (hw : ∀ k : Fin 128, 16 ≤ k.val → w k = 0) :
    ∑ k, a k * w k = ∑ k : Fin 16, a ⟨k.val, by omega⟩ * w ⟨k.val, by omega⟩ := by
  refine (Fin.sum_univ_add (a := 16) (b := 112) fun k => a k * w k).trans ?_
  rw [Finset.sum_eq_zero (s := Finset.univ) (f := fun k : Fin 112 => a (Fin.natAdd 16 k) * w (Fin.natAdd 16 k)) fun k _ => ?_, add_zero]
  · rfl
  · rw [hw _ (by show 16 ≤ 16 + k.val; omega), mul_zero]

variable {m c} (H : Fine (mP m c) (mW m c) (mB m c))
include H

theorem log_row (t : Fin cfg0.N) (ch : Fin 8) (j : Fin 64) (l : Fin 256) :
    chunkL (k0_pay27 (k0_pay26 (iblk m c 5 t) (iblk m c 4 t)) (iblk m c 6 t)) ch (ix2 j l)
      = (sA (mP m c) (mW m c) (mB m c) (8 * t.val + ch.val) j l : EReal) := by
  refine log_at _ _ (gRow ch j) l _ ?_
  rw [z_at, ← H.z, sZ, blk6]
  · congr 1
    refine (sum_low (fun k => iblk m c 4 t (ix2 (gRow ch j) k)) (fun k => iblk m c 5 t (ix2 k l)) fun k hk => ?_).trans (Finset.sum_congr rfl fun k _ => ?_)
    · show iblk m c 5 t (ix2 k l) = _
      rw [blk5, dif_neg (by omega)]
    · exact congrArg₂ (· * ·) (blk4 m c t ch j ⟨k.val, by omega⟩) ((blk5 m c t ⟨k.val, by omega⟩ l).trans (dif_pos k.isLt))
  · intro k
    rw [blk4, blk5]
    by_cases h : k.val < 16
    · rw [dif_pos h]
      exact Or.inl ⟨H.a _ ⟨k.val, h⟩, H.w _ _⟩
    · rw [dif_neg h]
      exact Or.inr rfl

theorem sums_at (t : Fin cfg0.N) (ch : Fin 8) (n : Fin 7) (i : Fin 64) (l : Fin 256) :
    gT (iblk m c 4 t) (iblk m c 5 t) (iblk m c 6 t) ch (sRow n i) l
      = (cum (fun j => sA (mP m c) (mW m c) (mB m c) (8 * t.val + ch.val) j l) (bnd n i) : EReal) :=
  stk_at _ _ l (fun j => log_row H t ch j l) n i

theorem sums_row (t : Fin cfg0.N) (ch : Fin 8) (i : Fin 64) (l : Fin 256) :
    gT (iblk m c 4 t) (iblk m c 5 t) (iblk m c 6 t) ch (sRow 0 i) l = (sCum (mP m c) (mW m c) (mB m c) (8 * t.val + ch.val) i l : EReal) :=
  sums_at H t ch 0 i l

theorem sums_last (t : Fin cfg0.N) (ch : Fin 8) (l : Fin 256) :
    gT (iblk m c 4 t) (iblk m c 5 t) (iblk m c 6 t) ch 63 l = (sCum (mP m c) (mW m c) (mB m c) (8 * t.val + ch.val) 63 l : EReal) :=
  sums_at H t ch 0 63 l

omit H in
theorem q_at (t : Fin cfg0.N) (ch : Fin 8) : gQ (iblk m c 0 t) ch = sQ (mP m c) (8 * t.val + ch.val) := by
  funext i l; simp only [gQ, sQ, blk0]
omit H in
theorem k_at (t : Fin cfg0.N) (ch : Fin 8) : gK (iblk m c 1 t) ch = sK (mP m c) (8 * t.val + ch.val) := by
  funext i l; simp only [gK, sK, blk1]
omit H in
theorem v_at (t : Fin cfg0.N) (ch : Fin 8) : gV (iblk m c 2 t) ch = sV (mP m c) (8 * t.val + ch.val) := by
  funext i l; simp only [gV, sV, blk2]

variable {xs0 : Vec Ideal S4x128x64 .f32}

theorem state_at {t : Fin cfg0.N} (T : (fun h e d => xs0 (ix3 h e d)) = sS (mP m c) (mW m c) (mB m c) (8 * t.val)) :
    ∀ k ≤ 8, gS (iblk m c 1 t) (iblk m c 2 t) (iblk m c 4 t) (iblk m c 5 t) (iblk m c 6 t) xs0 k = sS (mP m c) (mW m c) (mB m c) (8 * t.val + k)
  | 0, _ => T
  | k + 1, hk => by
    have e : (Fin.ofNat 8 k).val = k := Nat.mod_eq_of_lt (by omega)
    funext h e' d
    show stepE _ _ _ _ h e' d = _
    unfold stepE
    rw [sums_last H, k_at, v_at, e, state_at T k (by omega)]
    simp only [sums_row H, e]
    rfl

theorem out_at {t : Fin cfg0.N} (T : (fun h e d => xs0 (ix3 h e d)) = sS (mP m c) (mW m c) (mB m c) (8 * t.val)) (ch : Fin 8) (h : Fin 4) (r : Fin 64) (e : Fin 128) :
    gOut (iblk m c 0 t) (iblk m c 1 t) (iblk m c 2 t) (iblk m c 3 t) (iblk m c 4 t) (iblk m c 5 t) (iblk m c 6 t) xs0 ch h r e
      = sOut (mP m c) (mW m c) (mB m c) (8 * t.val + ch.val) h r e := by
  unfold gOut sOut
  rw [q_at, k_at, v_at, state_at H T ch.val (by omega), blk3]
  congr 1
  funext e
  unfold mixE sMix
  simp only [score_at (sA (mP m c) (mW m c) (mB m c) (8 * t.val + ch.val)) (fun _ _ => lsR_nonpos _) _ (sums_at H t ch), sums_row H]

omit H in
/-- A point of the grid that is not the first. -/
def later : grid0.Coords := grid0.coords (⟨1, by decide⟩ : Fin grid0.N)
omit H in
theorem later_B : ¬cond0_0 later := by
  have := (hcond0_0 (⟨1, by decide⟩ : Fin cfg0.N))
  exact fun h => absurd (this.1 h) (by decide)

section
variable (i : grid0.Coords) (arg1 : Memref sig .tc .vmem S512x256 .bf16) (harg1 : arg1.IsWhole) (arg2 : Memref sig .tc .vmem S512x256 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x128 .bf16) (harg5 : arg5.IsWhole) (arg6 : Memref sig .tc .vmem S128x256 .f32) (harg6 : arg6.IsWhole) (arg7 : Memref sig .tc .vmem S1x256 .f32) (harg7 : arg7.IsWhole) (arg8 : Memref sig .tc .vmem S512x512 .bf16) (harg8 : arg8.IsWhole) (arg9 : Memref sig .tc .vmem S4x128x64 .f32) (harg9 : arg9.IsWhole)

/-- A point that starts where the sequence stands writes the sequence's results and leaves it eight chunks on. -/
theorem leaves (hc0 : ¬cond0_0 i) {t : Fin cfg0.N} {xs0 : Vec Ideal S4x128x64 .f32}
    (T : (fun h e d => xs0 (ix3 h e d)) = sS (mP m c) (mW m c) (mB m c) (8 * t.val)) :
    (∀ ch h r e, out0_B_7 c i arg1 harg1 arg2 harg2 arg3 harg3 arg4 harg4 arg5 harg5 arg6 harg6 arg7 harg7 arg8 harg8 arg9 harg9 hc0 (iblk m c 0 t) (iblk m c 1 t) (iblk m c 2 t) (iblk m c 3 t) (iblk m c 4 t) (iblk m c 5 t) (iblk m c 6 t) xs0 (ix2 (gRow ch r) (vLane h e)) = sOut (mP m c) (mW m c) (mB m c) (8 * t.val + ch.val) h r e)
    ∧ (fun h e d => sout0_B_0 c i arg1 harg1 arg2 harg2 arg3 harg3 arg4 harg4 arg5 harg5 arg6 harg6 arg7 harg7 arg8 harg8 arg9 harg9 hc0 (iblk m c 0 t) (iblk m c 1 t) (iblk m c 2 t) (iblk m c 3 t) (iblk m c 4 t) (iblk m c 5 t) (iblk m c 6 t) xs0 (ix3 h e d)) = sS (mP m c) (mW m c) (mB m c) (8 * (t.val + 1)) := by
  refine ⟨fun ch h r e => ?_, ?_⟩
  · rw [← out_at H T]
    apply out_B
  · funext h e d
    refine Eq.trans ?_ (congrFun (congrFun (congrFun (state_at H T 8 le_rfl) h) e) d)
    apply state_B
end

/-- What each point writes, and what it leaves for the next. -/
theorem point_at (n : ℕ) (hn : n < cfg0.N) :
    (∀ ch h r e, (outsAt0 m c n hn).1 (ix2 (gRow ch r) (vLane h e)) = sOut (mP m c) (mW m c) (mB m c) (8 * n + ch.val) h r e)
    ∧ (fun h e d => (outsAt0 m c n hn).2 (ix3 h e d)) = sS (mP m c) (mW m c) (mB m c) (8 * (n + 1)) := by
  induction n with
  | zero =>
    have h0 : (⟨0, hn⟩ : Fin cfg0.N).val % 32 = 0 := rfl
    have T : (fun h e d => zeroC (ix3 h e d)) = sS (mP m c) (mW m c) (mB m c) (8 * (⟨0, hn⟩ : Fin cfg0.N).val) := by
      funext h e d; exact zeroC_apply h e d
    rw [show outsAt0 m c 0 hn = _ from outsAt0_A m c ⟨0, hn⟩ h0, out_A (hc' := later_B), state_A (hc' := later_B)]
    dsimp only at T ⊢
    exact leaves H _ _ _ _ _ _ _ _ _ _ _ _ _ _ _ _ _ _ _ _ T
  | succ n ih =>
    obtain ⟨-, T⟩ := ih (Nat.lt_of_succ_lt hn)
    have hN := lt_of_lt_of_eq hn N32
    have h0 : ¬(⟨n + 1, hn⟩ : Fin cfg0.N).val % 32 = 0 := by show ¬(n + 1) % 32 = 0; omega
    rw [show outsAt0 m c (n + 1) hn = _ from outsAt0_B m c ⟨n + 1, hn⟩ h0]
    dsimp only
    exact leaves H _ _ _ _ _ _ _ _ _ _ _ _ _ _ _ _ _ _ _ _ T

/-- THE KERNEL'S RESULT: row `64 n + i`, lane `128 h + e`. -/
theorem kernel_value (n : Fin 256) (i : Fin 64) (h : Fin 4) (e : Fin 128) :
    Cert.Kernel4Ideal.Value.G7 m c (ix2 (row n.val i) (vLane h e)) = sOut (mP m c) (mW m c) (mB m c) n.val h i e := by
  have hn : n.val / 8 < cfg0.N := lt_of_lt_of_eq (by omega : n.val / 8 < 32) N32.symm
  have hg : (row n.val i).val = 64 * n.val + i.val := Nat.mod_eq_of_lt (by omega)
  have hp : Cert.Kernel4Ideal.Value.pt7Of (ix2 (row n.val i) (vLane h e)) = n.val / 8 := by
    show 1 * ((row n.val i).val / 512 - 0) + 1 * ((128 * h.val + e.val) / 512 - 0) = _
    rw [hg]; omega
  have hl : Cert.Kernel4Ideal.Value.loc7Of (ix2 (row n.val i) (vLane h e)) = ix2 (gRow ⟨n.val % 8, by omega⟩ i) (vLane h e) := by
    funext a
    fin_cases a
    · refine Fin.ext ?_
      show (row n.val i).val % 512 = 64 * (n.val % 8) + i.val
      rw [hg]; omega
    · refine Fin.ext ?_
      show (128 * h.val + e.val) % 512 = 128 * h.val + e.val
      omega
  unfold Cert.Kernel4Ideal.Value.G7
  rw [dif_pos (by rw [hp]; exact hn), hl]
  refine (congrArg (fun z => z.1 (ix2 (gRow ⟨n.val % 8, by omega⟩ i) (vLane h e)))
    ((Cert.Kernel4Ideal.Value.fold0_congr m c _ _ _ (by omega) hp).trans (Cert.Kernel4Ideal.Value.outsAt0_sweep m c (n.val / 8) hn).symm)).trans ?_
  rw [(point_at H (n.val / 8) hn).1]
  exact congrArg (fun k => sOut (mP m c) (mW m c) (mB m c) k h i e) (by show 8 * (n.val / 8) + n.val % 8 = n.val; omega)

end Cert.Gla
end
-- ==== Proof.GlaRef.lean ====
module

public import proofs.«01_k».proof.Proof.GlaSeq
public import proofs.«01_k».proof.Proof.Gen.Reference4Ideal.Run

@[expose] public section
set_option maxRecDepth 16384
noncomputable section
namespace Cert.GlaRef
open Idealize.ShloMosaic Idealize.ShloMosaic.TcCoe Idealize.ShloMosaic.Tactic Idealize.ShloMosaic.StableHlo Idealize.SL Idealize.SL.Sem Cert.Reference4Ideal Cert.Reference4Ideal.Gen

/-! ## The reference's arrays, by name -/

/-- What the decays are the logistic of. -/
def rZ (p : FVec Ideal S16384x8192 .bf16) (w : FVec Ideal S16x256 .f32) (b : FVec Ideal S1x256 .f32) : FVec Ideal S16384x256 .f32 :=
  addf (Host.dotGeneral dot_S16384x16_S16x256_S16384x256_1_0_0_1_n_n none (extf .f32 (extractStridedSlice S16384x16 ![0, 7808] p slices_S16384x8192_S16384x16_0_7808) bitsLt_bf16_f32) w) (broadcastInDim S16384x256 ![0, 1] bcast_S1x256_S16384x256_0_1 b)
/-- Zero everywhere. -/
def rNil : FVec Ideal S16384x256 .f32 := broadcastInDim S16384x256 ![] bcast_S_S16384x256 (constant S_ .f32 0x00000000#32)
/-- The logarithm of one and the exponential. -/
def rSp (x : FVec Ideal S16384x256 .f32) : FVec Ideal S16384x256 .f32 :=
  select (cmpf .une (subf x rNil) (subf x rNil)) (addf x rNil) (addf (maximumf x rNil) (Host.log1p (Host.exp (Host.negf (Host.absf (subf x rNil))))))
/-- The logarithm of the logistic. -/
def rLs (z : FVec Ideal S16384x256 .f32) : FVec Ideal S16384x256 .f32 := Host.negf (rSp (Host.negf z))
/-- A sixteenth of it, by chunk. -/
def rLa (s : FVec Ideal S16384x256 .f32) : FVec Ideal S256x1x64x256 .f32 :=
  broadcastInDim S256x1x64x256 ![0, 2, 3] bcast_S256x64x256_S256x1x64x256_0_2_3 (shapeCast S256x64x256 (Host.divf s (broadcastInDim S16384x256 ![] bcast_S_S16384x256 (constant S_ .f32 0x41800000#32))) shapeCasts_S16384x256_S256x64x256)
/-- Which positions are at or before which. -/
def rMask : IVec S64x64 1 :=
  cmpi .sge (broadcastInDim S64x64 ![0, 1] bcast_S64x1_S64x64_0_1 (broadcastInDim S64x1 ![0] bcast_S64_S64x1_0 (iotaInDim S64 32 0))) (broadcastInDim S64x64 ![0, 1] bcast_S1x64_S64x64_0_1 (broadcastInDim S1x64 ![1] bcast_S64_S1x64_1 (iotaInDim S64 32 0)))
/-- The same with the chunks' and the lanes' axes. -/
def rMask4 : IVec S1x64x64x1 1 := broadcastInDim S1x64x64x1 ![1, 2] bcast_S64x64_S1x64x64x1_1_2 rMask
def rMask5 : IVec S1x64x64x1x1 1 := broadcastInDim S1x64x64x1x1 ![1, 2] bcast_S64x64_S1x64x64x1x1_1_2 rMask
/-- The entries that count, the others at a constant. -/
def rWhere (c : IVec S1x64x64x1 1) (x : FVec Ideal S256x1x64x256 .f32) (o : FVec Ideal S_ .f32) : FVec Ideal S256x64x64x256 .f32 :=
  select (broadcastInDim S256x64x64x256 ![0, 1, 2, 3] bcast_S1x64x64x1_S256x64x64x256_0_1_2_3 c) (broadcastInDim S256x64x64x256 ![0, 1, 2, 3] bcast_S256x1x64x256_S256x64x64x256_0_1_2_3 x) (broadcastInDim S256x64x64x256 ![] bcast_S_S256x64x64x256 (id o))
/-- Their sums. -/
def rTot (x : FVec Ideal S256x64x64x256 .f32) : FVec Ideal S256x64x4x64 .f32 :=
  shapeCast S256x64x4x64 (Host.reduceAdd x (constant S_ .f32 0x00000000#32) reducesTo_S256x64x64x256_S256x64x256_d2 h_S_) shapeCasts_S256x64x256_S256x64x4x64
/-- The sums of the logarithms of the decays up to each position of a chunk. -/
def rB (p : FVec Ideal S16384x8192 .bf16) (w : FVec Ideal S16x256 .f32) (b : FVec Ideal S1x256 .f32) : FVec Ideal S256x64x4x64 .f32 :=
  rTot (rWhere rMask4 (rLa (rLs (rZ p w b))) (constant S_ .f32 0x00000000#32))
/-- Those at the last position. -/
def rLast (B : FVec Ideal S256x64x4x64 .f32) : FVec Ideal S256x4x64 .f32 :=
  shapeCast S256x4x64 (extractStridedSlice S256x1x4x64 ![0, 63, 0, 0] B slices_S256x64x4x64_S256x1x4x64_0_63_0_0) shapeCasts_S256x1x4x64_S256x4x64
/-- The queries, keys and values, by chunk. -/
def rQ (p : FVec Ideal S16384x8192 .bf16) : FVec Ideal S256x64x4x64 .f32 :=
  mulf (shapeCast S256x64x4x64 (extf .f32 (extractStridedSlice S16384x256 ![0, 6656] p slices_S16384x8192_S16384x256_0_6656) bitsLt_bf16_f32) shapeCasts_S16384x256_S256x64x4x64) (broadcastInDim S256x64x4x64 ![] bcast_S_S256x64x4x64 (constant S_ .f32 0x3E000000#32))
def rK (p : FVec Ideal S16384x8192 .bf16) : FVec Ideal S256x64x4x64 .f32 :=
  shapeCast S256x64x4x64 (extf .f32 (extractStridedSlice S16384x256 ![0, 6912] p slices_S16384x8192_S16384x256_0_6912) bitsLt_bf16_f32) shapeCasts_S16384x256_S256x64x4x64
def rV (p : FVec Ideal S16384x8192 .bf16) : FVec Ideal S256x64x4x128 .f32 :=
  shapeCast S256x64x4x128 (extf .f32 (extractStridedSlice S16384x512 ![0, 5632] p slices_S16384x8192_S16384x512_0_5632) bitsLt_bf16_f32) shapeCasts_S16384x512_S256x64x4x128
/-- What each chunk adds to the state. -/
def rKv (p : FVec Ideal S16384x8192 .bf16) (B : FVec Ideal S256x64x4x64 .f32) : FVec Ideal S256x4x64x128 .f32 :=
  Host.dotGeneral dot_S256x64x4x64_S256x64x4x128_S256x4x64x128_1_1_3_3_02_02 none (mulf (rK p) (Host.exp (subf (broadcastInDim S256x64x4x64 ![0, 1, 2, 3] bcast_S256x1x4x64_S256x64x4x64_0_1_2_3 (broadcastInDim S256x1x4x64 ![0, 2, 3] bcast_S256x4x64_S256x1x4x64_0_2_3 (rLast B))) B))) (rV p)
/-- The state before the first chunk. -/
def rZero : FVec Ideal S4x64x128 .f32 := broadcastInDim S4x64x128 ![] bcast_S_S4x64x128 (constant S_ .f32 0x00000000#32)
/-- The sums' differences between each two positions of a chunk. -/
def rDiff (B : FVec Ideal S256x64x4x64 .f32) : FVec Ideal S256x64x64x4x64 .f32 :=
  subf (broadcastInDim S256x64x64x4x64 ![0, 1, 2, 3, 4] bcast_S256x64x1x4x64_S256x64x64x4x64_0_1_2_3_4 (broadcastInDim S256x64x1x4x64 ![0, 1, 3, 4] bcast_S256x64x4x64_S256x64x1x4x64_0_1_3_4 B)) (broadcastInDim S256x64x64x4x64 ![0, 1, 2, 3, 4] bcast_S256x1x64x4x64_S256x64x64x4x64_0_1_2_3_4 (broadcastInDim S256x1x64x4x64 ![0, 2, 3, 4] bcast_S256x64x4x64_S256x1x64x4x64_0_2_3_4 B))
/-- The differences that count, the others at a constant. -/
def rWhere5 (c : IVec S1x64x64x1x1 1) (x : FVec Ideal S256x64x64x4x64 .f32) (o : FVec Ideal S_ .f32) : FVec Ideal S256x64x64x4x64 .f32 :=
  select (broadcastInDim S256x64x64x4x64 ![0, 1, 2, 3, 4] bcast_S1x64x64x1x1_S256x64x64x4x64_0_1_2_3_4 c) x (broadcastInDim S256x64x64x4x64 ![] bcast_S_S256x64x64x4x64 (id o))
/-- The weighted scores of each chunk. -/
def rScore (q k : FVec Ideal S256x64x4x64 .f32) (D : FVec Ideal S256x64x64x4x64 .f32) : FVec Ideal S256x64x64x4 .f32 :=
  Host.reduceAdd (mulf (mulf (broadcastInDim S256x64x64x4x64 ![0, 1, 2, 3, 4] bcast_S256x64x1x4x64_S256x64x64x4x64_0_1_2_3_4 (broadcastInDim S256x64x1x4x64 ![0, 1, 3, 4] bcast_S256x64x4x64_S256x64x1x4x64_0_1_3_4 q)) (broadcastInDim S256x64x64x4x64 ![0, 1, 2, 3, 4] bcast_S256x1x64x4x64_S256x64x64x4x64_0_1_2_3_4 (broadcastInDim S256x1x64x4x64 ![0, 2, 3, 4] bcast_S256x64x4x64_S256x1x64x4x64_0_2_3_4 k))) (Host.exp D)) (constant S_ .f32 0x00000000#32) reducesTo_S256x64x64x4x64_S256x64x64x4_d4 h_S_
/-- The rows before the norm, by chunk. -/
def rMix (q k : FVec Ideal S256x64x4x64 .f32) (v : FVec Ideal S256x64x4x128 .f32) (D : FVec Ideal S256x64x64x4x64 .f32) (B : FVec Ideal S256x64x4x64 .f32) (prev : FVec Ideal S256x4x64x128 .f32) : FVec Ideal S256x64x4x128 .f32 :=
  addf (transpose S256x64x4x128 [0, 3, 1, 2] (Host.dotGeneral dot_S256x64x4x128_S256x64x64x4_S256x4x128x64_1_2_3_1_02_03 none v (rScore q k D)) transposes_S256x4x128x64_S256x64x4x128_0_3_1_2) (transpose S256x64x4x128 [0, 3, 1, 2] (Host.dotGeneral dot_S256x4x64x128_S256x64x4x64_S256x4x128x64_2_3_3_1_01_02 none prev (mulf q (Host.exp B))) transposes_S256x4x128x64_S256x64x4x128_0_3_1_2)
/-- The same by row of the sequence. -/
def rO (x : FVec Ideal S256x64x4x128 .f32) : FVec Ideal S16384x4x128 .f32 := shapeCast S16384x4x128 x shapeCasts_S256x64x4x128_S16384x4x128
/-- One over the root mean square of each head's lanes. -/
def rNorm (o : FVec Ideal S16384x4x128 .f32) : FVec Ideal S16384x4x1 .f32 :=
  Host.rsqrt (addf (Host.divf (broadcastInDim S16384x4x1 ![0, 1] bcast_S16384x4_S16384x4x1_0_1 (Host.reduceAdd (mulf o o) (constant S_ .f32 0x00000000#32) reducesTo_S16384x4x128_S16384x4_d2 h_S_)) (broadcastInDim S16384x4x1 ![] bcast_S_S16384x4x1 (constant S_ .f32 0x43000000#32))) (broadcastInDim S16384x4x1 ![] bcast_S_S16384x4x1 (constant S_ .f32 0x358637BD#32)))
/-- The normalised rows. -/
def rRows (o : FVec Ideal S16384x4x128 .f32) : FVec Ideal S16384x512 .f32 :=
  shapeCast S16384x512 (mulf (mulf o (broadcastInDim S16384x4x128 ![0, 1, 2] bcast_S16384x4x1_S16384x4x128_0_1_2 (rNorm o))) (broadcastInDim S16384x4x128 ![] bcast_S_S16384x4x128 (constant S_ .f32 0x3F800000#32))) shapeCasts_S16384x4x128_S16384x512
/-- The gates' inputs, and `x` times its logistic. -/
def rG (p : FVec Ideal S16384x8192 .bf16) : FVec Ideal S16384x512 .f32 :=
  extf .f32 (extractStridedSlice S16384x512 ![0, 6144] p slices_S16384x8192_S16384x512_0_6144) bitsLt_bf16_f32
def rSilu (g : FVec Ideal S16384x512 .f32) : FVec Ideal S16384x512 .f32 :=
  mulf g (Host.divf (broadcastInDim S16384x512 ![] bcast_S_S16384x512 (constant S_ .f32 0x3F800000#32)) (addf (broadcastInDim S16384x512 ![] bcast_S_S16384x512 (constant S_ .f32 0x3F800000#32)) (Host.exp (Host.negf g))))
/-- The reference's result, of the sums and of the states before the chunks. -/
def rOut (p : FVec Ideal S16384x8192 .bf16) (B : FVec Ideal S256x64x4x64 .f32) (prev : FVec Ideal S256x4x64x128 .f32) : FVec Ideal S16384x512 .bf16 :=
  truncf .bf16 (mulf (rRows (rO (rMix (rQ p) (rK p) (rV p) (rWhere5 rMask5 (rDiff B) (constant S_ .f32 0xFF800000#32)) B prev))) (rSilu (rG p))) bitsLt_bf16_f32

/-! ## What each list of operations leaves -/

section
variable (X : Valuation τ sig (Elt Ideal))

theorem z0 : after hostOps0 X (Proc.devRef .tc main_v4) = rZ (X (Proc.devRef .tc main_arg0)) (X (Proc.devRef .tc main_arg1)) (X (Proc.devRef .tc main_arg2)) := by
  after_results_entrywise []
theorem l1 : after hostOps0_1 X (Proc.devRef .tc main_v5) = rLs (X (Proc.devRef .tc main_v4)) := by
  after_results_entrywise []
theorem a2 : after hostOps0_2 X (Proc.devRef .tc main_v16) = rLa (X (Proc.devRef .tc main_v5)) := by
  after_results_entrywise []
theorem m2 : after hostOps0_2 X (Proc.devRef .tc main_v15) = rMask4 := by
  after_results_entrywise []
theorem c2 : after hostOps0_2 X (Proc.devRef .tc main_cst_0) = (constant S_ .f32 0x00000000#32 : FVec Ideal S_ .f32) := by
  after_results_entrywise []
theorem w3 : after hostOps0_3 X (Proc.devRef .tc main_v17) = rWhere (X (Proc.devRef .tc main_v15)) (X (Proc.devRef .tc main_v16)) (X (Proc.devRef .tc main_cst_0)) := by
  after_results_entrywise []
theorem d4 : after hostOps0_4 X (Proc.devRef .tc main_v37_0) = (Host.exp (rLast (rTot (X (Proc.devRef .tc main_v17)))) : FVec Ideal S256x4x64 .f32) := by
  after_results_entrywise []
theorem k4 : after hostOps0_4 X (Proc.devRef .tc main_v37_1) = rKv (X (Proc.devRef .tc main_arg0)) (rTot (X (Proc.devRef .tc main_v17))) := by
  after_results_entrywise []
theorem s4 : after hostOps0_4 X (Proc.devRef .tc main_v37_3) = rZero := by
  after_results_entrywise []
theorem z5 : after hostOps0_5 X (Proc.devRef .tc main_v42) = rZ (X (Proc.devRef .tc main_arg0)) (X (Proc.devRef .tc main_arg1)) (X (Proc.devRef .tc main_arg2)) := by
  after_results_entrywise []
theorem l6 : after hostOps0_6 X (Proc.devRef .tc main_v43) = rLs (X (Proc.devRef .tc main_v42)) := by
  after_results_entrywise []
theorem a7 : after hostOps0_7 X (Proc.devRef .tc main_v54) = rLa (X (Proc.devRef .tc main_v43)) := by
  after_results_entrywise []
theorem m7 : after hostOps0_7 X (Proc.devRef .tc main_v53) = rMask4 := by
  after_results_entrywise []
theorem c7 : after hostOps0_7 X (Proc.devRef .tc main_cst_5) = (constant S_ .f32 0x00000000#32 : FVec Ideal S_ .f32) := by
  after_results_entrywise []
theorem w8 : after hostOps0_8 X (Proc.devRef .tc main_v55) = rWhere (X (Proc.devRef .tc main_v53)) (X (Proc.devRef .tc main_v54)) (X (Proc.devRef .tc main_cst_5)) := by
  after_results_entrywise []
theorem b9 : after hostOps0_9 X (Proc.devRef .tc main_v57) = rTot (X (Proc.devRef .tc main_v55)) := by
  after_results_entrywise []
theorem q9 : after hostOps0_9 X (Proc.devRef .tc main_v62) = rQ (X (Proc.devRef .tc main_arg0)) := by
  after_results_entrywise []
theorem d9 : after hostOps0_9 X (Proc.devRef .tc main_v67) = rDiff (rTot (X (Proc.devRef .tc main_v55))) := by
  after_results_entrywise []
theorem m9 : after hostOps0_9 X (Proc.devRef .tc main_v74) = rMask5 := by
  after_results_entrywise []
theorem c9 : after hostOps0_9 X (Proc.devRef .tc main_cst_8) = (constant S_ .f32 0xFF800000#32 : FVec Ideal S_ .f32) := by
  after_results_entrywise []
theorem w10 : after hostOps0_10 X (Proc.devRef .tc main_v75) = rWhere5 (X (Proc.devRef .tc main_v74)) (X (Proc.devRef .tc main_v67)) (X (Proc.devRef .tc main_cst_8)) := by
  after_results_entrywise []
theorem r11 : after hostOps0_11 X (Proc.devRef .tc main_v110) = rRows (rO (rMix (X (Proc.devRef .tc main_v62)) (rK (X (Proc.devRef .tc main_arg0))) (rV (X (Proc.devRef .tc main_arg0))) (X (Proc.devRef .tc main_v75)) (X (Proc.devRef .tc main_v57)) (X (Proc.devRef .tc main_v37_4)))) := by
  after_results_entrywise []
theorem g11 : after hostOps0_11 X (Proc.devRef .tc main_v112) = rG (X (Proc.devRef .tc main_arg0)) := by
  after_results_entrywise []
theorem g12 : after hostOps0_12 X (Proc.devRef .tc main_v113) = rSilu (X (Proc.devRef .tc main_v112)) := by
  after_results_entrywise []
theorem o13 : after hostOps0_13 X (Proc.devRef .tc main_v115) = (truncf .bf16 (mulf (F := Ideal) (X (Proc.devRef .tc main_v110)) (X (Proc.devRef .tc main_v113))) bitsLt_bf16_f32 : FVec Ideal S16384x512 .bf16) := by
  after_results_entrywise []
end

end Cert.GlaRef
end
-- ==== Proof.GlaRun.lean ====
module

public import proofs.«01_k».proof.Proof.GlaRef

@[expose] public section
set_option maxRecDepth 16384
noncomputable section
namespace Cert.GlaRef
open Idealize.ShloMosaic Idealize.ShloMosaic.TcCoe Idealize.ShloMosaic.Tactic Idealize.ShloMosaic.StableHlo Idealize.SL Idealize.SL.Sem Cert.Reference4Ideal Cert.Reference4Ideal.Gen

/-! ## What each list of operations keeps -/

section
variable (X : Valuation τ sig (Elt Ideal))
/-- The operations before the loop, in it and after it leave the three arguments as they are. -/
theorem keep (l : List (HloOp τ sig (Elt Ideal))) (hl : l ∈ Value.preI ++ Value.bodyI ++ Value.condOps :: Value.postI := by simp [Value.preI, Value.bodyI, Value.postI])
    (b : Ref sig .tc) (hb : b ∈ [main_arg0, main_arg1, main_arg2] := by simp) :
    after l X (Proc.devRef .tc b) = X (Proc.devRef .tc b) := by
  simp only [Value.preI, Value.bodyI, Value.postI, List.cons_append, List.nil_append] at hl
  fin_cases hb <;> fin_cases hl <;> after_results_entrywise []
/-- Those after it leave the states that it has kept. -/
theorem keep_states (l : List (HloOp τ sig (Elt Ideal))) (hl : l ∈ Value.postI := by simp [Value.postI]) :
    after l X (Proc.devRef .tc main_v37_4) = X (Proc.devRef .tc main_v37_4) := by
  simp only [Value.postI] at hl
  fin_cases hl <;> after_results_entrywise []
theorem k10_v57 : after hostOps0_10 X (Proc.devRef .tc main_v57) = X (Proc.devRef .tc main_v57) := by
  after_results_entrywise []
theorem k10_v62 : after hostOps0_10 X (Proc.devRef .tc main_v62) = X (Proc.devRef .tc main_v62) := by
  after_results_entrywise []
theorem k12_v110 : after hostOps0_12 X (Proc.devRef .tc main_v110) = X (Proc.devRef .tc main_v110) := by
  after_results_entrywise []

/-- The operations after the loop. -/
theorem post : afterL Value.postI X (Proc.devRef .tc main_v115)
    = rOut (X (Proc.devRef .tc main_arg0)) (rB (X (Proc.devRef .tc main_arg0)) (X (Proc.devRef .tc main_arg1)) (X (Proc.devRef .tc main_arg2))) (X (Proc.devRef .tc main_v37_4)) := by
  simp only [Value.postI, afterL_cons, afterL_nil]
  rw [o13, k12_v110, g12, r11, g11, w10, keep _ hostOps0_10 (b := main_arg0), k10_v62, k10_v57, keep_states _ hostOps0_10, b9, q9, d9, m9, c9, keep _ hostOps0_9 (b := main_arg0), keep_states _ hostOps0_9,
    w8, keep _ hostOps0_8 (b := main_arg0), keep_states _ hostOps0_8, a7, m7, c7, keep _ hostOps0_7 (b := main_arg0), keep_states _ hostOps0_7, l6, keep _ hostOps0_6 (b := main_arg0), keep_states _ hostOps0_6, z5, keep _ hostOps0_5 (b := main_arg0), keep_states _ hostOps0_5]
  rfl
end

section
variable (m : (ℓ : Loc nD τ sig) → Buf (Elt Ideal) ℓ) (c : Dev nD)

/-- The arrays that the reference is run on. -/
def rP : FVec Ideal S16384x8192 .bf16 := m ((c : Thread nD τ).loc main_arg0)
def rW : FVec Ideal S16x256 .f32 := m ((c : Thread nD τ).loc main_arg1)
def rBias : FVec Ideal S1x256 .f32 := m ((c : Thread nD τ).loc main_arg2)

theorem entry_decay : entryContents Value.preI m c (Proc.devRef .tc main_v37_0) = (Host.exp (rLast (rB (rP m c) (rW m c) (rBias m c))) : FVec Ideal S256x4x64 .f32) := by
  simp only [entryContents, Value.preI, afterL_cons, afterL_nil]
  rw [d4, w3, a2, m2, c2, l1, z0]
  rfl
theorem entry_kv : entryContents Value.preI m c (Proc.devRef .tc main_v37_1) = rKv (rP m c) (rB (rP m c) (rW m c) (rBias m c)) := by
  simp only [entryContents, Value.preI, afterL_cons, afterL_nil]
  rw [k4, w3, a2, m2, c2, l1, z0, keep _ hostOps0_3 (b := main_arg0), keep _ hostOps0_2 (b := main_arg0), keep _ hostOps0_1 (b := main_arg0), keep _ hostOps0 (b := main_arg0)]
  rfl
theorem entry_st : entryContents Value.preI m c (Proc.devRef .tc main_v37_3) = rZero := by
  simp only [entryContents, Value.preI, afterL_cons, afterL_nil]
  rw [s4]

theorem keepL (b : Ref sig .tc) (hb : b ∈ [main_arg0, main_arg1, main_arg2]) : ∀ Ls : List (List (HloOp τ sig (Elt Ideal))),
    (∀ l ∈ Ls, l ∈ Value.preI ++ Value.bodyI ++ Value.condOps :: Value.postI) → ∀ X, afterL Ls X (Proc.devRef .tc b) = X (Proc.devRef .tc b)
  | [], _, _ => rfl
  | l :: Ls, h, X => (keepL b hb Ls (fun l' hl => h l' (List.mem_cons_of_mem _ hl)) _).trans (keep X l (h l List.mem_cons_self) b hb)
theorem keep_cond (X : Valuation τ sig (Elt Ideal)) (b : Ref sig .tc) (hb : b ∈ [main_arg0, main_arg1, main_arg2] := by simp) :
    after Value.condOps X (Proc.devRef .tc b) = X (Proc.devRef .tc b) :=
  keep X Value.condOps (by simp) b hb
theorem atK_arg (b : Ref sig .tc) (hb : b ∈ [main_arg0, main_arg1, main_arg2] := by simp) :
    ∀ k, Value.atK m k c (Proc.devRef .tc b) = m ((c : Thread nD τ).loc b)
  | 0 => keepL b hb Value.preI (fun _ h => List.mem_append_left _ (List.mem_append_left _ h)) _
  | k + 1 => ((keepL b hb Value.bodyI (fun _ h => List.mem_append_left _ (List.mem_append_right _ h)) _).trans (keep_cond _ b hb)).trans (atK_arg b hb k)
theorem final_arg (b : Ref sig .tc) (hb : b ∈ [main_arg0, main_arg1, main_arg2] := by simp) :
    finalContents Value.condOps Value.preI Value.bodyI Value.postI 256 m c (Proc.devRef .tc b) = m ((c : Thread nD τ).loc b) :=
  ((keepL b hb Value.postI (fun _ h => List.mem_append_right _ (List.mem_cons_of_mem _ h)) _).trans (keep_cond _ b hb)).trans (atK_arg m c b hb 256)

/-- The result, of what the loop leaves. -/
theorem final_out : finalContents Value.condOps Value.preI Value.bodyI Value.postI 256 m c (Proc.devRef .tc main_v115)
    = rOut (rP m c) (rB (rP m c) (rW m c) (rBias m c)) ((Value.STEP^[256] (entryContents Value.preI m c)) (Proc.devRef .tc main_v37_4)) := by
  show afterL Value.postI (after Value.condOps (Value.atK m 256 c)) (Proc.devRef .tc main_v115) = _
  rw [post, keep_cond _ main_arg0, keep_cond _ main_arg1, keep_cond _ main_arg2, atK_arg m c main_arg0, atK_arg m c main_arg1, atK_arg m c main_arg2, Value.cond_keeps _ main_v37_4 (by decide), Value.atK_agree m c 256 main_v37_4 (by decide)]
  rfl

/-- The run: the result, and the arguments as they were. -/
theorem run (ρ : Dev nD → PrngReg) : θ_run (defs (F := Ideal)) (onTc (τ := τ) (main (F := Ideal))) ⟨m, fun _ => 0, ρ⟩ fun r => ∀ c : Dev nD,
      r.2.mem ((c : Thread nD τ).loc main_v115) = rOut (rP m c) (rB (rP m c) (rW m c) (rBias m c)) ((Value.STEP^[256] (entryContents Value.preI m c)) (Proc.devRef .tc main_v37_4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c main_v115 rfl).trans (final_out m c), (h c main_arg0 rfl).trans (final_arg m c main_arg0),
    (h c main_arg1 rfl).trans (final_arg m c main_arg1), (h c main_arg2 rfl).trans (final_arg m c main_arg2)⟩) (Value.run_fold m ρ)
end

end Cert.GlaRef
end
-- ==== Proof.GlaVal.lean ====
module

public import proofs.«01_k».proof.Proof.GlaRun
public import proofs.«01_k».proof.Proof.RefValue

@[expose] public section
set_option maxRecDepth 16384
noncomputable section
namespace Cert.GlaRef
open Idealize.ShloMosaic Idealize.ShloMosaic.TcCoe Idealize.ShloMosaic.Tactic Idealize.ShloMosaic.StableHlo Idealize.SL Idealize.SL.Sem Cert.Reference4Ideal Cert.Reference4Ideal.Gen
open Cert.Retention (qLane vLane)
open Cert.Gla

/-! ## The reference's arrays at an index -/

theorem row_eq (n : Fin 256) (i : Fin 64) (hh : n.val * 64 + i.val < 16384) : (⟨n.val * 64 + i.val, hh⟩ : Fin 16384) = row n.val i :=
  Fin.ext (by show n.val * 64 + i.val = (64 * n.val + i.val) % 16384; omega)
theorem lane_eq (h : Fin 4) (d : Fin 64) (hh : h.val * 64 + d.val < 256) : (⟨h.val * 64 + d.val, hh⟩ : Fin 256) = qLane h d :=
  Fin.ext (by show h.val * 64 + d.val = 64 * h.val + d.val; omega)

/-- The mask: a position counts at itself and after. -/
theorem rMask_at (i j : Fin 64) : rMask (ix2 i j) = if j ≤ i then 1#1 else 0#1 := by
  unfold rMask
  pointwise
  have hi := RetentionRef.word_int i.val (by omega)
  have hj := RetentionRef.word_int j.val (by omega)
  unfold IntOp.cmpi
  simp only [BitVec.sle, hi, hj, Nat.cast_le]
  by_cases hb : j ≤ i
  · rw [if_pos hb, decide_eq_true (show j.val ≤ i.val from hb)]; rfl
  · rw [if_neg hb, decide_eq_false (show ¬j.val ≤ i.val from hb)]; rfl

theorem ofBits_16 : Ideal.ofBits .f32 0x41800000#32 = ((16 : ℝ) : EReal) := by
  simp [Ideal.ofBits, Ideal.ieee, -EReal.coe_mul]; norm_num
theorem ofBits_bot : Ideal.ofBits .f32 0xFF800000#32 = ⊥ := by
  simp [Ideal.ofBits, Ideal.ieee]
theorem ofBits_zero : Ideal.ofBits .f32 0x00000000#32 = 0 := by
  simp [Ideal.ofBits, Ideal.ieee]

theorem rLs_at (Z : FVec Ideal S16384x256 .f32) (s : Fin 16384) (l : Fin 256) (z : ℝ) (H : Z (ix2 s l) = z) :
    rLs Z (ix2 s l) = ((min z 0 - Real.log (1 + Real.exp (-|z|)) : ℝ) : EReal) := by
  unfold rLs rSp rNil
  pointwise
  rw [H, if_neg (fun h => h rfl), ← EReal.coe_neg]
  show -(max ((-z : ℝ) : EReal) ((0 : ℝ) : EReal) + Ideal.log1p (Ideal.exp (-(max ((-z : ℝ) : EReal) (-((-z : ℝ) : EReal)))))) = _
  rw [← EReal.coe_neg, ← coe_max, ← coe_max, ← EReal.coe_neg, log1p_exp, ← EReal.coe_add, ← EReal.coe_neg]
  refine congrArg _ ?_
  have h1 : max (-z) (- -z) = |z| := by rw [← abs_neg z]; rfl
  have h2 : max (-z) 0 = -min z 0 := by rw [← neg_zero, max_neg_neg, neg_zero]
  rw [h1, h2]
  ring

section
variable (p : FVec Ideal S16384x8192 .bf16) (w : FVec Ideal S16x256 .f32) (b : FVec Ideal S1x256 .f32)

theorem rZ_at (s : Fin 256) (i : Fin 64) (l : Fin 256) : rZ p w b (ix2 (row s.val i) l) = sZ p w b s.val i l := by
  unfold rZ
  pointwise
  rfl

theorem rQ_at (n : Fin 256) (i : Fin 64) (h : Fin 4) (d : Fin 64) : rQ p (ix4 n i h d) = sQ p n.val i (qLane h d) := by
  unfold rQ
  pointwise
  rw [row_eq]
  exact congrArg (fun c => p (ix2 (row n.val i) c) * _) (Fin.ext (by show 6656 + (h.val * 64 + d.val) = 6656 + (64 * h.val + d.val); omega))
theorem rK_at (n : Fin 256) (i : Fin 64) (h : Fin 4) (d : Fin 64) : rK p (ix4 n i h d) = sK p n.val i (qLane h d) := by
  unfold rK
  pointwise
  rw [row_eq]
  exact congrArg (fun c => p (ix2 (row n.val i) c)) (Fin.ext (by show 6912 + (h.val * 64 + d.val) = 6912 + (64 * h.val + d.val); omega))
theorem rV_at (n : Fin 256) (i : Fin 64) (h : Fin 4) (e : Fin 128) : rV p (ix4 n i h e) = sV p n.val i (vLane h e) := by
  unfold rV
  pointwise
  rw [row_eq]
  exact congrArg (fun c => p (ix2 (row n.val i) c)) (Fin.ext (by show 5632 + (h.val * 128 + e.val) = 5632 + (128 * h.val + e.val); omega))

variable {p w b} (H : Fine p w b)
include H

theorem rLa_at (n : Fin 256) (i : Fin 64) (l : Fin 256) : rLa (rLs (rZ p w b)) (ix4 n 0 i l) = (sA p w b n.val i l : EReal) := by
  unfold rLa
  pointwise
  rw [row_eq, rLs_at _ _ _ _ ((rZ_at p w b n i l).trans (H.z n.val i l)), ofBits_16, Ideal.div_coe (by norm_num), ← EReal.coe_mul]
  rfl

theorem rB_at (n : Fin 256) (i : Fin 64) (h : Fin 4) (d : Fin 64) : rB p w b (ix4 n i h d) = (sCum p w b n.val i (qLane h d) : EReal) := by
  unfold rB rTot rWhere rMask4
  pointwise
  simp only [rMask_at, lane_eq, rLa_at H]
  rw [sCum, cum, coe_sum]
  refine Finset.sum_congr rfl fun j _ => ?_
  by_cases hb : j ≤ i
  · rw [if_pos hb, if_pos (show j.val ≤ i.val from hb)]; rfl
  · rw [if_neg hb, if_neg (show ¬j.val ≤ i.val from hb)]; exact ofBits_zero

theorem rLast_at (n : Fin 256) (h : Fin 4) (d : Fin 64) : rLast (rB p w b) (ix3 n h d) = (sCum p w b n.val 63 (qLane h d) : EReal) := by
  unfold rLast
  pointwise
  exact rB_at H n 63 h d

theorem rKv_at (n : Fin 256) (h : Fin 4) (d : Fin 64) (e : Fin 128) : rKv p (rB p w b) (ix4 n h d e)
    = ∑ j, sV p n.val j (vLane h e) * (sK p n.val j (qLane h d) * Ideal.exp ((sCum p w b n.val 63 (qLane h d) : EReal) - sCum p w b n.val j (qLane h d))) := by
  unfold rKv
  pointwise
  refine Finset.sum_congr rfl fun j _ => ?_
  rw [rK_at, rV_at, rLast_at H, rB_at H, mul_comm]

theorem rScore_at (n : Fin 256) (i j : Fin 64) (h : Fin 4) :
    rScore (rQ p) (rK p) (rWhere5 rMask5 (rDiff (rB p w b)) (constant S_ .f32 0xFF800000#32)) (ix4 n i j h)
      = sScore (sA p w b n.val) (sQ p n.val) (sK p n.val) h i j := by
  unfold rScore rWhere5 rMask5 rDiff
  pointwise
  simp only [rMask_at, rQ_at, rK_at, rB_at H]
  unfold sScore
  by_cases hb : j ≤ i
  · simp only [if_pos hb]
    refine Finset.sum_congr rfl fun d _ => congrArg (sQ p n.val i (qLane h d) * sK p n.val j (qLane h d) * ·) ?_
    show Ideal.exp ((sCum p w b n.val i _ : EReal) - sCum p w b n.val j _) = _
    rw [← EReal.coe_sub, Ideal.exp_coe]
    rfl
  · simp only [if_neg hb]
    refine Finset.sum_eq_zero fun d _ => ?_
    show _ * Ideal.exp (Ideal.ofBits .f32 0xFF800000#32) = 0
    rw [ofBits_bot]
    exact mul_zero _

section
variable {prev : FVec Ideal S256x4x64x128 .f32} (hp : ∀ n h d e, prev (ix4 n h d e) = sS p w b n.val h e d)
include hp

theorem rMix_at (n : Fin 256) (i : Fin 64) (h : Fin 4) (e : Fin 128) :
    rMix (rQ p) (rK p) (rV p) (rWhere5 rMask5 (rDiff (rB p w b)) (constant S_ .f32 0xFF800000#32)) (rB p w b) prev (ix4 n i h e)
      = sMix p w b n.val h i e := by
  unfold rMix
  pointwise
  unfold sMix
  refine congrArg₂ (· + ·) (Finset.sum_congr rfl fun j _ => ?_) (Finset.sum_congr rfl fun d _ => ?_)
  · rw [rV_at, rScore_at H, mul_comm]
  · rw [hp, rQ_at, rB_at H, mul_comm]

theorem rO_at (n : Fin 256) (i : Fin 64) (h : Fin 4) (e : Fin 128) :
    rO (rMix (rQ p) (rK p) (rV p) (rWhere5 rMask5 (rDiff (rB p w b)) (constant S_ .f32 0xFF800000#32)) (rB p w b) prev) (ix3 (row n.val i) h e)
      = sMix p w b n.val h i e := by
  unfold rO
  pointwise
  have hg : (row n.val i).val = 64 * n.val + i.val := Nat.mod_eq_of_lt (by omega)
  have e1 : (⟨(row n.val i).val / 64, by omega⟩ : Fin 256) = n := Fin.ext (by show (row n.val i).val / 64 = _; rw [hg]; omega)
  have e2 : (⟨(row n.val i).val % 64, by omega⟩ : Fin 64) = i := Fin.ext (by show (row n.val i).val % 64 = _; rw [hg]; omega)
  rw [e1, e2, rMix_at H hp]

/-- THE REFERENCE'S RESULT: row `64 n + i`, lane `128 h + e`. -/
theorem rOut_at (n : Fin 256) (i : Fin 64) (h : Fin 4) (e : Fin 128) :
    rOut p (rB p w b) prev (ix2 (row n.val i) (vLane h e)) = sOut p w b n.val h i e := by
  unfold rOut rRows rSilu rG
  pointwise
  have e1 : (⟨(vLane h e).val / 128, by omega⟩ : Fin 4) = h := Fin.ext (by show (128 * h.val + e.val) / 128 = _; omega)
  have e2 : (⟨(vLane h e).val % 128, by omega⟩ : Fin 128) = e := Fin.ext (by show (128 * h.val + e.val) % 128 = _; omega)
  rw [e1, e2]
  unfold rNorm
  pointwise
  simp only [rO_at H hp]
  unfold sOut Retention.gateE
  rw [zero_sub]
  rfl
end
end

/-! ## The scan -/

/-- One trip's state, and the states kept so far, of those before it. -/
def stF (g : FVec Ideal S256x4x64 .f32) (kv : FVec Ideal S256x4x64x128 .f32) (S : FVec Ideal S4x64x128 .f32) (k : IVec S_ 32) : FVec Ideal S4x64x128 .f32 :=
  addf (mulf (broadcastInDim S4x64x128 ![0, 1, 2] bcast_S4x64x1_S4x64x128_0_1_2 (broadcastInDim S4x64x1 ![0, 1] bcast_S4x64_S4x64x1_0_1 (shapeCast S4x64 (Host.dynamicSlice S1x4x64 g (fun a => (((![k, constantI S_ 32 0#32, constantI S_ 32 0#32] : Fin 3 → IVec S_ 32)) a (Shape.Idx.first h_S_)).toInt) sliceFits_S256x4x64_S1x4x64) shapeCasts_S1x4x64_S4x64))) S)
    (shapeCast S4x64x128 (Host.dynamicSlice S1x4x64x128 kv (fun a => (((![k, constantI S_ 32 0#32, constantI S_ 32 0#32, constantI S_ 32 0#32] : Fin 4 → IVec S_ 32)) a (Shape.Idx.first h_S_)).toInt) sliceFits_S256x4x64x128_S1x4x64x128) shapeCasts_S1x4x64x128_S4x64x128)
def prF (P : FVec Ideal S256x4x64x128 .f32) (S : FVec Ideal S4x64x128 .f32) (k : IVec S_ 32) : FVec Ideal S256x4x64x128 .f32 :=
  Host.dynamicUpdateSlice P (broadcastInDim S1x4x64x128 ![1, 2, 3] bcast_S4x64x128_S1x4x64x128_1_2_3 S) (fun a => (((![k, constantI S_ 32 0#32, constantI S_ 32 0#32, constantI S_ 32 0#32] : Fin 4 → IVec S_ 32)) a (Shape.Idx.first h_S_)).toInt) updateFits_S256x4x64x128_S1x4x64x128

theorem st_step (V0 : Valuation τ sig (Elt Ideal)) : Value.step_main_v37_3 V0 = stF (V0 (Proc.devRef .tc main_v37_0)) (V0 (Proc.devRef .tc main_v37_1)) (V0 (Proc.devRef .tc main_v37_3)) (V0 (Proc.devRef .tc main_v37_2)) := by
  unfold Value.step_main_v37_3 stF
  rfl
theorem pr_step (V0 : Valuation τ sig (Elt Ideal)) : Value.step_main_v37_4 V0 = prF (V0 (Proc.devRef .tc main_v37_4)) (V0 (Proc.devRef .tc main_v37_3)) (V0 (Proc.devRef .tc main_v37_2)) := by
  unfold Value.step_main_v37_4 prF
  rfl

theorem word_int (k : ℕ) (hk : k < 256) : (BitVec.ofNat 32 k).toInt = (k : ℤ) := by
  rw [BitVec.toInt_eq_toNat_bmod, BitVec.toNat_ofNat, Int.bmod_def]; omega

section
variable (k : ℕ) (hk : k < 256)
include hk
theorem start3_at (a : Fin 3) : Host.clampedStart S256x4x64 S1x4x64 sliceFits_S256x4x64_S1x4x64.1 (fun a => (((![fun _ => BitVec.ofNat 32 k, constantI S_ 32 0#32, constantI S_ 32 0#32] : Fin 3 → IVec S_ 32)) a (Shape.Idx.first h_S_)).toInt) a
    = if a = 0 then k else 0 := by
  fin_cases a
  · exact Host.clampedStart_of_le _ _ 0 k (word_int k hk) (by show k + 1 ≤ 256; omega)
  · exact Host.clampedStart_of_le _ _ 1 0 rfl (by decide)
  · exact Host.clampedStart_of_le _ _ 2 0 rfl (by decide)
theorem start_at (a : Fin 4) : Host.clampedStart S256x4x64x128 S1x4x64x128 sliceFits_S256x4x64x128_S1x4x64x128.1 (fun a => (((![fun _ => BitVec.ofNat 32 k, constantI S_ 32 0#32, constantI S_ 32 0#32, constantI S_ 32 0#32] : Fin 4 → IVec S_ 32)) a (Shape.Idx.first h_S_)).toInt) a
    = if a = 0 then k else 0 := by
  fin_cases a
  · exact Host.clampedStart_of_le _ _ 0 k (word_int k hk) (by show k + 1 ≤ 256; omega)
  · exact Host.clampedStart_of_le _ _ 1 0 rfl (by decide)
  · exact Host.clampedStart_of_le _ _ 2 0 rfl (by decide)
  · exact Host.clampedStart_of_le _ _ 3 0 rfl (by decide)
theorem st_at (g kv S) (h : Fin 4) (d : Fin 64) (e : Fin 128) :
   stF g kv S (fun _ => BitVec.ofNat 32 k) (ix3 h d e) = g (ix3 ⟨k, hk⟩ h d) * S (ix3 h d e) + kv (ix4 ⟨k, hk⟩ h d e) := by
  unfold stF
  pointwise
  have w0 := start_at k hk 0
  have w1 := start_at k hk 1
  have w2 := start_at k hk 2
  have w3 := start_at k hk 3
  have u0 := start3_at k hk 0
  have u1 := start3_at k hk 1
  have u2 := start3_at k hk 2
  simp only [w0, w1, w2, w3, u0, u1, u2, Nat.zero_add, if_true, if_false, Fin.isValue, Fin.reduceEq]
theorem pr_at (P S) (n : Fin 256) (h : Fin 4) (d : Fin 64) (e : Fin 128) :
   prF P S (fun _ => BitVec.ofNat 32 k) (ix4 n h d e) = if n.val = k then S (ix3 h d e) else P (ix4 n h d e) := by
  unfold prF
  pointwise
  have w0 := start_at k hk 0
  have w1 := start_at k hk 1
  have w2 := start_at k hk 2
  have w3 := start_at k hk 3
  simp only [w0, w1, w2, w3, Nat.sub_zero, Nat.zero_le, if_true, if_false, Fin.isValue, Fin.reduceEq, and_true]
  by_cases e : n.val = k
  · rw [dif_pos (by omega), if_pos e]
  · rw [dif_neg (by omega), if_neg e]
end

section
variable (m : (ℓ : Loc nD τ sig) → Buf (Elt Ideal) ℓ) (c : Dev nD) (H : Fine (rP m c) (rW m c) (rBias m c))

/-- What the loop carries before trip `k`. -/
structure Carries (k : ℕ) (V : Valuation τ sig (Elt Ideal)) : Prop where
  decay : V (Proc.devRef .tc main_v37_0) = (Host.exp (rLast (rB (rP m c) (rW m c) (rBias m c))) : FVec Ideal S256x4x64 .f32)
  kv : V (Proc.devRef .tc main_v37_1) = rKv (rP m c) (rB (rP m c) (rW m c) (rBias m c))
  ctr : V (Proc.devRef .tc main_v37_2) = fun _ => BitVec.ofNat 32 k
  st : ∀ h d e, (V (Proc.devRef .tc main_v37_3) : FVec Ideal S4x64x128 .f32) (ix3 h d e) = sS (rP m c) (rW m c) (rBias m c) k h e d
  pr : ∀ n : Fin 256, n.val < k → ∀ h d e, (V (Proc.devRef .tc main_v37_4) : FVec Ideal S256x4x64x128 .f32) (ix4 n h d e) = sS (rP m c) (rW m c) (rBias m c) n.val h e d

include H
theorem carries : ∀ k ≤ 256, Carries m c k (Value.STEP^[k] (entryContents Value.preI m c))
  | 0, _ => ⟨entry_decay m c, entry_kv m c, Value.ctr_entry m c, fun h d e => by
      rw [Function.iterate_zero, id_eq, entry_st]
      exact ofBits_zero, fun n hn => absurd hn (Nat.not_lt_zero _)⟩
  | k + 1, hk => by
    have C := carries k (by omega)
    rw [Function.iterate_succ_apply']
    refine ⟨?_, ?_, ?_, fun h d e => ?_, fun n hn h d e => ?_⟩
    · rw [Value.STEP_main_v37_0, C.decay]
    · rw [Value.STEP_main_v37_1, C.kv]
    · rw [Value.STEP_main_v37_2]
      unfold Value.step_main_v37_2
      rw [C.ctr]
      funext x
      show BitVec.ofNat 32 k + 1#32 = BitVec.ofNat 32 (k + 1)
      rw [BitVec.ofNat_add]
    · rw [Value.STEP_main_v37_3, st_step, C.ctr]
      refine (st_at k (by omega) _ _ _ h d e).trans ?_
      rw [C.kv, C.decay, C.st, rKv_at H]
      pointwise
      rw [rLast_at H]
      rfl
    · rw [Value.STEP_main_v37_4, pr_step, C.ctr]
      refine (pr_at k (by omega) _ _ n h d e).trans ?_
      by_cases e' : n.val = k
      · rw [if_pos e', C.st, e']
      · rw [if_neg e', C.pr n (by omega)]

/-- The reference's result, at an index. -/
theorem reference_value (n : Fin 256) (i : Fin 64) (h : Fin 4) (e : Fin 128) :
    rOut (rP m c) (rB (rP m c) (rW m c) (rBias m c)) ((Value.STEP^[256] (entryContents Value.preI m c)) (Proc.devRef .tc main_v37_4)) (ix2 (row n.val i) (vLane h e))
      = sOut (rP m c) (rW m c) (rBias m c) n.val h i e :=
  rOut_at H (fun n h d e => (carries m c H 256 le_rfl).pr n n.isLt h d e) n i h e
end

end Cert.GlaRef
end
-- ==== Proof.Gla.lean ====
module

public import proofs.«01_k».proof.Defs
public import proofs.«01_k».proof.Proof.GlaVal

@[expose] public section
set_option maxRecDepth 16384
noncomputable section
namespace Cert.Gla
open Idealize.ShloMosaic Idealize.ShloMosaic.TcCoe Idealize.ShloMosaic.Tactic Idealize.ShloMosaic.StableHlo Idealize.SL Idealize.SL.Sem
open Cert.Retention (qLane vLane)

instance finite_facts : Cert.Pre_finite4.Facts := by constructor <;> decide

/-- What is smaller than infinity and so is its negative, is real. -/
theorem real_of_lt (x : EReal) (h : max x (-x) < ⊤) : ∃ r : ℝ, x = r := by
  induction x with
  | bot => exact absurd h (by simp)
  | top => exact absurd h (by simp)
  | coe r => exact ⟨r, rfl⟩

theorem ofBits_top : Ideal.ofBits .f32 0x7F800000#32 = ⊤ := by
  simp [Ideal.ofBits, Ideal.ieee]

/-- The comparison with infinity, where it says yes. -/
theorem real_of_cmp (x : EReal) (h : BitVec.ofBool (decide (max x (-x) < Ideal.ofBits .f32 0x7F800000#32)) = 1#1) : ∃ r : ℝ, x = r := by
  rw [ofBits_top] at h
  refine real_of_lt x ?_
  by_contra hn
  rw [decide_eq_false hn] at h
  exact absurd h (by decide)

theorem and_one (a b : BitVec 1) (h : a &&& b = 1#1) : a = 1#1 ∧ b = 1#1 := by
  revert a b; decide

/-- The precondition says that what the decays are computed from is real. -/
theorem fine_of_pre (p : FVec Ideal ⟨2, ![16384, 8192]⟩ .bf16) (w : FVec Ideal ⟨2, ![16, 256]⟩ .f32) (b : FVec Ideal ⟨2, ![1, 256]⟩ .f32)
    (H : Cert.Pre_finite4.fn (F := Ideal) p w b = fun _ => 1#1) : Fine p w b := by
  have key : ∀ (s : Fin 16384) (k : Fin 16) (l : Fin 256), (∃ r : ℝ, p (ix2 s (aCol k)) = r) ∧ (∃ r : ℝ, w (ix2 k l) = r) ∧ ∃ r : ℝ, b (ix2 0 l) = r := by
    intro s k l
    have h := congrFun H (ix3 s k l)
    revert h
    pointwise [Cert.Pre_finite4.fn]
    intro h
    obtain ⟨h12, h3⟩ := and_one _ _ h
    obtain ⟨h1, h2⟩ := and_one _ _ h12
    exact ⟨real_of_cmp _ h1, real_of_cmp _ h2, real_of_cmp _ h3⟩
  exact ⟨fun s k => (key s k 0).1, fun k l => (key 0 k l).2.1, fun l => (key 0 0 l).2.2⟩

/-- The two programs' results agree at every row and lane. -/
theorem results_agree (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev Cert.Kernel4Ideal.nD)
    (H : Fine (mP m c) (mW m c) (mB m c))
    (h0 : Cert.GlaRef.rP m' c = mP m c) (h1 : Cert.GlaRef.rW m' c = mW m c) (h2 : Cert.GlaRef.rBias m' c = mB m c) :
    Cert.GlaRef.rOut (Cert.GlaRef.rP m' c) (Cert.GlaRef.rB (Cert.GlaRef.rP m' c) (Cert.GlaRef.rW m' c) (Cert.GlaRef.rBias m' c))
        ((Cert.Reference4Ideal.Value.STEP^[256] (entryContents Cert.Reference4Ideal.Value.preI m' c)) (Proc.devRef .tc Cert.Reference4Ideal.main_v37_4))
      = Cert.Kernel4Ideal.Value.G7 m c := by
  funext x
  obtain ⟨s, w, rfl⟩ : ∃ (s : Fin 16384) (w : Fin 512), x = ix2 s w := ⟨x 0, x 1, eq_ix2 x⟩
  have hs : s = row (⟨s.val / 64, by omega⟩ : Fin 256).val ⟨s.val % 64, by omega⟩ :=
    Fin.ext (by show s.val = (64 * (s.val / 64) + s.val % 64) % 16384; omega)
  have hw : w = vLane ⟨w.val / 128, by omega⟩ ⟨w.val % 128, by omega⟩ :=
    Fin.ext (by show w.val = 128 * (w.val / 128) + w.val % 128; omega)
  have H' : Fine (Cert.GlaRef.rP m' c) (Cert.GlaRef.rW m' c) (Cert.GlaRef.rBias m' c) := by rw [h0, h1, h2]; exact H
  rw [hs, hw]
  refine (Cert.GlaRef.reference_value m' c H' _ _ _ _).trans ?_
  rw [h0, h1, h2]
  exact (kernel_value H _ _ _ _).symm

theorem algebraic : Cert.algebraic_Kernel4Ideal_Reference4Ideal_pre_finite4 := by
  intro m ρ m' ρ' hpre hagree
  refine ⟨_, Cert.Kernel4Ideal.Value.run (F := Ideal) m ρ, ?_⟩
  refine (θ_run Cert.Reference4Ideal.defs _ _).mono (fun _ h c => ⟨(h c).1.trans ?_, (h c).2⟩) (Cert.GlaRef.run m' ρ')
  exact results_agree m m' c (fine_of_pre _ _ _ (hpre c)) (hagree c).1 (hagree c).2.1 (hagree c).2.2

end Cert.Gla
end
-- ==== Proof.Proj.lean ====
module

public import proofs.«01_k».proof.Defs
public import proofs.«01_k».proof.Proof.Gen.Kernel2Ideal.Value
public import proofs.«01_k».proof.Proof.Gen.Reference2Ideal.Run
public import Idealize.ShloMosaic.Lib.Pipeline.ValueKit
public import Idealize.ShloMosaic.Lib.Pipeline.ReadBack
public import Idealize.ShloMosaic.Lib.Pointwise

@[expose] public section
set_option maxRecDepth 16384
noncomputable section
namespace Cert.Projection
open Idealize.ShloMosaic Idealize.ShloMosaic.TcCoe

/-! ## One row times one column -/

/-- One over the root of a row's mean square. -/
def invRoot (x : Fin 1024 → EReal) : EReal :=
  Ideal.rsqrt (Ideal.div (∑ k, x k * x k) (Ideal.ofBits .f32 0x44800000#32) + Ideal.ofBits .f32 0x358637BD#32)
/-- A row, normed and modulated, times a column of the weights. -/
def projE (x gain scale shift w : Fin 1024 → EReal) : EReal :=
  ∑ k, (x k * invRoot x * gain k * (1 + scale k) + shift k) * w k

section Kernel
open Cert.Kernel2Ideal Cert.Kernel2Ideal.Gen

/-- One entry of the block that a grid point writes. -/
theorem body_at (x0 : Vec Ideal S512x1024 .f32) (x1 x2 x3 : Vec Ideal S1x1024 .f32) (x4 : Vec Ideal S1024x2048 .bf16) (r : Fin 512) (j : Fin 2048) :
    out0_5 x0 x1 x2 x3 x4 (ix2 r j) = projE (fun k => x0 (ix2 r k)) (fun k => x1 (ix2 0 k)) (fun k => x2 (ix2 0 k)) (fun k => x3 (ix2 0 k)) (fun k => x4 (ix2 k j)) := by
  unfold out0_5
  canon_tiles x hx
  obtain ⟨a, b, rfl⟩ : ∃ (a : Fin 512) (b : Fin 2048), x = ix2 a b := ⟨x 0, x 1, eq_ix2 x⟩
  obtain rfl : r = a := Fin.ext hx0
  obtain rfl : j = b := Fin.ext hx1
  pointwise [k0_pay1]
  rfl

/-- The blocks of the windows: the grid runs over the four groups of columns, and over the 32 groups of rows within each. -/
theorem win_at : ∀ t : Fin cfg0.N, win0_0.index t 0 = t.val % 32 ∧ win0_0.index t 1 = 0 ∧ win0_1.index t 0 = 0 ∧ win0_1.index t 1 = 0
    ∧ win0_2.index t 0 = 0 ∧ win0_2.index t 1 = 0 ∧ win0_3.index t 0 = 0 ∧ win0_3.index t 1 = 0
    ∧ win0_4.index t 0 = 0 ∧ win0_4.index t 1 = t.val / 32 ∧ win0_5.index t 0 = t.val % 32 ∧ win0_5.index t 1 = t.val / 32 := by
  decide +kernel

/-- Every grid point writes its block back. -/
theorem flush_at : ∀ t : Fin cfg0.N, (cfg0.win 5).flush t = true := by
  decide +kernel

variable (m : (ℓ : Loc nD τ sig) → Buf (Elt Ideal) ℓ) (c : Dev nD)

/-- The arrays that the kernel is launched on. -/
def aX : (⟨2, ![16384, 1024]⟩ : Shape).Idx → EReal := m ((c : Thread nD τ).loc main_arg0)
def aGain : (⟨2, ![1, 1024]⟩ : Shape).Idx → EReal := m ((c : Thread nD τ).loc main_arg1)
def aScale : (⟨2, ![1, 1024]⟩ : Shape).Idx → EReal := m ((c : Thread nD τ).loc main_arg2)
def aShift : (⟨2, ![1, 1024]⟩ : Shape).Idx → EReal := m ((c : Thread nD τ).loc main_arg3)
def aW : (⟨2, ![1024, 8192]⟩ : Shape).Idx → EReal := m ((c : Thread nD τ).loc main_arg4)

variable (t : Fin cfg0.N)

theorem rows_at (r : Fin 512) (s : Fin 16384) (hs : s.val = t.val % 32 * 512 + r.val) (k : Fin 1024) : iblk m c 0 t (ix2 r k) = aX m c (ix2 s k) := by
  have h := win_at t
  unfold aX
  blk_simp [iblk]
  rw [V_main_arg0]
  refine congrArg _ (funext fun a => Fin.ext ?_)
  fin_cases a
  · blk_simp [h]; exact hs.symm
  · blk_simp [h]; first | rfl | (change k.val = k.val; omega)

theorem cols_at (j : Fin 2048) (w : Fin 8192) (hw : w.val = t.val / 32 * 2048 + j.val) (k : Fin 1024) : iblk m c 4 t (ix2 k j) = aW m c (ix2 k w) := by
  have h := win_at t
  unfold aW
  blk_simp [iblk]
  rw [V_main_arg4]
  refine congrArg _ (funext fun a => Fin.ext ?_)
  fin_cases a
  · blk_simp [h]; first | rfl | (change k.val = k.val; omega)
  · blk_simp [h]; exact hw.symm

theorem gain_at (k : Fin 1024) : iblk m c 1 t (ix2 0 k) = aGain m c (ix2 0 k) := by
  have h := win_at t
  unfold aGain
  blk_simp [iblk]
  rw [V_main_arg1]
  refine congrArg _ (funext fun a => Fin.ext ?_)
  fin_cases a <;> blk_simp [h] <;> rfl

theorem scale_at (k : Fin 1024) : iblk m c 2 t (ix2 0 k) = aScale m c (ix2 0 k) := by
  have h := win_at t
  unfold aScale
  blk_simp [iblk]
  rw [V_main_arg2]
  refine congrArg _ (funext fun a => Fin.ext ?_)
  fin_cases a <;> blk_simp [h] <;> rfl

theorem shift_at (k : Fin 1024) : iblk m c 3 t (ix2 0 k) = aShift m c (ix2 0 k) := by
  have h := win_at t
  unfold aShift
  blk_simp [iblk]
  rw [V_main_arg3]
  refine congrArg _ (funext fun a => Fin.ext ?_)
  fin_cases a <;> blk_simp [h] <;> rfl

/-- An entry of the result is the entry of the block that its grid point writes. -/
theorem block_at (r : Fin 512) (j : Fin 2048) (s : Fin 16384) (w : Fin 8192) (hs : s.val = t.val % 32 * 512 + r.val) (hw : w.val = t.val / 32 * 2048 + j.val) :
    (dats m 0 c).arrAt 5 cfg0.N (ix2 s w) = out0_5 (iblk m c 0 t) (iblk m c 1 t) (iblk m c 2 t) (iblk m c 3 t) (iblk m c 4 t) (ix2 r j) := by
  refine Eq.trans (congrArg _ ?_) (congrFun ((Value.blocks5 m c t (flush_at t)).trans (Value.flushed5 m c t)) (ix2 r j))
  have h := win_at t
  blk_simp
  funext a
  refine Fin.ext ?_
  fin_cases a
  · blk_simp [h]; exact hs
  · blk_simp [h]; exact hw

/-- THE KERNEL'S RESULT at row `s` and column `w`. -/
theorem kernel_value (s : Fin 16384) (w : Fin 8192) :
    (dats m 0 c).arrAt 5 cfg0.N (ix2 s w)
      = projE (fun k => aX m c (ix2 s k)) (fun k => aGain m c (ix2 0 k)) (fun k => aScale m c (ix2 0 k)) (fun k => aShift m c (ix2 0 k)) (fun k => aW m c (ix2 k w)) := by
  have hN : cfg0.N = 128 := N_0
  have ht : w.val / 2048 * 32 + s.val / 512 < cfg0.N := by omega
  have hs : s.val = (⟨w.val / 2048 * 32 + s.val / 512, ht⟩ : Fin cfg0.N).val % 32 * 512 + (⟨s.val % 512, by omega⟩ : Fin 512).val := by
    show s.val = (w.val / 2048 * 32 + s.val / 512) % 32 * 512 + s.val % 512; omega
  have hw : w.val = (⟨w.val / 2048 * 32 + s.val / 512, ht⟩ : Fin cfg0.N).val / 32 * 2048 + (⟨w.val % 2048, by omega⟩ : Fin 2048).val := by
    show w.val = (w.val / 2048 * 32 + s.val / 512) / 32 * 2048 + w.val % 2048; omega
  rw [block_at m c _ _ _ s w hs hw, body_at]
  simp only [rows_at m c _ _ s hs, cols_at m c _ _ w hw, gain_at, scale_at, shift_at]
end Kernel

/-- The equation: from the same arrays the reference's result is the kernel's. -/
theorem algebraic : Cert.algebraic_Kernel2Ideal_Reference2Ideal := by
  intro m ρ m' ρ' _ hagree
  refine ⟨_, Cert.Kernel2Ideal.Value.run_blocks (F := Ideal) m ρ, ?_⟩
  refine (θ_run Cert.Reference2Ideal.defs _ _).mono (fun _ h c => ⟨(h c).1.trans ?_, (h c).2⟩) (Cert.Reference2Ideal.Value.run (F := Ideal) m' ρ')
  obtain ⟨h0, h1, h2, h3, h4⟩ := hagree c
  rw [h0, h1, h2, h3, h4]
  funext x
  obtain ⟨s, w, rfl⟩ : ∃ (s : Fin 16384) (w : Fin 8192), x = ix2 s w := ⟨x 0, x 1, eq_ix2 x⟩
  refine Eq.trans ?_ (kernel_value m c s w).symm
  pointwise
  rfl

end Cert.Projection
end
-- ==== Proof.Merge.lean ====
module

public import proofs.«01_k».proof.Proof.Proj
public import proofs.«01_k».proof.Proof.Gen.Kernel3Ideal.Value
public import proofs.«01_k».proof.Proof.Gen.Reference3Ideal.Run
public import Idealize.ShloMosaic.Lib.Pipeline.ValueKit
public import Idealize.ShloMosaic.Lib.Pipeline.ReadBack
public import Idealize.ShloMosaic.Lib.Pointwise

@[expose] public section
set_option maxRecDepth 16384
noncomputable section
namespace Cert.Merge
open Idealize.ShloMosaic Idealize.ShloMosaic.TcCoe

/-! ## One row -/

/-- The logistic. -/
def sigE (z : EReal) : EReal := Ideal.div 1 (1 + Ideal.exp (-z))
/-- The branches of one row, each projected and gated, added: its lane `k`. -/
def mixE (p : Fin 3072 → EReal) (ret dsa gl : Fin 512 → EReal) (wr wd wg : Fin 512 → Fin 1024 → EReal) (k : Fin 1024) : EReal :=
  sigE (p ⟨k.val, by omega⟩) * ∑ l, ret l * wr l k + sigE (p ⟨1024 + k.val, by omega⟩) * ∑ l, dsa l * wd l k
    + sigE (p ⟨2048 + k.val, by omega⟩) * ∑ l, gl l * wg l k
/-- A row of the input, plus its gate times the normed row `z`. -/
def addE (x gate post z : Fin 1024 → EReal) (e : Fin 1024) : EReal := x e + gate e * (z e * Cert.Projection.invRoot z * post e)
/-- The result of a row: the mixed branches through the output weights, normed, gated and added. -/
def mergeE (x gate post : Fin 1024 → EReal) (p : Fin 3072 → EReal) (ret dsa gl : Fin 512 → EReal) (wr wd wg : Fin 512 → Fin 1024 → EReal)
    (wo : Fin 1024 → Fin 1024 → EReal) : Fin 1024 → EReal :=
  addE x gate post fun e => ∑ k, mixE p ret dsa gl wr wd wg k * wo k e

section Kernel
open Cert.Kernel3Ideal Cert.Kernel3Ideal.Gen

variable (m : (ℓ : Loc nD τ sig) → Buf (Elt Ideal) ℓ) (c : Dev nD)

/-- One entry of the block that a grid point writes. -/
theorem body_at (t : Fin cfg0.N) (r : Fin 512) (e : Fin 1024) :
    outsAt0 m c t (ix2 r e) = mergeE (fun k => iblk m c 0 t (ix2 r k)) (fun k => iblk m c 10 t (ix2 0 k)) (fun k => iblk m c 9 t (ix2 0 k))
      (fun q => X0_4 m c t (ix2 r q)) (fun l => iblk m c 1 t (ix2 r l)) (fun l => iblk m c 2 t (ix2 r l)) (fun l => iblk m c 3 t (ix2 r l))
      (fun l k => iblk m c 5 t (ix2 l k)) (fun l k => iblk m c 6 t (ix2 l k)) (fun l k => iblk m c 7 t (ix2 l k)) (fun k j => iblk m c 8 t (ix2 k j)) e := by
  unfold outsAt0 out0_A_11
  generalize iblk m c 0 t = x0, iblk m c 1 t = x1, iblk m c 2 t = x2, iblk m c 3 t = x3, X0_4 m c t = x4, iblk m c 5 t = x5, iblk m c 6 t = x6, iblk m c 7 t = x7, iblk m c 8 t = x8, iblk m c 9 t = x9, iblk m c 10 t = x10
  frame_open
  simp (disch := decide) only [↓ View.readCov_skip, ↓ View.readCov_cons_toLoadRect, ↓ View.readCov_fill]
  frame_out
  pointwise [k0_pay1, k0_pay2, k0_pay3]
  simp only [zero_sub]
  rfl

/-- The blocks of the windows: point `t` has the `t`-th group of rows, and the weights whole. -/
theorem win_at : ∀ t : Fin cfg0.N, win0_0.index t 0 = t.val ∧ win0_0.index t 1 = 0 ∧ win0_1.index t 0 = t.val ∧ win0_1.index t 1 = 0
    ∧ win0_2.index t 0 = t.val ∧ win0_2.index t 1 = 0 ∧ win0_3.index t 0 = t.val ∧ win0_3.index t 1 = 0
    ∧ win0_4.index t 0 = t.val ∧ win0_4.index t 1 = 0 ∧ win0_11.index t 0 = t.val ∧ win0_11.index t 1 = 0 := by
  decide +kernel
theorem whole_at : ∀ t : Fin cfg0.N, win0_5.index t 0 = 0 ∧ win0_5.index t 1 = 0 ∧ win0_6.index t 0 = 0 ∧ win0_6.index t 1 = 0
    ∧ win0_7.index t 0 = 0 ∧ win0_7.index t 1 = 0 ∧ win0_8.index t 0 = 0 ∧ win0_8.index t 1 = 0
    ∧ win0_9.index t 0 = 0 ∧ win0_9.index t 1 = 0 ∧ win0_10.index t 0 = 0 ∧ win0_10.index t 1 = 0 := by
  decide +kernel

/-- Every grid point writes its block back. -/
theorem flush_at : ∀ t : Fin cfg0.N, (cfg0.win 11).flush t = true := by
  decide +kernel

variable (t : Fin cfg0.N)

/-- The gates' block, which the windows' cut leaves whole. -/
theorem gates_whole (r : Fin 512) (q : Fin 3072) : X0_4 m c t (ix2 r q)
    = iblk m c 4 t fun a => ⟨((ix2 r q : (cfg0.win 4).block.Idx) a).val, ((cfg0.win 4).moved_iff _ _).mp (moved0_4 t (ix2 r q)) a⟩ := by
  unfold X0_4 Pipeline.Window.fill
  exact dif_pos (moved0_4 t _)

/-- The rows of the input, of the branches and of the gates' projections that a point reads. -/
theorem rows_at (r : Fin 512) (s : Fin 16384) (hs : s.val = t.val * 512 + r.val) :
    (∀ k : Fin 1024, iblk m c 0 t (ix2 r k) = m ((c : Thread nD τ).loc main_arg0) (ix2 s k))
    ∧ (∀ l : Fin 512, iblk m c 1 t (ix2 r l) = m ((c : Thread nD τ).loc main_arg1) (ix2 s l))
    ∧ (∀ l : Fin 512, iblk m c 2 t (ix2 r l) = m ((c : Thread nD τ).loc main_arg2) (ix2 s l))
    ∧ (∀ l : Fin 512, iblk m c 3 t (ix2 r l) = m ((c : Thread nD τ).loc main_arg3) (ix2 s l))
    ∧ (∀ q : Fin 3072, X0_4 m c t (ix2 r q) = m ((c : Thread nD τ).loc main_arg4) (ix2 s ⟨q.val, by omega⟩)) := by
  have h := win_at t
  refine ⟨fun k => ?_, fun k => ?_, fun k => ?_, fun k => ?_, fun k => ?_⟩
  all_goals
    try rw [gates_whole]
    blk_simp [iblk]
    simp only [V_main_arg0, V_main_arg1, V_main_arg2, V_main_arg3, V_main_arg4]
    refine congrArg _ (funext fun a => Fin.ext ?_)
    fin_cases a
    · blk_simp [h]; exact hs.symm
    · blk_simp [h]; first | rfl | (change k.val = k.val; omega)

/-- The weights, the norm's gain and the gate, whole at every point. -/
theorem weights_at :
    (∀ (l : Fin 512) (k : Fin 1024), iblk m c 5 t (ix2 l k) = m ((c : Thread nD τ).loc main_arg5) (ix2 l k))
    ∧ (∀ (l : Fin 512) (k : Fin 1024), iblk m c 6 t (ix2 l k) = m ((c : Thread nD τ).loc main_arg6) (ix2 l k))
    ∧ (∀ (l : Fin 512) (k : Fin 1024), iblk m c 7 t (ix2 l k) = m ((c : Thread nD τ).loc main_arg7) (ix2 l k))
    ∧ (∀ (l : Fin 1024) (k : Fin 1024), iblk m c 8 t (ix2 l k) = m ((c : Thread nD τ).loc main_arg8) (ix2 l k))
    ∧ (∀ (l : Fin 1) (k : Fin 1024), iblk m c 9 t (ix2 l k) = m ((c : Thread nD τ).loc main_arg9) (ix2 l k))
    ∧ (∀ (l : Fin 1) (k : Fin 1024), iblk m c 10 t (ix2 l k) = m ((c : Thread nD τ).loc main_arg10) (ix2 l k)) := by
  have h := whole_at t
  refine ⟨fun l k => ?_, fun l k => ?_, fun l k => ?_, fun l k => ?_, fun l k => ?_, fun l k => ?_⟩
  all_goals
    blk_simp [iblk]
    simp only [V_main_arg5, V_main_arg6, V_main_arg7, V_main_arg8, V_main_arg9, V_main_arg10]
    refine congrArg _ (funext fun a => Fin.ext ?_)
    fin_cases a <;> blk_simp [h]

/-- An entry of the result is the entry of the block that its grid point writes. -/
theorem block_at (r : Fin 512) (e : Fin 1024) (s : Fin 16384) (hs : s.val = t.val * 512 + r.val) :
    (dats m 0 c).arrAt 11 cfg0.N (ix2 s e) = outsAt0 m c t (ix2 r e) := by
  refine Eq.trans (congrArg _ ?_) (congrFun ((Value.blocks11 m c t (flush_at t)).trans (Value.flushed11 m c t)) (ix2 r e))
  have h := win_at t
  blk_simp
  funext a
  refine Fin.ext ?_
  fin_cases a
  · blk_simp [h]; exact hs
  · blk_simp [h]; first | rfl | (change e.val = e.val; omega)

/-- THE KERNEL'S RESULT at row `s` and lane `e`. -/
theorem kernel_value (s : Fin 16384) (e : Fin 1024) :
    (dats m 0 c).arrAt 11 cfg0.N (ix2 s e)
      = mergeE (fun k => m ((c : Thread nD τ).loc main_arg0) (ix2 s k)) (fun k => m ((c : Thread nD τ).loc main_arg10) (ix2 0 k)) (fun k => m ((c : Thread nD τ).loc main_arg9) (ix2 0 k))
        (fun q => m ((c : Thread nD τ).loc main_arg4) (ix2 s ⟨q.val, by omega⟩)) (fun l => m ((c : Thread nD τ).loc main_arg1) (ix2 s l)) (fun l => m ((c : Thread nD τ).loc main_arg2) (ix2 s l)) (fun l => m ((c : Thread nD τ).loc main_arg3) (ix2 s l))
        (fun l k => m ((c : Thread nD τ).loc main_arg5) (ix2 l k)) (fun l k => m ((c : Thread nD τ).loc main_arg6) (ix2 l k)) (fun l k => m ((c : Thread nD τ).loc main_arg7) (ix2 l k)) (fun k j => m ((c : Thread nD τ).loc main_arg8) (ix2 k j)) e := by
  have hN : cfg0.N = 32 := N_0
  have ht : s.val / 512 < cfg0.N := by omega
  have hs : s.val = (⟨s.val / 512, ht⟩ : Fin cfg0.N).val * 512 + (⟨s.val % 512, by omega⟩ : Fin 512).val := by
    show s.val = s.val / 512 * 512 + s.val % 512; omega
  obtain ⟨h0, h1, h2, h3, h4⟩ := rows_at m c _ _ s hs
  obtain ⟨h5, h6, h7, h8, h9, h10⟩ := weights_at m c ⟨s.val / 512, ht⟩
  rw [block_at m c _ _ _ s hs, body_at]
  simp only [h0, h1, h2, h3, h4, h5, h6, h7, h8, h9, h10]
end Kernel

/-- The equation: from the same arrays the reference's result is the kernel's. -/
theorem algebraic : Cert.algebraic_Kernel3Ideal_Reference3Ideal := by
  intro m ρ m' ρ' _ hagree
  refine ⟨_, Cert.Kernel3Ideal.Value.run_blocks (F := Ideal) m ρ, ?_⟩
  refine (θ_run Cert.Reference3Ideal.defs _ _).mono (fun _ h c => ⟨(h c).1.trans ?_, (h c).2⟩) (Cert.Reference3Ideal.Value.run (F := Ideal) m' ρ')
  obtain ⟨h0, h1, h2, h3, h4, h5, h6, h7, h8, h9, h10⟩ := hagree c
  unfold Cert.Reference3Ideal.Value.res_main_v45
  rw [h0, h1, h2, h3, h4, h5, h6, h7, h8, h9, h10]
  funext x
  obtain ⟨s, w, rfl⟩ : ∃ (s : Fin 16384) (w : Fin 1024), x = ix2 s w := ⟨x 0, x 1, eq_ix2 x⟩
  refine Eq.trans ?_ (kernel_value m c s w).symm
  pointwise
  rfl

end Cert.Merge
end
-- ==== Proof.Mod.lean ====
module

public import proofs.«01_k».proof.Defs
public import proofs.«01_k».proof.Proof.Gla
public import proofs.«01_k».proof.Proof.Gen.Kernel5Ideal.Value
public import proofs.«01_k».proof.Proof.Gen.Reference5Ideal.Run
public import Idealize.ShloMosaic.Lib.Pipeline.ValueKit
public import Idealize.ShloMosaic.Lib.Pipeline.ReadBack
public import Idealize.ShloMosaic.Lib.Pointwise

@[expose] public section
set_option maxRecDepth 16384
noncomputable section
namespace Cert.Modulation
open Idealize.ShloMosaic Idealize.ShloMosaic.TcCoe
open Cert.Gla (real_of_cmp and_one)

/-! ## One row times one column -/

/-- A value times its logistic function. -/
def silu (x : EReal) : EReal := x * Ideal.div 1 (1 + Ideal.exp (-x))

theorem silu_real (x : EReal) (h : ∃ r : ℝ, x = r) : ∃ r : ℝ, silu x = r := by
  obtain ⟨r, rfl⟩ := h
  have hp := Real.exp_pos (-r)
  refine ⟨r * (1 * (1 / (1 + Real.exp (-r)))), ?_⟩
  unfold silu
  rw [← EReal.coe_neg, Ideal.exp_coe, ← EReal.coe_one, ← EReal.coe_add, Ideal.div_coe (by linarith), ← EReal.coe_mul, ← EReal.coe_mul]

/-- The row's values, each times its logistic function, times a column of the weights, and the bias. -/
def modE (x w : Fin 1024 → EReal) (b : EReal) : EReal := (∑ k, silu (x k) * w k) + b

section Kernel
open Cert.Kernel5Ideal Cert.Kernel5Ideal.Gen

/-- One entry of the block that a grid point writes. -/
theorem body_at (x0 : Vec Ideal S8x1024 .f32) (x1 : Vec Ideal S1x1024x1024 .f32) (x2 : Vec Ideal S1x1x1024 .f32) (r : Fin 8) (j : Fin 1024)
    (hx : ∀ k, ∃ r' : ℝ, x0 (ix2 r k) = r') (hw : ∀ k, ∃ r' : ℝ, x1 (ix3 0 k j) = r') :
    out0_3 x0 x1 x2 (ix3 0 r j) = modE (fun k => x0 (ix2 r k)) (fun k => x1 (ix3 0 k j)) (x2 (ix3 0 0 j)) := by
  have hs : ∀ k, silu (x0 (ix2 r k)) - silu (x0 (ix2 r k)) = 0 := fun k => by
    obtain ⟨q, hq⟩ := silu_real _ (hx k)
    rw [hq, ← EReal.coe_sub, sub_self, EReal.coe_zero]
  have hw' : ∀ k, x1 (ix3 0 k j) - x1 (ix3 0 k j) = 0 := fun k => by
    obtain ⟨q, hq⟩ := hw k
    rw [hq, ← EReal.coe_sub, sub_self, EReal.coe_zero]
  have e0 : (0 : EReal) - 0 = 0 := by rw [← EReal.coe_zero, ← EReal.coe_sub, sub_self]
  unfold out0_3
  canon_tiles x hx
  obtain ⟨z, a, b, rfl⟩ : ∃ (z : Fin 1) (a : Fin 8) (b : Fin 1024), x = ix3 z a b := ⟨x 0, x 1, x 2, eq_ix3 x⟩
  obtain rfl : r = a := Fin.ext hx1
  obtain rfl : j = b := Fin.ext hx2
  obtain rfl : z = 0 := Subsingleton.elim _ _
  pointwise [k0_pay1, k0_pay2, k0_pay3, k0_pay4, k0_pay5, k0_pay6, k0_pay7, k0_pay8, k0_pay9, k0_pay10, k0_pay11, k0_pay12]
  unfold modE
  unfold silu at *
  simp only [zero_sub, hs, hw', e0, mul_zero, zero_mul, Finset.sum_const_zero, add_zero]

/-- The blocks of the windows: the grid runs over the four layers, and over the three groups of columns within each. -/
theorem win_at : ∀ t : Fin cfg0.N, win0_0.index t 0 = 0 ∧ win0_0.index t 1 = 0
    ∧ win0_1.index t 0 = t.val / 3 ∧ win0_1.index t 1 = 0 ∧ win0_1.index t 2 = t.val % 3
    ∧ win0_2.index t 0 = t.val / 3 ∧ win0_2.index t 1 = 0 ∧ win0_2.index t 2 = t.val % 3
    ∧ win0_3.index t 0 = t.val / 3 ∧ win0_3.index t 1 = 0 ∧ win0_3.index t 2 = t.val % 3 := by
  decide +kernel

/-- Every grid point writes its block back. -/
theorem flush_at : ∀ t : Fin cfg0.N, (cfg0.win 3).flush t = true := by
  decide +kernel

variable (m : (ℓ : Loc nD τ sig) → Buf (Elt Ideal) ℓ) (c : Dev nD)

/-- The arrays that the kernel is launched on. -/
def aC : (⟨2, ![1, 1024]⟩ : Shape).Idx → EReal := m ((c : Thread nD τ).loc main_arg0)
def aW : (⟨3, ![4, 1024, 3072]⟩ : Shape).Idx → EReal := m ((c : Thread nD τ).loc main_arg1)
def aB : (⟨2, ![4, 3072]⟩ : Shape).Idx → EReal := m ((c : Thread nD τ).loc main_arg2)

/-- The eight rows of the first operand are the row itself. -/
theorem rows_eq (r : Fin 8) (k : Fin 1024) : (V m c main_v0 : Vec Ideal S8x1024 .f32) (ix2 r k) = aC m c (ix2 0 k) := by
  have h : V m c main_v0 = broadcastInDim S8x1024 ![0, 1] Facts₀.bcast_S1x1024_S8x1024_0_1 (m ((c : Thread nD τ).loc main_arg0)) := by
    simp only [V, hostOps0]
    after_results
  unfold aC
  rw [h]
  pointwise

theorem bias_eq (l : Fin 4) (k : Fin 3072) : (V m c main_v1 : Vec Ideal S4x1x3072 .f32) (ix3 l 0 k) = aB m c (ix2 l k) := by
  have h : (V m c main_v1 : Vec Ideal S4x1x3072 .f32) = shapeCast S4x1x3072 (aB m c : Vec Ideal S4x3072 .f32) Facts₀.shapeCasts_S4x3072_S4x1x3072 := by
    simp only [V, hostOps0]
    after_results
    rfl
  rw [h]
  pointwise

variable (t : Fin cfg0.N)

theorem rows_at (r : Fin 8) (k : Fin 1024) : iblk m c 0 t (ix2 r k) = aC m c (ix2 0 k) := by
  have h := win_at t
  refine Eq.trans ?_ (rows_eq m c r k)
  blk_simp [iblk]
  refine congrArg _ (funext fun a => Fin.ext ?_)
  fin_cases a <;> blk_simp [h] <;> rfl

theorem cols_at (j : Fin 1024) (l : Fin 4) (w : Fin 3072) (hl : l.val = t.val / 3) (hw : w.val = t.val % 3 * 1024 + j.val) (k : Fin 1024) :
    iblk m c 1 t (ix3 0 k j) = aW m c (ix3 l k w) := by
  have h := win_at t
  unfold aW
  blk_simp [iblk]
  rw [V_main_arg1]
  refine congrArg _ (funext fun a => Fin.ext ?_)
  fin_cases a
  · blk_simp [h]; exact hl.symm
  · blk_simp [h]; first | rfl | (change k.val = k.val; omega)
  · blk_simp [h]; exact hw.symm

theorem bias_at (j : Fin 1024) (l : Fin 4) (w : Fin 3072) (hl : l.val = t.val / 3) (hw : w.val = t.val % 3 * 1024 + j.val) :
    iblk m c 2 t (ix3 0 0 j) = aB m c (ix2 l w) := by
  have h := win_at t
  refine Eq.trans ?_ (bias_eq m c l w)
  blk_simp [iblk]
  refine congrArg _ (funext fun a => Fin.ext ?_)
  fin_cases a
  · blk_simp [h]; exact hl.symm
  · blk_simp [h]
  · blk_simp [h]; exact hw.symm

/-- An entry of the result is the entry of the block that its grid point writes. -/
theorem block_at (r : Fin 8) (j : Fin 1024) (l : Fin 4) (w : Fin 3072) (hl : l.val = t.val / 3) (hw : w.val = t.val % 3 * 1024 + j.val) :
    (dats m 0 c).arrAt 3 cfg0.N (ix3 l r w) = out0_3 (iblk m c 0 t) (iblk m c 1 t) (iblk m c 2 t) (ix3 0 r j) := by
  refine Eq.trans (congrArg _ ?_) (congrFun ((Value.blocks3 m c t (flush_at t)).trans (Value.flushed3 m c t)) (ix3 0 r j))
  have h := win_at t
  blk_simp
  funext a
  refine Fin.ext ?_
  fin_cases a
  · blk_simp [h]; exact hl
  · blk_simp [h]; first | rfl | (change r.val = r.val; omega)
  · blk_simp [h]; exact hw

/-- THE KERNEL'S RESULT at layer `l`, row `r` and column `w`. -/
theorem kernel_value (hc : ∀ k, ∃ q : ℝ, aC m c (ix2 0 k) = q) (hw : ∀ l k w, ∃ q : ℝ, aW m c (ix3 l k w) = q) (l : Fin 4) (r : Fin 8) (w : Fin 3072) :
    (dats m 0 c).arrAt 3 cfg0.N (ix3 l r w) = modE (fun k => aC m c (ix2 0 k)) (fun k => aW m c (ix3 l k w)) (aB m c (ix2 l w)) := by
  have hN : cfg0.N = 12 := N_0
  have ht : l.val * 3 + w.val / 1024 < cfg0.N := by omega
  have h1 : l.val = (⟨l.val * 3 + w.val / 1024, ht⟩ : Fin cfg0.N).val / 3 := by
    show l.val = (l.val * 3 + w.val / 1024) / 3; omega
  have h2 : w.val = (⟨l.val * 3 + w.val / 1024, ht⟩ : Fin cfg0.N).val % 3 * 1024 + (⟨w.val % 1024, by omega⟩ : Fin 1024).val := by
    show w.val = (l.val * 3 + w.val / 1024) % 3 * 1024 + w.val % 1024; omega
  rw [block_at m c _ r _ l w h1 h2, body_at]
  · simp only [rows_at, cols_at m c _ _ l w h1 h2, bias_at m c _ _ l w h1 h2]
  · intro k; rw [rows_at]; exact hc k
  · intro k; rw [cols_at m c _ _ l w h1 h2]; exact hw l k w
end Kernel

instance finite_facts : Cert.Pre_finite5.Facts := by constructor <;> decide

/-- The precondition says that the row and the weights are real. -/
theorem real_of_pre (x : FVec Ideal ⟨2, ![1, 1024]⟩ .f32) (w : FVec Ideal ⟨3, ![4, 1024, 3072]⟩ .f32) (b : FVec Ideal ⟨2, ![4, 3072]⟩ .f32)
    (H : Cert.Pre_finite5.fn (F := Ideal) x w b = fun _ => 1#1) (l : Fin 4) (k : Fin 1024) (j : Fin 3072) :
    (∃ r : ℝ, x (ix2 0 k) = r) ∧ ∃ r : ℝ, w (ix3 l k j) = r := by
  have h := congrFun H (ix3 l k j)
  revert h
  pointwise [Cert.Pre_finite5.fn]
  intro h
  obtain ⟨h1, h2⟩ := and_one _ _ h
  exact ⟨real_of_cmp _ h1, real_of_cmp _ h2⟩

/-- The equation: from the same arrays the reference's result is the kernel's. -/
theorem algebraic : Cert.algebraic_Kernel5Ideal_Reference5Ideal_pre_finite5 := by
  intro m ρ m' ρ' hpre hagree
  refine ⟨_, Cert.Kernel5Ideal.Value.run_blocks (F := Ideal) m ρ, ?_⟩
  refine (θ_run Cert.Reference5Ideal.defs _ _).mono (fun _ h c => ⟨(h c).1.trans ?_, (h c).2⟩) (Cert.Reference5Ideal.Value.run (F := Ideal) m' ρ')
  obtain ⟨h0, h1, h2⟩ := hagree c
  have hf := real_of_pre _ _ _ (hpre c)
  rw [h0, h1, h2]
  funext x
  obtain ⟨l, r, w, rfl⟩ : ∃ (l : Fin 4) (r : Fin 8) (w : Fin 3072), x = ix3 l r w := ⟨x 0, x 1, x 2, eq_ix3 x⟩
  refine Eq.trans ?_ (kernel_value m c (fun k => (hf 0 k 0).1) (fun l k w => (hf l k w).2) l r w).symm
  pointwise
  unfold modE silu aC aW aB
  refine congrArg₂ (· + ·) (Finset.sum_congr rfl fun k _ => mul_comm _ _) rfl

end Cert.Modulation
end
-- ==== Proof.Tab.lean ====
module

public import proofs.«01_k».proof.Defs
public import proofs.«01_k».proof.Proof.Gen.Kernel6Ideal.Value
public import proofs.«01_k».proof.Proof.Gen.Reference6Ideal.Run
public import Idealize.ShloMosaic.Lib.Pipeline.ValueKit
public import Idealize.ShloMosaic.Lib.Pipeline.ReadBack
public import Idealize.ShloMosaic.Lib.Pointwise

@[expose] public section
set_option maxRecDepth 16384
noncomputable section
namespace Cert.Tables
open Idealize.ShloMosaic Idealize.ShloMosaic.TcCoe

/-! ## Sums of rolled lanes -/

/-- What is zero after its first 32 lanes, added to itself rolled by 32 and then by 64, repeats the 32 lanes. -/
theorem spread32 (g : ℕ → EReal) (hz : ∀ x, 32 ≤ x → g x = 0) (n : ℕ) (hn : n < 128) :
    g n + g ((n + 128 - 32) % 128) + (g ((n + 128 - 64) % 128) + g (((n + 128 - 64) % 128 + 128 - 32) % 128)) = g (n % 32) := by
  have key : ∀ x, x % 32 = n % 32 → g x = if x / 32 = 0 then g (n % 32) else 0 := fun x hx => by
    split_ifs with h
    · rw [← hx]; congr 1; omega
    · exact hz x (by omega)
  rw [key n rfl, key ((n + 128 - 32) % 128) (by omega), key ((n + 128 - 64) % 128) (by omega), key (((n + 128 - 64) % 128 + 128 - 32) % 128) (by omega),
    show ((n + 128 - 32) % 128) / 32 = (n / 32 + 3) % 4 by omega, show ((n + 128 - 64) % 128) / 32 = (n / 32 + 2) % 4 by omega,
    show (((n + 128 - 64) % 128 + 128 - 32) % 128) / 32 = (n / 32 + 1) % 4 by omega]
  have hq : n / 32 < 4 := by omega
  generalize n / 32 = q at hq
  interval_cases q <;> simp

/-- What is zero after its first 8 lanes, added to itself rolled by 8 and then by 64, repeats the 8 lanes twice in each half. -/
theorem spread8 (g : ℕ → EReal) (hz : ∀ x, 8 ≤ x → g x = 0) (n : ℕ) (hn : n < 128) :
    g n + g ((n + 128 - 8) % 128) + (g ((n + 128 - 64) % 128) + g (((n + 128 - 64) % 128 + 128 - 8) % 128)) = if n % 64 < 16 then g (n % 8) else 0 := by
  have key : ∀ x, x % 8 = n % 8 → g x = if x / 8 = 0 then g (n % 8) else 0 := fun x hx => by
    split_ifs with h
    · rw [← hx]; congr 1; omega
    · exact hz x (by omega)
  rw [key n rfl, key ((n + 128 - 8) % 128) (by omega), key ((n + 128 - 64) % 128) (by omega), key (((n + 128 - 64) % 128 + 128 - 8) % 128) (by omega),
    show ((n + 128 - 8) % 128) / 8 = (n / 8 + 15) % 16 by omega, show ((n + 128 - 64) % 128) / 8 = (n / 8 + 8) % 16 by omega,
    show (((n + 128 - 64) % 128 + 128 - 8) % 128) / 8 = (n / 8 + 7) % 16 by omega]
  have hb : (n % 64 < 16) = (n / 8 % 8 < 2) := propext (by omega)
  simp only [hb]
  have hq : n / 8 < 16 := by omega
  generalize n / 8 = q at hq
  interval_cases q <;> simp

/-- A lane is selected where its number is smaller. -/
theorem select_lt (n k : ℕ) (hn : n < 256) (hk : k < 256) (a b : EReal) :
    Scalar.select (IntOp.cmpi CmpIPredicate.slt (BitVec.ofNat 32 n) (BitVec.ofNat 32 k)) a b = if n < k then a else b := by
  have h : (BitVec.ofNat 32 n).slt (BitVec.ofNat 32 k) = decide (n < k) := by
    rw [BitVec.slt_eq_decide, BitVec.toInt_ofNat', BitVec.toInt_ofNat', Int.bmod_eq_of_le (by omega) (by omega), Int.bmod_eq_of_le (by omega) (by omega)]
    simp
  unfold Scalar.select IntOp.cmpi
  simp only [h]
  by_cases hlt : n < k <;> simp [hlt]

theorem and_63 (n : Fin 128) : IntOp.andi (BitVec.ofNat 32 n.val) 63#32 = BitVec.ofNat 32 (n.val % 64) := by
  revert n; decide

/-! ## The tables, plainly -/

/-- The frequencies of the retention's 32 pairs of lanes. -/
def freqR (j : Fin 32) : EReal := Ideal.pow (Ideal.ofBits .f32 0x461C4000#32)
  (Ideal.div (-FloatOps.sitofp (F := Ideal) FTy.f32 (BitVec.ofNat 32 j.val) * Ideal.ofBits .f32 0x40000000#32) (Ideal.ofBits .f32 0x42800000#32))
/-- The frequencies of the sparse attention's 8 rotated pairs of lanes. -/
def freqD (j : Fin 8) : EReal := Ideal.pow (Ideal.ofBits .f32 0x48F42400#32)
  (Ideal.div (-FloatOps.sitofp (F := Ideal) FTy.f32 (BitVec.ofNat 32 j.val) * Ideal.ofBits .f32 0x40000000#32) (Ideal.ofBits .f32 0x41800000#32))
/-- The angles at a position. -/
def angR (p : BitVec 32) (j : Fin 32) : EReal := FloatOps.sitofp (F := Ideal) FTy.f32 p * freqR j
def angD (p : BitVec 32) (j : Fin 8) : EReal := FloatOps.sitofp (F := Ideal) FTy.f32 p * freqD j
/-- The tables at a position and a lane. -/
def cosR (p : BitVec 32) (l : ℕ) : EReal := Ideal.cos (angR p ⟨l % 32, by omega⟩)
def sinR (p : BitVec 32) (l : ℕ) : EReal := if l % 64 < 32 then -Ideal.sin (angR p ⟨l % 32, by omega⟩) else Ideal.sin (angR p ⟨l % 32, by omega⟩)
def cosD (p : BitVec 32) (l : ℕ) : EReal := if l % 64 < 16 then Ideal.cos (angD p ⟨l % 8, by omega⟩) else 1
def sinD (p : BitVec 32) (l : ℕ) : EReal :=
  if l % 64 < 8 then -Ideal.sin (angD p ⟨l % 8, by omega⟩) else if l % 64 < 16 then Ideal.sin (angD p ⟨l % 8, by omega⟩) else 0

section Kernel
open Cert.Kernel6Ideal Cert.Kernel6Ideal.Gen

/-! ## One grid point -/

/-- The first 32 lanes of a row. -/
def headR (v : Vec Ideal S1024x128 .f32) (r : Fin 1024) (n : ℕ) : EReal := if h : n < 32 then v (ix2 r ⟨n, by omega⟩) else 0
/-- The 8 lanes after these. -/
def headD (v : Vec Ideal S1024x128 .f32) (r : Fin 1024) (n : ℕ) : EReal := if h : n < 8 then v (ix2 r ⟨n + 32, by omega⟩) else 0

theorem headR_at (v : Vec Ideal S1024x128 .f32) (r : Fin 1024) (n : ℕ) (h : n < 128) :
    Scalar.select (IntOp.cmpi CmpIPredicate.slt (BitVec.ofNat 32 n) 32#32) (v (ix2 r ⟨n, h⟩)) 0 = headR v r n := by
  rw [show (32#32 : BitVec 32) = BitVec.ofNat 32 32 from rfl, select_lt n 32 (by omega) (by omega)]
  unfold headR
  split_ifs <;> rfl
theorem headD_at (v : Vec Ideal S1024x128 .f32) (r : Fin 1024) (n : ℕ) (h : n < 128) (i : Fin 128) (hi : i.val = (n + 128 - 96) % 128) :
    Scalar.select (IntOp.cmpi CmpIPredicate.slt (BitVec.ofNat 32 n) 8#32) (v (ix2 r i)) 0 = headD v r n := by
  rw [show (8#32 : BitVec 32) = BitVec.ofNat 32 8 from rfl, select_lt n 8 (by omega) (by omega)]
  unfold headD
  split_ifs
  · exact congrArg (fun j => v (ix2 r j)) (Fin.ext (by show i.val = n + 32; omega))
  · rfl
theorem headR_zero (v : Vec Ideal S1024x128 .f32) (r : Fin 1024) (x : ℕ) (h : 32 ≤ x) : headR v r x = 0 := dif_neg (by omega)
theorem headD_zero (v : Vec Ideal S1024x128 .f32) (r : Fin 1024) (x : ℕ) (h : 8 ≤ x) : headD v r x = 0 := dif_neg (by omega)

variable (x0 : Vec Ideal S1024x1 .i32) (x1 : Vec Ideal S1x128 .f32) (x2 : Vec Ideal S1x256 .f32) (x3 : Vec Ideal S1x128 .f32) (r : Fin 1024)

theorem pay6_at (l : Fin 256) : k0_pay6 x0 x1 (ix2 r l) = headR (k0_pay4 x0 x1) r (l.val % 32) := by
  pointwise [k0_pay6]
  simp only [headR_at (k0_pay4 x0 x1)]
  split_ifs with h
  · exact spread32 _ (headR_zero _ r) _ h
  · rw [spread32 _ (headR_zero _ r) _ (by omega)]; congr 1; omega
theorem pay7_at (l : Fin 256) : k0_pay7 x0 x1 x2 (ix2 r l) = headR (k0_pay5 x0 x1) r (l.val % 32) * x2 (ix2 0 l) := by
  pointwise [k0_pay7]
  simp only [headR_at (k0_pay5 x0 x1)]
  split_ifs with h
  · rw [spread32 _ (headR_zero _ r) _ h]
  · rw [spread32 _ (headR_zero _ r) _ (by omega)]
    have e : (l.val - 128) % 32 = l.val % 32 := by omega
    rw [e]
theorem pay1_at (v : FVec Ideal S1024x128 .f32) (l : Fin 128) :
    k0_pay1 v (k0_pay9 x0 x1 x2 x3) k0_pay8 16#32 (ix2 r l) = if l.val % 64 < 16 then headD v r (l.val % 8) else 1 := by
  pointwise [k0_pay1, k0_pay8, k0_pay9]
  rw [headD_at v r l.val l.isLt _ rfl, headD_at v r ((l.val + 128 - 8) % 128) (by omega) _ rfl, headD_at v r ((l.val + 128 - 64) % 128) (by omega) _ rfl,
    headD_at v r (((l.val + 128 - 64) % 128 + 128 - 8) % 128) (by omega) _ rfl, and_63]
  rw [show (16#32 : BitVec 32) = BitVec.ofNat 32 16 from rfl, select_lt _ 16 (by omega) (by omega), spread8 _ (headD_zero _ r) _ l.isLt]
  split_ifs <;> rfl
theorem pay2_at (v : FVec Ideal S1024x128 .f32) (l : Fin 128) :
    k0_pay2 v (k0_pay9 x0 x1 x2 x3) x3 (ix2 r l) = (if l.val % 64 < 16 then headD v r (l.val % 8) else 0) * x3 (ix2 0 l) := by
  pointwise [k0_pay2, k0_pay9]
  rw [headD_at v r l.val l.isLt _ rfl, headD_at v r ((l.val + 128 - 8) % 128) (by omega) _ rfl, headD_at v r ((l.val + 128 - 64) % 128) (by omega) _ rfl,
    headD_at v r (((l.val + 128 - 64) % 128 + 128 - 8) % 128) (by omega) _ rfl]
  rw [spread8 _ (headD_zero _ r) _ l.isLt]

theorem cos_at (l : Fin 128) : k0_pay4 x0 x1 (ix2 r l) = Ideal.cos (FloatOps.sitofp (F := Ideal) FTy.f32 (x0 (ix2 r 0)) * x1 (ix2 0 l)) := by
  pointwise [k0_pay4, k0_pay3]
theorem sin_at (l : Fin 128) : k0_pay5 x0 x1 (ix2 r l) = Ideal.sin (FloatOps.sitofp (F := Ideal) FTy.f32 (x0 (ix2 r 0)) * x1 (ix2 0 l)) := by
  pointwise [k0_pay5, k0_pay3]

variable (p : BitVec 32) (hp : x0 (ix2 r 0) = p) (hR : ∀ j : Fin 32, x1 (ix2 0 ⟨j.val, by omega⟩) = freqR j) (hD : ∀ j : Fin 8, x1 (ix2 0 ⟨j.val + 32, by omega⟩) = freqD j)
include hp hR in
theorem headR_cos (l : ℕ) : headR (k0_pay4 x0 x1) r (l % 32) = cosR p l := by
  unfold headR cosR angR
  rw [dif_pos (by omega), cos_at, hp, hR ⟨l % 32, by omega⟩]
include hp hR in
theorem headR_sin (l : ℕ) : headR (k0_pay5 x0 x1) r (l % 32) = Ideal.sin (angR p ⟨l % 32, by omega⟩) := by
  unfold headR angR
  rw [dif_pos (by omega), sin_at, hp, hR ⟨l % 32, by omega⟩]
include hp hD in
theorem headD_cos (l : ℕ) : headD (k0_pay4 x0 x1) r (l % 8) = Ideal.cos (angD p ⟨l % 8, by omega⟩) := by
  unfold headD angD
  rw [dif_pos (by omega), cos_at, hp, hD ⟨l % 8, by omega⟩]
include hp hD in
theorem headD_sin (l : ℕ) : headD (k0_pay5 x0 x1) r (l % 8) = Ideal.sin (angD p ⟨l % 8, by omega⟩) := by
  unfold headD angD
  rw [dif_pos (by omega), sin_at, hp, hD ⟨l % 8, by omega⟩]

end Kernel
section Kernel
open Cert.Kernel6Ideal Cert.Kernel6Ideal.Gen

/-- A load of a whole block is the block. -/
theorem ld0 (x : Vec Ideal S1024x1 .i32) : View.ld x r0_0 = x := by
  funext i
  refine congrArg x (funext fun a => Fin.ext ?_)
  fin_cases a
  · show 0 + 1 * (i 0).val = (i 0).val; omega
  · show 0 + 1 * (i 1).val = (i 1).val; omega
theorem ld1 (x : Vec Ideal S1x128 .f32) : View.ld x r0_1 = x := by
  funext i
  refine congrArg x (funext fun a => Fin.ext ?_)
  fin_cases a
  · show 0 + 1 * (i 0).val = (i 0).val; omega
  · show 0 + 1 * (i 1).val = (i 1).val; omega
theorem ld3 (x : Vec Ideal S1x256 .f32) : View.ld x r0_3 = x := by
  funext i
  refine congrArg x (funext fun a => Fin.ext ?_)
  fin_cases a
  · show 0 + 1 * (i 0).val = (i 0).val; omega
  · show 0 + 1 * (i 1).val = (i 1).val; omega

variable (x0 : Vec Ideal S1024x1 .i32) (x1 : Vec Ideal S1x128 .f32) (x2 : Vec Ideal S1x256 .f32) (x3 : Vec Ideal S1x128 .f32) (r : Fin 1024)
variable (p : BitVec 32) (hp : x0 (ix2 r 0) = p) (hR : ∀ j : Fin 32, x1 (ix2 0 ⟨j.val, by omega⟩) = freqR j) (hD : ∀ j : Fin 8, x1 (ix2 0 ⟨j.val + 32, by omega⟩) = freqD j)

include hp hR in
/-- The blocks that a grid point writes. -/
theorem body4 (l : Fin 256) : out0_4 x0 x1 x2 x3 (ix2 r l) = cosR p l.val := by
  unfold out0_4
  rw [ld0, ld1]
  canon_tiles x hx
  obtain ⟨a, b, rfl⟩ : ∃ (a : Fin 1024) (b : Fin 256), x = ix2 a b := ⟨x 0, x 1, eq_ix2 x⟩
  obtain rfl : r = a := Fin.ext hx0
  obtain rfl : l = b := Fin.ext hx1
  exact (pay6_at x0 x1 r l).trans (headR_cos x0 x1 r p hp hR l.val)
include hp hR in
theorem body5 (l : Fin 256) (hs : x2 (ix2 0 l) = if l.val % 64 < 32 then -1 else 1) : out0_5 x0 x1 x2 x3 (ix2 r l) = sinR p l.val := by
  unfold out0_5
  rw [ld0, ld1, ld3]
  canon_tiles x hx
  obtain ⟨a, b, rfl⟩ : ∃ (a : Fin 1024) (b : Fin 256), x = ix2 a b := ⟨x 0, x 1, eq_ix2 x⟩
  obtain rfl : r = a := Fin.ext hx0
  obtain rfl : l = b := Fin.ext hx1
  refine (pay7_at x0 x1 x2 r l).trans ?_
  rw [headR_sin x0 x1 r p hp hR, hs]
  unfold sinR
  split_ifs
  · rw [mul_neg, mul_one]
  · rw [mul_one]
include hp hD in
theorem body6 (l : Fin 128) : out0_6 x0 x1 x2 x3 (ix2 r l) = cosD p l.val := by
  unfold out0_6
  rw [ld0, ld1]
  canon_tiles x hx
  obtain ⟨a, b, rfl⟩ : ∃ (a : Fin 1024) (b : Fin 128), x = ix2 a b := ⟨x 0, x 1, eq_ix2 x⟩
  obtain rfl : r = a := Fin.ext hx0
  obtain rfl : l = b := Fin.ext hx1
  refine (pay1_at x0 x1 x2 x3 r _ l).trans ?_
  rw [headD_cos x0 x1 r p hp hD]
  rfl
include hp hD in
theorem body7 (l : Fin 128) (hs : x3 (ix2 0 l) = if l.val % 64 < 8 then -1 else if l.val % 64 < 16 then 1 else 0) : out0_7 x0 x1 x2 x3 (ix2 r l) = sinD p l.val := by
  unfold out0_7
  rw [ld0, ld1, ld1]
  canon_tiles x hx
  obtain ⟨a, b, rfl⟩ : ∃ (a : Fin 1024) (b : Fin 128), x = ix2 a b := ⟨x 0, x 1, eq_ix2 x⟩
  obtain rfl : r = a := Fin.ext hx0
  obtain rfl : l = b := Fin.ext hx1
  refine (pay2_at x0 x1 x2 x3 r _ l).trans ?_
  rw [headD_sin x0 x1 r p hp hD, hs]
  unfold sinD
  split_ifs <;> first | omega | simp

/-! ## The rows that the kernel is launched with -/

variable (m : (ℓ : Loc nD τ sig) → Buf (Elt Ideal) ℓ) (c : Dev nD)

def freqRV : FVec Ideal S32 .f32 := Host.powf (broadcastInDim S32 ![] Facts₀.bcast_S_S32 (constant S_ .f32 0x461C4000#32))
  (Host.divf (mulf (Host.negf (sitofp .f32 (iotaInDim S32 32 0))) (broadcastInDim S32 ![] Facts₀.bcast_S_S32 (constant S_ .f32 0x40000000#32)))
    (broadcastInDim S32 ![] Facts₀.bcast_S_S32 (constant S_ .f32 0x42800000#32)))
def freqDV : FVec Ideal S8 .f32 := Host.powf (broadcastInDim S8 ![] Facts₀.bcast_S_S8 (constant S_ .f32 0x48F42400#32))
  (Host.divf (mulf (Host.negf (sitofp .f32 (iotaInDim S8 32 0))) (broadcastInDim S8 ![] Facts₀.bcast_S_S8 (constant S_ .f32 0x40000000#32)))
    (broadcastInDim S8 ![] Facts₀.bcast_S_S8 (constant S_ .f32 0x41800000#32)))
/-- The row of the frequencies. -/
def freqRow : FVec Ideal S1x128 .f32 := broadcastInDim S1x128 ![1] Facts₀.bcast_S128_S1x128_1
  (concatenate S128 0 [⟨S32, freqRV⟩, ⟨S8, freqDV⟩, ⟨S88, broadcastInDim S88 ![] Facts₀.bcast_S_S88 (constant S_ .f32 0x00000000#32)⟩] Facts₀.concatenates_S32_S8_S88_S128_d0)
/-- The rows of the signs. -/
def signR : FVec Ideal S1x256 .f32 := broadcastInDim S1x256 ![1] Facts₀.bcast_S256_S1x256_1
  (shapeCast S256 (broadcastInDim S4x64 ![0, 1] Facts₀.bcast_S1x64_S4x64_0_1 (shapeCast S1x64 (concatenate S64 0
    [⟨S32, Host.negf (broadcastInDim S32 ![] Facts₀.bcast_S_S32 (constant S_ .f32 0x3F800000#32))⟩, ⟨S32, broadcastInDim S32 ![] Facts₀.bcast_S_S32 (constant S_ .f32 0x3F800000#32)⟩]
    Facts₀.concatenates_S32_S32_S64_d0) Facts₀.shapeCasts_S64_S1x64)) Facts₀.shapeCasts_S4x64_S256)
def signD : FVec Ideal S1x128 .f32 := broadcastInDim S1x128 ![1] Facts₀.bcast_S128_S1x128_1
  (shapeCast S128 (broadcastInDim S2x64 ![0, 1] Facts₀.bcast_S1x64_S2x64_0_1 (shapeCast S1x64 (concatenate S64 0
    [⟨S8, Host.negf (broadcastInDim S8 ![] Facts₀.bcast_S_S8 (constant S_ .f32 0x3F800000#32))⟩, ⟨S8, broadcastInDim S8 ![] Facts₀.bcast_S_S8 (constant S_ .f32 0x3F800000#32)⟩,
      ⟨S48, broadcastInDim S48 ![] Facts₀.bcast_S_S48 (constant S_ .f32 0x00000000#32)⟩]
    Facts₀.concatenates_S8_S8_S48_S64_d0) Facts₀.shapeCasts_S64_S1x64)) Facts₀.shapeCasts_S2x64_S128)

set_option maxHeartbeats 4000000 in
theorem V_freq : V m c main_v36 = freqRow := by
  unfold freqRow freqRV freqDV
  simp only [V, hostOps0, List.flatten_cons, List.flatten_nil, List.append_nil, List.cons_append, List.nil_append]
  after_results_entrywise (rounds := 1) []
set_option maxHeartbeats 4000000 in
theorem V_signR : V m c main_v16 = signR := by
  unfold signR
  simp only [V, hostOps0, List.flatten_cons, List.flatten_nil, List.append_nil, List.cons_append, List.nil_append]
  after_results_entrywise (rounds := 1) []
set_option maxHeartbeats 4000000 in
theorem V_signD : V m c main_v33 = signD := by
  unfold signD
  simp only [V, hostOps0, List.flatten_cons, List.flatten_nil, List.append_nil, List.cons_append, List.nil_append]
  after_results_entrywise (rounds := 1) []
set_option maxHeartbeats 4000000 in
theorem V_pos : (V m c main_v0 : Vec Ideal S16384x1 .i32) = shapeCast S16384x1 (m ((c : Thread nD τ).loc main_arg0) : Vec Ideal S1x16384 .i32) Facts₀.shapeCasts_S1x16384_S16384x1 := by
  simp only [V, hostOps0, List.flatten_cons, List.flatten_nil, List.append_nil, List.cons_append, List.nil_append]
  after_results_entrywise (rounds := 1) []

theorem freqRow_R (j : Fin 32) : freqRow (ix2 0 ⟨j.val, by omega⟩) = freqR j := by
  pointwise [freqRow, freqRV, freqDV]
  rfl
theorem freqRow_D (j : Fin 8) : freqRow (ix2 0 ⟨j.val + 32, by omega⟩) = freqD j := by
  pointwise [freqRow, freqRV, freqDV]
  have h := j.isLt
  rw [dif_neg (by omega), dif_pos (by omega)]
  unfold freqD
  simp only [Nat.add_sub_cancel]
theorem signR_at (l : Fin 256) : signR (ix2 0 l) = if l.val % 64 < 32 then -1 else 1 := by
  pointwise [signR]
  split_ifs <;> rfl
theorem signD_at (l : Fin 128) : signD (ix2 0 l) = if l.val % 64 < 8 then -1 else if l.val % 64 < 16 then 1 else 0 := by
  pointwise [signD]
  split_ifs <;> first | rfl | omega

/-! ## The tables -/

/-- The positions. -/
def aPos : (⟨2, ![1, 16384]⟩ : Shape).Idx → BitVec 32 := m ((c : Thread nD τ).loc main_arg0)

/-- The blocks of the windows: the grid runs over the 16 groups of rows. -/
theorem win_at : ∀ t : Fin cfg0.N, win0_0.index t 0 = t.val ∧ win0_0.index t 1 = 0 ∧ win0_1.index t 0 = 0 ∧ win0_1.index t 1 = 0
    ∧ win0_2.index t 0 = 0 ∧ win0_2.index t 1 = 0 ∧ win0_3.index t 0 = 0 ∧ win0_3.index t 1 = 0
    ∧ win0_4.index t 0 = t.val ∧ win0_4.index t 1 = 0 ∧ win0_5.index t 0 = t.val ∧ win0_5.index t 1 = 0
    ∧ win0_6.index t 0 = t.val ∧ win0_6.index t 1 = 0 ∧ win0_7.index t 0 = t.val ∧ win0_7.index t 1 = 0 := by
  decide +kernel

/-- Every grid point writes its blocks back. -/
theorem flush_at : ∀ t : Fin cfg0.N, (cfg0.win 4).flush t = true ∧ (cfg0.win 5).flush t = true ∧ (cfg0.win 6).flush t = true ∧ (cfg0.win 7).flush t = true := by
  decide +kernel

variable (t : Fin cfg0.N)

theorem column_at (v : Vec Ideal S1x16384 .i32) (s : Fin 16384) : shapeCast S16384x1 v Facts₀.shapeCasts_S1x16384_S16384x1 (ix2 s 0) = v (ix2 0 s) := by
  pointwise
theorem pos_at (r : Fin 1024) (s : Fin 16384) (hs : s.val = t.val * 1024 + r.val) : iblk m c 0 t (ix2 r 0) = aPos m c (ix2 0 s) := by
  have h := win_at t
  have e : (V m c main_v0 : Vec Ideal S16384x1 .i32) (ix2 s 0) = aPos m c (ix2 0 s) := by
    rw [V_pos]
    exact column_at _ s
  refine Eq.trans ?_ e
  blk_simp [iblk]
  refine congrArg _ (funext fun a => Fin.ext ?_)
  fin_cases a
  · blk_simp [h]; exact hs.symm
  · blk_simp [h]
theorem freq_at (l : Fin 128) : iblk m c 1 t (ix2 0 l) = freqRow (ix2 0 l) := by
  have h := win_at t
  rw [← V_freq m c]
  blk_simp [iblk]
  refine congrArg _ (funext fun a => Fin.ext ?_)
  fin_cases a <;> blk_simp [h] <;> rfl
theorem signs_at (l : Fin 256) : iblk m c 2 t (ix2 0 l) = signR (ix2 0 l) := by
  have h := win_at t
  rw [← V_signR m c]
  blk_simp [iblk]
  refine congrArg _ (funext fun a => Fin.ext ?_)
  fin_cases a <;> blk_simp [h] <;> rfl
theorem signs_at' (l : Fin 128) : iblk m c 3 t (ix2 0 l) = signD (ix2 0 l) := by
  have h := win_at t
  rw [← V_signD m c]
  blk_simp [iblk]
  refine congrArg _ (funext fun a => Fin.ext ?_)
  fin_cases a <;> blk_simp [h] <;> rfl

/-- An entry of a table is the entry of the block that its grid point writes. -/
theorem blocks_at (r : Fin 1024) (s : Fin 16384) (hs : s.val = t.val * 1024 + r.val) :
    (∀ l : Fin 256, (dats m 0 c).arrAt 4 cfg0.N (ix2 s l) = out0_4 (iblk m c 0 t) (iblk m c 1 t) (iblk m c 2 t) (iblk m c 3 t) (ix2 r l))
    ∧ (∀ l : Fin 256, (dats m 0 c).arrAt 5 cfg0.N (ix2 s l) = out0_5 (iblk m c 0 t) (iblk m c 1 t) (iblk m c 2 t) (iblk m c 3 t) (ix2 r l))
    ∧ (∀ l : Fin 128, (dats m 0 c).arrAt 6 cfg0.N (ix2 s l) = out0_6 (iblk m c 0 t) (iblk m c 1 t) (iblk m c 2 t) (iblk m c 3 t) (ix2 r l))
    ∧ (∀ l : Fin 128, (dats m 0 c).arrAt 7 cfg0.N (ix2 s l) = out0_7 (iblk m c 0 t) (iblk m c 1 t) (iblk m c 2 t) (iblk m c 3 t) (ix2 r l)) := by
  have h := win_at t
  obtain ⟨f4, f5, f6, f7⟩ := flush_at t
  refine ⟨fun l => Eq.trans (congrArg _ ?_) (congrFun ((Value.blocks4 m c t f4).trans (Value.flushed4 m c t)) (ix2 r l)),
    fun l => Eq.trans (congrArg _ ?_) (congrFun ((Value.blocks5 m c t f5).trans (Value.flushed5 m c t)) (ix2 r l)),
    fun l => Eq.trans (congrArg _ ?_) (congrFun ((Value.blocks6 m c t f6).trans (Value.flushed6 m c t)) (ix2 r l)),
    fun l => Eq.trans (congrArg _ ?_) (congrFun ((Value.blocks7 m c t f7).trans (Value.flushed7 m c t)) (ix2 r l))⟩
  all_goals
    blk_simp
    funext a
    refine Fin.ext ?_
    fin_cases a
    · blk_simp [h]; exact hs
    · blk_simp [h]; first | rfl | (change l.val = l.val; omega)

/-- THE KERNEL'S RESULTS at row `s`. -/
theorem kernel_value (s : Fin 16384) :
    (∀ l : Fin 256, (dats m 0 c).arrAt 4 cfg0.N (ix2 s l) = cosR (aPos m c (ix2 0 s)) l.val)
    ∧ (∀ l : Fin 256, (dats m 0 c).arrAt 5 cfg0.N (ix2 s l) = sinR (aPos m c (ix2 0 s)) l.val)
    ∧ (∀ l : Fin 128, (dats m 0 c).arrAt 6 cfg0.N (ix2 s l) = cosD (aPos m c (ix2 0 s)) l.val)
    ∧ (∀ l : Fin 128, (dats m 0 c).arrAt 7 cfg0.N (ix2 s l) = sinD (aPos m c (ix2 0 s)) l.val) := by
  have hN : cfg0.N = 16 := N_0
  have ht : s.val / 1024 < cfg0.N := by omega
  have hs : s.val = (⟨s.val / 1024, ht⟩ : Fin cfg0.N).val * 1024 + (⟨s.val % 1024, by omega⟩ : Fin 1024).val := by
    show s.val = s.val / 1024 * 1024 + s.val % 1024; omega
  obtain ⟨b4, b5, b6, b7⟩ := blocks_at m c _ _ s hs
  have hp := pos_at m c _ _ s hs
  have hR : ∀ j : Fin 32, iblk m c 1 ⟨s.val / 1024, ht⟩ (ix2 0 ⟨j.val, by omega⟩) = freqR j := fun j => (freq_at m c _ _).trans (freqRow_R j)
  have hD : ∀ j : Fin 8, iblk m c 1 ⟨s.val / 1024, ht⟩ (ix2 0 ⟨j.val + 32, by omega⟩) = freqD j := fun j => (freq_at m c _ _).trans (freqRow_D j)
  exact ⟨fun l => (b4 l).trans (body4 _ _ _ _ _ _ hp hR l), fun l => (b5 l).trans (body5 _ _ _ _ _ _ hp hR l ((signs_at m c _ l).trans (signR_at l))),
    fun l => (b6 l).trans (body6 _ _ _ _ _ _ hp hD l), fun l => (b7 l).trans (body7 _ _ _ _ _ _ hp hD l ((signs_at' m c _ l).trans (signD_at l)))⟩
end Kernel

/-! ## The reference -/

section Reference
open Cert.Reference6Ideal Cert.Reference6Ideal.Gen

/-- The lanes of four heads: two halves of 32 each. -/
def four (a b : FVec Ideal S16384x32 .f32) (z : FVec Ideal S16384x0 .f32) : FVec Ideal S16384x256 .f32 :=
  concatenate S16384x256 1 [⟨S16384x32, a⟩, ⟨S16384x32, b⟩, ⟨S16384x0, z⟩, ⟨S16384x32, a⟩, ⟨S16384x32, b⟩, ⟨S16384x0, z⟩, ⟨S16384x32, a⟩, ⟨S16384x32, b⟩, ⟨S16384x0, z⟩,
    ⟨S16384x32, a⟩, ⟨S16384x32, b⟩, ⟨S16384x0, z⟩] Facts₀.concatenates_S16384x32_S16384x32_S16384x0_S16384x32_S16384x32_S16384x0_S16384x32_S16384x32_S16384x0_S16384x32_S16384x32_S16384x0_S16384x256_d1
/-- The lanes of two heads: two halves of 8 each, and the other 48. -/
def two (a b : FVec Ideal S16384x8 .f32) (z : FVec Ideal S16384x48 .f32) : FVec Ideal S16384x128 .f32 :=
  concatenate S16384x128 1 [⟨S16384x8, a⟩, ⟨S16384x8, b⟩, ⟨S16384x48, z⟩, ⟨S16384x8, a⟩, ⟨S16384x8, b⟩, ⟨S16384x48, z⟩]
    Facts₀.concatenates_S16384x8_S16384x8_S16384x48_S16384x8_S16384x8_S16384x48_S16384x128_d1

theorem of_val {n : ℕ} (v : Vec Ideal ⟨2, ![16384, n]⟩ .f32) (s : Fin 16384) (i j : Fin n) (h : i.val = j.val) : v (ix2 s i) = v (ix2 s j) := by rw [Fin.ext h]

/-- A value chosen by cases is `e` if it is in each case. -/
theorem dite_eq {q : Prop} [Decidable q] {x : q → EReal} {y : ¬q → EReal} {e : EReal} (hx : ∀ h, x h = e) (hy : ∀ h, y h = e) : (if h : q then x h else y h) = e := by
  split
  exacts [hx _, hy _]

theorem four_eq (a b : FVec Ideal S16384x32 .f32) (z : FVec Ideal S16384x0 .f32) (s : Fin 16384) (l : Fin 256) (e : EReal)
    (ha : ∀ j : Fin 32, l.val % 64 < 32 → l.val % 32 = j.val → a (ix2 s j) = e) (hb : ∀ j : Fin 32, ¬ l.val % 64 < 32 → l.val % 32 = j.val → b (ix2 s j) = e) :
    four a b z (ix2 s l) = e := by
  pointwise [four]
  repeat' refine dite_eq (fun h => ?_) (fun h => ?_)
  all_goals first | exact ha _ (by omega) (by simp only []; omega) | exact hb _ (by omega) (by simp only []; omega) | omega
theorem four_at (a b : FVec Ideal S16384x32 .f32) (z : FVec Ideal S16384x0 .f32) (s : Fin 16384) (l : Fin 256) :
    four a b z (ix2 s l) = if l.val % 64 < 32 then a (ix2 s ⟨l.val % 32, by omega⟩) else b (ix2 s ⟨l.val % 32, by omega⟩) :=
  four_eq a b z s l _ (fun j h e => by rw [if_pos h]; exact of_val a s _ _ e.symm) (fun j h e => by rw [if_neg h]; exact of_val b s _ _ e.symm)
theorem two_eq (a b : FVec Ideal S16384x8 .f32) (z : FVec Ideal S16384x48 .f32) (s : Fin 16384) (l : Fin 128) (e : EReal)
    (ha : ∀ j : Fin 8, l.val % 64 < 8 → l.val % 8 = j.val → a (ix2 s j) = e) (hb : ∀ j : Fin 8, ¬ l.val % 64 < 8 → l.val % 64 < 16 → l.val % 8 = j.val → b (ix2 s j) = e)
    (hz : ∀ j : Fin 48, ¬ l.val % 64 < 8 → ¬ l.val % 64 < 16 → z (ix2 s j) = e) : two a b z (ix2 s l) = e := by
  pointwise [two]
  split_ifs <;> first | exact ha _ (by omega) (by simp only []; omega) | exact hb _ (by omega) (by omega) (by simp only []; omega) | exact hz _ (by omega) (by omega) | omega
theorem two_at (a b : FVec Ideal S16384x8 .f32) (z : FVec Ideal S16384x48 .f32) (s : Fin 16384) (l : Fin 128) (e : EReal) (hz : ∀ j, z (ix2 s j) = e) :
    two a b z (ix2 s l) = if l.val % 64 < 8 then a (ix2 s ⟨l.val % 8, by omega⟩) else if l.val % 64 < 16 then b (ix2 s ⟨l.val % 8, by omega⟩) else e :=
  two_eq a b z s l _ (fun j h e => by rw [if_pos h]; exact of_val a s _ _ e.symm) (fun j h h' e => by rw [if_neg h, if_pos h']; exact of_val b s _ _ e.symm)
    (fun j h h' => by rw [if_neg h, if_neg h']; exact hz j)

/-- The reference's angles, of the retention's rotation and of the sparse attention's. -/
def anglesR (v : Vec Ideal S1x16384 .i32) : FVec Ideal S16384x32 .f32 :=
  mulf (broadcastInDim S16384x32 ![0, 1] Facts₀.bcast_S16384x1_S16384x32_0_1 (broadcastInDim S16384x1 ![0] Facts₀.bcast_S16384_S16384x1_0
      (sitofp .f32 (shapeCast S16384 v Facts₀.shapeCasts_S1x16384_S16384))))
    (broadcastInDim S16384x32 ![0, 1] Facts₀.bcast_S1x32_S16384x32_0_1 (broadcastInDim S1x32 ![1] Facts₀.bcast_S32_S1x32_1
      (Host.powf (broadcastInDim S32 ![] Facts₀.bcast_S_S32 (constant S_ .f32 0x461C4000#32))
        (Host.divf (mulf (Host.negf (sitofp .f32 (iotaInDim S32 32 0))) (broadcastInDim S32 ![] Facts₀.bcast_S_S32 (constant S_ .f32 0x40000000#32)))
          (broadcastInDim S32 ![] Facts₀.bcast_S_S32 (constant S_ .f32 0x42800000#32))))))
def anglesD (v : Vec Ideal S1x16384 .i32) : FVec Ideal S16384x8 .f32 :=
  mulf (broadcastInDim S16384x8 ![0, 1] Facts₀.bcast_S16384x1_S16384x8_0_1 (broadcastInDim S16384x1 ![0] Facts₀.bcast_S16384_S16384x1_0
      (sitofp .f32 (shapeCast S16384 v Facts₀.shapeCasts_S1x16384_S16384))))
    (broadcastInDim S16384x8 ![0, 1] Facts₀.bcast_S1x8_S16384x8_0_1 (broadcastInDim S1x8 ![1] Facts₀.bcast_S8_S1x8_1
      (Host.powf (broadcastInDim S8 ![] Facts₀.bcast_S_S8 (constant S_ .f32 0x48F42400#32))
        (Host.divf (mulf (Host.negf (sitofp .f32 (iotaInDim S8 32 0))) (broadcastInDim S8 ![] Facts₀.bcast_S_S8 (constant S_ .f32 0x40000000#32)))
          (broadcastInDim S8 ![] Facts₀.bcast_S_S8 (constant S_ .f32 0x41800000#32))))))
theorem anglesR_at (v : Vec Ideal S1x16384 .i32) (s : Fin 16384) (j : Fin 32) : anglesR v (ix2 s j) = angR (v (ix2 0 s)) j := by
  pointwise [anglesR]
  rfl
theorem anglesD_at (v : Vec Ideal S1x16384 .i32) (s : Fin 16384) (j : Fin 8) : anglesD v (ix2 s j) = angD (v (ix2 0 s)) j := by
  pointwise [anglesD]
  rfl
/-- The lanes that are not rotated. -/
theorem rest_at (s : Fin 16384) (j : Fin 48) : (addf (broadcastInDim S16384x48 ![] Facts₀.bcast_S_S16384x48 (constant S_ .f32 0x00000000#32))
    (broadcastInDim S16384x48 ![] Facts₀.bcast_S_S16384x48 (constant S_ .f32 0x3F800000#32)) : FVec Ideal S16384x48 .f32) (ix2 s j) = 1 := by
  pointwise
theorem zero_at (s : Fin 16384) (j : Fin 48) : (broadcastInDim S16384x48 ![] Facts₀.bcast_S_S16384x48 (constant S_ .f32 0x00000000#32) : FVec Ideal S16384x48 .f32) (ix2 s j) = 0 := by
  pointwise

theorem cosR_at (v : Vec Ideal S1x16384 .i32) (z : FVec Ideal S16384x0 .f32) (s : Fin 16384) (l : Fin 256) :
    four (Host.cos (anglesR v)) (Host.cos (anglesR v)) z (ix2 s l) = cosR (v (ix2 0 s)) l.val := by
  rw [four_at, ite_self]
  exact congrArg Ideal.cos (anglesR_at v s _)
theorem sinR_at (v : Vec Ideal S1x16384 .i32) (z : FVec Ideal S16384x0 .f32) (s : Fin 16384) (l : Fin 256) :
    four (Host.negf (Host.sin (anglesR v))) (Host.sin (anglesR v)) z (ix2 s l) = sinR (v (ix2 0 s)) l.val := by
  rw [four_at]
  have e : Host.sin (anglesR v) (ix2 s ⟨l.val % 32, by omega⟩) = Ideal.sin (angR (v (ix2 0 s)) ⟨l.val % 32, by omega⟩) := congrArg Ideal.sin (anglesR_at v s _)
  have e' : Host.negf (Host.sin (anglesR v)) (ix2 s ⟨l.val % 32, by omega⟩) = -Ideal.sin (angR (v (ix2 0 s)) ⟨l.val % 32, by omega⟩) := congrArg Neg.neg e
  rw [e, e']
  rfl
theorem cosD_at (v : Vec Ideal S1x16384 .i32) (z : FVec Ideal S16384x48 .f32) (s : Fin 16384) (l : Fin 128) (hz : ∀ j, z (ix2 s j) = 1) :
    two (Host.cos (anglesD v)) (Host.cos (anglesD v)) z (ix2 s l) = cosD (v (ix2 0 s)) l.val := by
  rw [two_at _ _ _ s l 1 hz]
  have e : Host.cos (anglesD v) (ix2 s ⟨l.val % 8, by omega⟩) = Ideal.cos (angD (v (ix2 0 s)) ⟨l.val % 8, by omega⟩) := congrArg Ideal.cos (anglesD_at v s _)
  rw [e]
  unfold cosD
  split_ifs <;> first | rfl | omega
theorem sinD_at (v : Vec Ideal S1x16384 .i32) (z : FVec Ideal S16384x48 .f32) (s : Fin 16384) (l : Fin 128) (hz : ∀ j, z (ix2 s j) = 0) :
    two (Host.negf (Host.sin (anglesD v))) (Host.sin (anglesD v)) z (ix2 s l) = sinD (v (ix2 0 s)) l.val := by
  rw [two_at _ _ _ s l 0 hz]
  have e : Host.sin (anglesD v) (ix2 s ⟨l.val % 8, by omega⟩) = Ideal.sin (angD (v (ix2 0 s)) ⟨l.val % 8, by omega⟩) := congrArg Ideal.sin (anglesD_at v s _)
  have e' : Host.negf (Host.sin (anglesD v)) (ix2 s ⟨l.val % 8, by omega⟩) = -Ideal.sin (angD (v (ix2 0 s)) ⟨l.val % 8, by omega⟩) := congrArg Neg.neg e
  rw [e, e']
  rfl
end Reference

/-- The equation: from the same positions the reference's tables are the kernel's. -/
theorem algebraic : Cert.algebraic_Kernel6Ideal_Reference6Ideal := by
  intro m ρ m' ρ' _ hagree
  refine ⟨_, _, _, _, Cert.Kernel6Ideal.Value.run_blocks (F := Ideal) m ρ, ?_⟩
  refine (θ_run Cert.Reference6Ideal.defs _ _).mono (fun _ h c => ⟨(h c).1.trans ?_, (h c).2.1.trans ?_, (h c).2.2.1.trans ?_, (h c).2.2.2.1.trans ?_, (h c).2.2.2.2⟩)
    (Cert.Reference6Ideal.Value.run (F := Ideal) m' ρ')
  · unfold Cert.Reference6Ideal.Value.res_main_v35
    rw [hagree c]
    funext x
    obtain ⟨s, l, rfl⟩ : ∃ (s : Fin 16384) (l : Fin 256), x = ix2 s l := ⟨x 0, x 1, eq_ix2 x⟩
    exact (cosR_at _ _ s l).trans ((kernel_value m c s).1 l).symm
  · unfold Cert.Reference6Ideal.Value.res_main_v37
    rw [hagree c]
    funext x
    obtain ⟨s, l, rfl⟩ : ∃ (s : Fin 16384) (l : Fin 256), x = ix2 s l := ⟨x 0, x 1, eq_ix2 x⟩
    exact (sinR_at _ _ s l).trans ((kernel_value m c s).2.1 l).symm
  · rw [hagree c]
    funext x
    obtain ⟨s, l, rfl⟩ : ∃ (s : Fin 16384) (l : Fin 128), x = ix2 s l := ⟨x 0, x 1, eq_ix2 x⟩
    exact (cosD_at _ _ s l (rest_at s)).trans ((kernel_value m c s).2.2.1 l).symm
  · rw [hagree c]
    funext x
    obtain ⟨s, l, rfl⟩ : ∃ (s : Fin 16384) (l : Fin 128), x = ix2 s l := ⟨x 0, x 1, eq_ix2 x⟩
    exact (sinD_at _ _ s l (zero_at s)).trans ((kernel_value m c s).2.2.2 l).symm

end Cert.Tables
end
-- ==== Proof.PrepRef.lean ====
module

public import proofs.«01_k».proof.Defs
public import proofs.«01_k».proof.Proof.Gen.Reference7Ideal.Run
public import proofs.«01_k».proof.Proof.Tab
public import Idealize.ShloMosaic.Lib.Pointwise

@[expose] public section
set_option maxRecDepth 16384
noncomputable section
namespace Cert.Preparation
open Idealize.ShloMosaic Idealize.ShloMosaic.TcCoe
open Cert.Tables (dite_eq)

/-! ## The rotation, plainly -/

/-- Lane `l` of heads that begin at column `b`, rotated: of each head's 64 lanes the first 8 with the next 8, the others as they are. -/
def rot (P C N : ℕ → EReal) (b l : ℕ) : EReal :=
  if l % 64 < 8 then P (b + l) * C (l % 128) + P (b + l + 8) * N (l % 128)
  else if l % 64 < 16 then P (b + l) * C (l % 128) + P (b + l - 8) * N (l % 128) else P (b + l)

/-- Heads that begin at a later column, a whole number of pairs on. -/
theorem rot_shift (P C N : ℕ → EReal) (b k l : ℕ) : rot P C N b (128 * k + l) = rot P C N (b + 128 * k) l := by
  unfold rot
  rw [show (128 * k + l) % 64 = l % 64 by omega, show (128 * k + l) % 128 = l % 128 by omega, Nat.add_assoc b (128 * k) l]

/-- The results of a row: the queries of 8 heads, each in its half of the lanes; the values, with ones beside them; the indexer's queries. -/
def queries (P C N : ℕ → EReal) (g : EReal → EReal) (h l : ℕ) : EReal :=
  if h < 4 then if l < 64 then g (rot P C N 4608 (64 * h + l)) else 0 else if l < 64 then 0 else g (rot P C N 4608 (64 * h + (l - 64)))
def values (P : ℕ → EReal) (h l : ℕ) : EReal := if l < 64 then P (7552 + (64 * h + l)) else 1
def indexQ (P C N : ℕ → EReal) (h l : ℕ) : EReal := if l < 64 then rot P C N 7168 (64 * h + l) else 0

/-- Row `s` of a matrix. -/
def row {n : ℕ} {f : FTy} (v : FVec Ideal ⟨2, ![16384, n]⟩ f) (s : Fin 16384) (k : ℕ) : EReal := if h : k < n then v (ix2 s ⟨k, h⟩) else 0
theorem of_row {n : ℕ} {f : FTy} (v : FVec Ideal ⟨2, ![16384, n]⟩ f) (s : Fin 16384) (i : Fin n) (k : ℕ) (h : i.val = k) : v (ix2 s i) = row v s k := by
  subst h
  unfold row
  rw [dif_pos i.isLt]

section Reference
open Cert.Reference7Ideal Cert.Reference7Ideal.Gen

def headsV (p : FVec Ideal S16384x8192 .bf16) : FVec Ideal S16384x25x2x64 .f32 :=
  shapeCast S16384x25x2x64 (extf .f32 (extractStridedSlice S16384x3200 ![0, 4608] p Facts₀.slices_S16384x8192_S16384x3200_0_4608) bitsLt_bf16_f32) Facts₀.shapeCasts_S16384x3200_S16384x25x2x64
def pairV (t : FVec Ideal S16384x128 .f32) : FVec Ideal S16384x1x2x64 .f32 := shapeCast S16384x1x2x64 t Facts₀.shapeCasts_S16384x128_S16384x1x2x64
/-- One of the four products of a rotation: eight lanes from `i` with eight lanes of a table from `j`. -/
def timesV (x : FVec Ideal S16384x25x2x64 .f32) (t : FVec Ideal S16384x1x2x64 .f32) (i j : ℕ) (hi : S16384x25x2x64.Slices ![0, 0, 0, i] S16384x25x2x8) (hj : S16384x1x2x64.Slices ![0, 0, 0, j] S16384x1x2x8) :
    FVec Ideal S16384x25x2x8 .f32 :=
  mulf (extractStridedSlice S16384x25x2x8 ![0, 0, 0, i] x hi)
    (broadcastInDim S16384x25x2x8 ![0, 1, 2, 3] Facts₀.bcast_S16384x1x2x8_S16384x25x2x8_0_1_2_3 (extractStridedSlice S16384x1x2x8 ![0, 0, 0, j] t hj))
def turnedV (x : FVec Ideal S16384x25x2x64 .f32) (c n : FVec Ideal S16384x1x2x64 .f32) : FVec Ideal S16384x25x2x64 .f32 :=
  concatenate S16384x25x2x64 3 [
    ⟨S16384x25x2x8, addf (timesV x c 0 0 Facts₀.slices_S16384x25x2x64_S16384x25x2x8_0_0_0_0 Facts₀.slices_S16384x1x2x64_S16384x1x2x8_0_0_0_0)
      (timesV x n 8 0 Facts₀.slices_S16384x25x2x64_S16384x25x2x8_0_0_0_8 Facts₀.slices_S16384x1x2x64_S16384x1x2x8_0_0_0_0)⟩,
    ⟨S16384x25x2x8, addf (timesV x c 8 8 Facts₀.slices_S16384x25x2x64_S16384x25x2x8_0_0_0_8 Facts₀.slices_S16384x1x2x64_S16384x1x2x8_0_0_0_8)
      (timesV x n 0 8 Facts₀.slices_S16384x25x2x64_S16384x25x2x8_0_0_0_0 Facts₀.slices_S16384x1x2x64_S16384x1x2x8_0_0_0_8)⟩,
    ⟨S16384x25x2x48, extractStridedSlice S16384x25x2x48 ![0, 0, 0, 16] x Facts₀.slices_S16384x25x2x64_S16384x25x2x48_0_0_0_16⟩]
    Facts₀.concatenates_S16384x25x2x8_S16384x25x2x8_S16384x25x2x48_S16384x25x2x64_d3
def listV (x : FVec Ideal S16384x25x2x64 .f32) : FVec Ideal S16384x50x64 .f32 := shapeCast S16384x50x64 x Facts₀.shapeCasts_S16384x25x2x64_S16384x50x64

theorem headsV_at (p : FVec Ideal S16384x8192 .bf16) (s : Fin 16384) (a : Fin 25) (b : Fin 2) (l : Fin 64) : headsV p (ix4 s a b l) = row p s (4608 + (64 * (2 * a.val + b.val) + l.val)) := by
  pointwise [headsV]
  exact of_row p s _ _ (by (try dsimp only); omega)
theorem pairV_at (t : FVec Ideal S16384x128 .f32) (s : Fin 16384) (z : Fin 1) (b : Fin 2) (l : Fin 64) : pairV t (ix4 s z b l) = row t s (64 * b.val + l.val) := by
  pointwise [pairV]
  exact of_row t s _ _ (by (try dsimp only); omega)
theorem listV_at (x : FVec Ideal S16384x25x2x64 .f32) (s : Fin 16384) (h : Fin 50) (l : Fin 64) : listV x (ix3 s h l) = x (ix4 s ⟨h.val / 2, by omega⟩ ⟨h.val % 2, by omega⟩ l) := by
  pointwise [listV]

variable (p : FVec Ideal S16384x8192 .bf16) (c n : FVec Ideal S16384x128 .f32) (s : Fin 16384)

theorem turnedV_at (a : Fin 25) (b : Fin 2) (l : Fin 64) :
    turnedV (headsV p) (pairV c) (pairV n) (ix4 s a b l) = rot (row p s) (row c s) (row n s) 4608 (64 * (2 * a.val + b.val) + l.val) := by
  have e : (64 * (2 * a.val + b.val) + l.val) % 64 = l.val := by omega
  have e' : (64 * (2 * a.val + b.val) + l.val) % 128 = 64 * b.val + l.val := by omega
  unfold rot
  rw [e, e']
  pointwise [turnedV, timesV]
  simp only [headsV_at, pairV_at]
  have sum (i i' j j' k k' q q' : ℕ) (hi : i = i') (hj : j = j') (hk : k = k') (hq : q = q') :
      row p s i * row c s j + row p s k * row n s q = row p s i' * row c s j' + row p s k' * row n s q' := by rw [hi, hj, hk, hq]
  split_ifs
  all_goals first | omega | exact sum _ _ _ _ _ _ _ _ (by omega) (by omega) (by omega) (by omega) | exact congrArg (row p s) (by omega)

def allV : FVec Ideal S16384x50x64 .f32 := listV (turnedV (headsV p) (pairV c) (pairV n))
theorem allV_at (h : Fin 50) (l : Fin 64) : allV p c n (ix3 s h l) = rot (row p s) (row c s) (row n s) 4608 (64 * h.val + l.val) := by
  unfold allV
  rw [listV_at, turnedV_at]
  congr 1
  try dsimp only
  omega
theorem listV_heads (h : Fin 50) (l : Fin 64) : listV (headsV p) (ix3 s h l) = row p s (4608 + (64 * h.val + l.val)) := by
  rw [listV_at, headsV_at]
  congr 1
  try dsimp only
  omega

/-! ## The six results -/

def zeroV : FVec Ideal S16384x4x64 .f32 := broadcastInDim S16384x4x64 ![] Facts₀.bcast_S_S16384x4x64 (constant S_ .f32 0x00000000#32)
/-- The scaling of the queries. -/
def scaled (y : EReal) : EReal := Ideal.div (y * Ideal.ofBits .f32 0x3E000000#32) (Ideal.log (Ideal.ofBits .f32 0x40000000#32))
def scaledV (y : FVec Ideal S16384x50x64 .f32) : FVec Ideal S16384x8x64 .f32 :=
  Host.divf (mulf (extractStridedSlice S16384x8x64 ![0, 0, 0] y Facts₀.slices_S16384x50x64_S16384x8x64_0_0_0) (broadcastInDim S16384x8x64 ![] Facts₀.bcast_S_S16384x8x64 (constant S_ .f32 0x3E000000#32)))
    (broadcastInDim S16384x8x64 ![] Facts₀.bcast_S_S16384x8x64 (id (Host.log (constant S_ .f32 0x40000000#32))))
def queriesV (q : FVec Ideal S16384x8x64 .f32) : FVec Ideal S8x16384x128 .bf16 :=
  truncf .bf16 (transpose S8x16384x128 [1, 0, 2] (concatenate S16384x8x128 1 [
    ⟨S16384x4x128, concatenate S16384x4x128 2 [⟨S16384x4x64, extractStridedSlice S16384x4x64 ![0, 0, 0] q Facts₀.slices_S16384x8x64_S16384x4x64_0_0_0⟩, ⟨S16384x4x64, zeroV⟩]
      Facts₀.concatenates_S16384x4x64_S16384x4x64_S16384x4x128_d2⟩,
    ⟨S16384x4x128, concatenate S16384x4x128 2 [⟨S16384x4x64, zeroV⟩, ⟨S16384x4x64, extractStridedSlice S16384x4x64 ![0, 4, 0] q Facts₀.slices_S16384x8x64_S16384x4x64_0_4_0⟩]
      Facts₀.concatenates_S16384x4x64_S16384x4x64_S16384x4x128_d2⟩]
    Facts₀.concatenates_S16384x4x128_S16384x4x128_S16384x8x128_d1) Facts₀.transposes_S16384x8x128_S8x16384x128_1_0_2) bitsLt_bf16_f32
def keysV (y : FVec Ideal S16384x50x64 .f32) : FVec Ideal S16384x128 .bf16 :=
  truncf .bf16 (shapeCast S16384x128 (extractStridedSlice S16384x2x64 ![0, 44, 0] y Facts₀.slices_S16384x50x64_S16384x2x64_0_44_0) Facts₀.shapeCasts_S16384x2x64_S16384x128) bitsLt_bf16_f32
def valuesV (x : FVec Ideal S16384x50x64 .f32) : FVec Ideal S2x16384x128 .bf16 :=
  truncf .bf16 (transpose S2x16384x128 [1, 0, 2] (concatenate S16384x2x128 2 [⟨S16384x2x64, extractStridedSlice S16384x2x64 ![0, 46, 0] x Facts₀.slices_S16384x50x64_S16384x2x64_0_46_0⟩,
    ⟨S16384x2x64, broadcastInDim S16384x2x64 ![] Facts₀.bcast_S_S16384x2x64 (constant S_ .f32 0x3F800000#32)⟩] Facts₀.concatenates_S16384x2x64_S16384x2x64_S16384x2x128_d2)
    Facts₀.transposes_S16384x2x128_S2x16384x128_1_0_2) bitsLt_bf16_f32
def indexQV (y : FVec Ideal S16384x50x64 .f32) : FVec Ideal S4x16384x128 .bf16 :=
  truncf .bf16 (transpose S4x16384x128 [1, 0, 2] (concatenate S16384x4x128 2 [⟨S16384x4x64, extractStridedSlice S16384x4x64 ![0, 40, 0] y Facts₀.slices_S16384x50x64_S16384x4x64_0_40_0⟩,
    ⟨S16384x4x64, zeroV⟩] Facts₀.concatenates_S16384x4x64_S16384x4x64_S16384x4x128_d2) Facts₀.transposes_S16384x4x128_S4x16384x128_1_0_2) bitsLt_bf16_f32
def indexKV (y : FVec Ideal S16384x50x64 .f32) : FVec Ideal S16384x128 .bf16 :=
  truncf .bf16 (concatenate S16384x128 1 [
    ⟨S16384x64, shapeCast S16384x64 (extractStridedSlice S16384x1x64 ![0, 48, 0] y Facts₀.slices_S16384x50x64_S16384x1x64_0_48_0) Facts₀.shapeCasts_S16384x1x64_S16384x64⟩,
    ⟨S16384x64, shapeCast S16384x64 (extractStridedSlice S16384x1x64 ![0, 0, 0] zeroV Facts₀.slices_S16384x4x64_S16384x1x64_0_0_0) Facts₀.shapeCasts_S16384x1x64_S16384x64⟩]
    Facts₀.concatenates_S16384x64_S16384x64_S16384x128_d1) bitsLt_bf16_f32
def weightsV (x : FVec Ideal S16384x50x64 .f32) : FVec Ideal S16384x128 .f32 :=
  mulf (mulf (concatenate S16384x128 1 [
    ⟨S16384x64, shapeCast S16384x64 (extractStridedSlice S16384x1x64 ![0, 49, 0] x Facts₀.slices_S16384x50x64_S16384x1x64_0_49_0) Facts₀.shapeCasts_S16384x1x64_S16384x64⟩,
    ⟨S16384x64, shapeCast S16384x64 (extractStridedSlice S16384x1x64 ![0, 48, 0] x Facts₀.slices_S16384x50x64_S16384x1x64_0_48_0) Facts₀.shapeCasts_S16384x1x64_S16384x64⟩]
    Facts₀.concatenates_S16384x64_S16384x64_S16384x128_d1) (broadcastInDim S16384x128 ![] Facts₀.bcast_S_S16384x128 (constant S_ .f32 0x3F000000#32)))
    (broadcastInDim S16384x128 ![] Facts₀.bcast_S_S16384x128 (constant S_ .f32 0x3E000000#32))

theorem zeroV_at (h : Fin 4) (l : Fin 64) : zeroV (ix3 s h l) = 0 := by
  pointwise [zeroV]
theorem scaledV_at (y : FVec Ideal S16384x50x64 .f32) (h : Fin 8) (l : Fin 64) : scaledV y (ix3 s h l) = scaled (y (ix3 s ⟨h.val, by omega⟩ l)) := by
  pointwise [scaledV]
  rfl
theorem queriesV_at (h : Fin 8) (l : Fin 128) : queriesV (scaledV (allV p c n)) (ix3 h s l) = queries (row p s) (row c s) (row n s) scaled h.val l.val := by
  unfold queries
  pointwise [queriesV]
  simp only [zeroV_at, scaledV_at, allV_at]
  split_ifs
  all_goals first | rfl | omega | (congr <;> omega)
theorem keysV_at (l : Fin 128) : keysV (allV p c n) (ix2 s l) = rot (row p s) (row c s) (row n s) 7424 l.val := by
  pointwise [keysV]
  rw [allV_at, show (7424 : ℕ) = 4608 + 128 * 22 from rfl, ← rot_shift]
  congr 1
  try dsimp only
  omega
theorem valuesV_at (h : Fin 2) (l : Fin 128) : valuesV (listV (headsV p)) (ix3 h s l) = values (row p s) h.val l.val := by
  unfold values
  pointwise [valuesV]
  simp only [listV_heads]
  split_ifs
  all_goals first | rfl | omega | (congr <;> omega) | (congr 1; (try dsimp only); omega)
theorem indexQV_at (h : Fin 4) (l : Fin 128) : indexQV (allV p c n) (ix3 h s l) = indexQ (row p s) (row c s) (row n s) h.val l.val := by
  unfold indexQ
  rw [show (7168 : ℕ) = 4608 + 128 * 20 from rfl, ← rot_shift]
  pointwise [indexQV]
  simp only [zeroV_at, allV_at]
  split_ifs
  all_goals first | rfl | omega | (congr 1; (try dsimp only); omega)
theorem indexKV_at (l : Fin 128) : indexKV (allV p c n) (ix2 s l) = if l.val < 64 then rot (row p s) (row c s) (row n s) 7680 l.val else 0 := by
  rw [show (7680 : ℕ) = 4608 + 128 * 24 from rfl, ← rot_shift]
  pointwise [indexKV]
  simp only [zeroV_at, allV_at]
  split_ifs
  all_goals first | rfl | omega | (congr 1; (try dsimp only); omega)
theorem weightsV_at (l : Fin 128) : weightsV (listV (headsV p)) (ix2 s l) = row p s (7680 + (l.val + 64) % 128) * Ideal.ofBits .f32 0x3F000000#32 * Ideal.ofBits .f32 0x3E000000#32 := by
  pointwise [weightsV]
  simp only [listV_heads]
  refine congrArg (· * Ideal.ofBits .f32 0x3E000000#32) (congrArg (· * Ideal.ofBits .f32 0x3F000000#32) ?_)
  refine dite_eq (fun h => congrArg (row p s) (by (try dsimp only); omega)) (fun h => congrArg (row p s) (by (try dsimp only); omega))

/-! ## The scales -/

theorem ofBits_half : Ideal.ofBits .f32 0x3F000000#32 = (((1 : ℝ) / 2 : ℝ) : EReal) := by
  simp [Ideal.ofBits, Ideal.ieee, -EReal.coe_mul]; norm_num
theorem ofBits_eighth : Ideal.ofBits .f32 0x3E000000#32 = (((1 : ℝ) / 8 : ℝ) : EReal) := by
  simp [Ideal.ofBits, Ideal.ieee, -EReal.coe_mul]; norm_num
theorem ofBits_sixteenth : Ideal.ofBits .f32 0x3D800000#32 = (((1 : ℝ) / 16 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem weight_eq (x : EReal) : x * Ideal.ofBits .f32 0x3F000000#32 * Ideal.ofBits .f32 0x3E000000#32 = x * Ideal.ofBits .f32 0x3D800000#32 := by
  rw [mul_assoc, ofBits_half, ofBits_eighth, ofBits_sixteenth, ← EReal.coe_mul]
  norm_num
/-- The scale of the queries is the inverse of eight logarithms of two, which is the logarithm of 256. -/
theorem scaled_eq (x : EReal) : scaled x = x * (((Real.log 256)⁻¹ : ℝ) : EReal) := by
  have h2 : Real.log 2 ≠ 0 := (Real.log_pos (by norm_num)).ne'
  have h : Real.log 256 = 8 * Real.log 2 := by
    rw [show (256 : ℝ) = 2 ^ 8 by norm_num, Real.log_pow]; norm_num
  unfold scaled
  rw [ofBits_two, Ideal.log_coe, if_neg (by norm_num), Ideal.div_coe h2, ofBits_eighth, mul_assoc, ← EReal.coe_mul, h]
  congr 2
  field_simp

/-! ## The precondition -/

instance tables_facts : Cert.Pre_tables7.Facts := by constructor <;> decide

theorem both (a b : BitVec 1) (h : a &&& b = 1#1) : a = 1#1 ∧ b = 1#1 := by
  revert a b; decide
theorem of_equal (x y : EReal) (h : FloatOps.cmpf (F := Ideal) (φ := .f32) CmpFPredicate.oeq x y = 1#1) : x = y := by
  have h' : BitVec.ofBool (decide (x = y)) = 1#1 := h
  by_contra hne
  simp [hne] at h'
/-- In the lanes that are not rotated the tables are one and zero. -/
theorem rest_of_pre (H : Cert.Pre_tables7.fn (F := Ideal) p c n = fun _ => 1#1) (j : ℕ) (hj : 16 ≤ j % 64) (hj' : j < 128) : row c s j = 1 ∧ row n s j = 0 := by
  have h := congrFun H (ix3 s ⟨j / 64, by omega⟩ ⟨j % 64 - 16, by omega⟩)
  revert h
  pointwise [Cert.Pre_tables7.fn]
  intro h
  obtain ⟨h1, h2⟩ := both _ _ h
  exact ⟨(of_row c s _ j (by (try dsimp only); omega)).symm.trans (of_equal _ _ h1), (of_row n s _ j (by (try dsimp only); omega)).symm.trans (of_equal _ _ h2)⟩
end Reference

end Cert.Preparation
end
-- ==== Proof.Prep.lean ====
module

public import proofs.«01_k».proof.Defs
public import proofs.«01_k».proof.Proof.Gen.Kernel7Ideal.Value
public import proofs.«01_k».proof.Proof.Gen.Reference7Ideal.Run
public import proofs.«01_k».proof.Proof.PrepRef
public import Idealize.ShloMosaic.Lib.Pipeline.ValueKit
public import Idealize.ShloMosaic.Lib.Pipeline.ReadBack
public import Idealize.ShloMosaic.Lib.Pointwise

@[expose] public section
set_option maxRecDepth 16384
noncomputable section
namespace Cert.Preparation
open Idealize.ShloMosaic Idealize.ShloMosaic.TcCoe
open Cert.Tables (dite_eq select_lt)

/-! ## Lanes -/

/-- The same product and sum in every lane, where the tables are one and zero in the lanes that are not rotated. -/
theorem rot_of (P C N : ℕ → EReal) (hC : ∀ j, 16 ≤ j % 64 → j < 128 → C j = 1) (hN : ∀ j, 16 ≤ j % 64 → j < 128 → N j = 0) (b l : ℕ) (q : EReal)
    (ha : l % 64 < 8 → q = P (b + l + 8)) (hb : ¬ l % 64 < 8 → l % 64 < 16 → q = P (b + l - 8)) :
    P (b + l) * C (l % 128) + q * N (l % 128) = rot P C N b l := by
  unfold rot
  split_ifs with h h'
  · rw [ha h]
  · rw [hb h h']
  · rw [hC (l % 128) (by omega) (by omega), hN (l % 128) (by omega) (by omega), mul_one, mul_zero, add_zero]

theorem of_lane {a n : ℕ} {f : FTy} (v : FVec Ideal ⟨2, ![a, n]⟩ f) (s : Fin a) (i j : Fin n) (h : i.val = j.val) : v (ix2 s i) = v (ix2 s j) := by rw [Fin.ext h]

theorem and_63 (n : Fin 512) : IntOp.andi (BitVec.ofNat 32 n.val) 63#32 = BitVec.ofNat 32 (n.val % 64) := by
  revert n; decide +kernel
theorem lt_8 (n : Fin 512) (a b : EReal) : Scalar.select (IntOp.cmpi CmpIPredicate.slt (IntOp.andi (BitVec.ofNat 32 n.val) 63#32) 8#32) a b = if n.val % 64 < 8 then a else b := by
  rw [and_63, show (8#32 : BitVec 32) = BitVec.ofNat 32 8 from rfl, select_lt _ 8 (by omega) (by omega)]
theorem lt_64 (n : Fin 128) (a b : EReal) : Scalar.select (IntOp.cmpi CmpIPredicate.slt (BitVec.ofNat 32 n.val) 64#32) a b = if n.val < 64 then a else b := by
  rw [show (64#32 : BitVec 32) = BitVec.ofNat 32 64 from rfl, select_lt _ 64 (by omega) (by omega)]
theorem ge_64 (n : Fin 128) : IntOp.cmpi CmpIPredicate.sge (BitVec.ofNat 32 n.val) 64#32 = if n.val < 64 then 0#1 else 1#1 := by
  revert n; decide +kernel
theorem ge_64' (n : Fin 128) (a b : EReal) : Scalar.select (IntOp.cmpi CmpIPredicate.sge (BitVec.ofNat 32 n.val) 64#32) a b = if n.val < 64 then b else a := by
  rw [ge_64]
  unfold Scalar.select
  split_ifs <;> simp_all

section Kernel
open Cert.Kernel7Ideal Cert.Kernel7Ideal.Gen

/-- The scale of the queries. -/
def qs : EReal := Named.named (F := Ideal) κ "qs" (φ := .f32) 0x3E38AA3B#32
theorem qs_eq : qs = (((Real.log 256)⁻¹ : ℝ) : EReal) := IdealRules.named_const.ideal_named_scalar _ _ _ _ rfl

variable (x0 : Vec Ideal S512x512 .bf16) (x1 x2 : Vec Ideal S512x128 .bf16) (x3 : Vec Ideal S512x256 .bf16) (x4 : Vec Ideal S512x128 .bf16)
variable (x5 x6 : Vec Ideal S512x128 .f32) (r : Fin 512) (P C N : ℕ → EReal)
variable (h0 : ∀ j : Fin 512, x0 (ix2 r j) = P (4608 + j.val)) (h1 : ∀ j : Fin 128, x1 (ix2 r j) = P (7424 + j.val)) (h2 : ∀ j : Fin 128, x2 (ix2 r j) = P (7552 + j.val))
variable (h3 : ∀ j : Fin 256, x3 (ix2 r j) = P (7168 + j.val)) (h4 : ∀ j : Fin 128, x4 (ix2 r j) = P (7680 + j.val))
variable (h5 : ∀ j : Fin 128, x5 (ix2 r j) = C j.val) (h6 : ∀ j : Fin 128, x6 (ix2 r j) = N j.val)
variable (hC : ∀ j, 16 ≤ j % 64 → j < 128 → C j = 1) (hN : ∀ j, 16 ≤ j % 64 → j < 128 → N j = 0)

theorem pay1_at (v : FVec Ideal S512x128 .f32) (l : Fin 512) : k0_pay1 v (ix2 r l) = v (ix2 r ⟨l.val % 128, by omega⟩) := by
  pointwise [k0_pay1]
  repeat' refine dite_eq (fun h => ?_) (fun h => ?_)
  all_goals exact of_lane v r _ _ (by simp only []; omega)
theorem pay2_at (v : FVec Ideal S512x128 .f32) (l : Fin 512) : k0_pay2 v (ix2 r l) = v (ix2 r ⟨l.val % 128, by omega⟩) := pay1_at r v l

include h0 h5 h6 hC hN in
theorem pay3_at (l : Fin 512) : k0_pay3 x5 x6 x0 (ix2 r l) = rot P C N 4608 l.val * qs := by
  pointwise [k0_pay3]
  rw [pay1_at, pay2_at]
  simp only [lt_8, h0, h5, h6]
  refine congrArg (· * qs) (rot_of P C N hC hN 4608 l.val _ (fun h => ?_) fun h h' => ?_)
  · rw [if_pos h]; congr 1; omega
  · rw [if_neg h]; congr 1; omega
include h3 h5 h6 hC hN in
theorem pay28_at (l : Fin 256) : k0_pay28 (k0_pay23 x3) (k0_pay24 (k0_pay2 x6)) (k0_pay25 (k0_pay1 x5) x3) k0_pay26 (k0_pay27 x3) 8#32 (ix2 r l) = rot P C N 7168 l.val := by
  pointwise [k0_pay28, k0_pay23, k0_pay24, k0_pay25, k0_pay26, k0_pay27]
  rw [pay1_at, pay2_at, lt_8 ⟨l.val, by omega⟩]
  simp only [h3, h5, h6]
  refine rot_of P C N hC hN 7168 l.val _ (fun h => ?_) fun h h' => ?_
  · rw [if_pos h]; congr 1; omega
  · rw [if_neg h]; congr 1; omega
include h1 h5 h6 hC hN in
theorem keys_at (l : Fin 128) : k0_pay19 x6 (k0_pay15 x5 x1) k0_pay16 (k0_pay17 x1) (k0_pay18 x1) (ix2 r l) = rot P C N 7424 l.val := by
  pointwise [k0_pay19, k0_pay15, k0_pay14, k0_pay16, k0_pay17, k0_pay18]
  rw [lt_8 ⟨l.val, by omega⟩]
  simp only [h1, h5, h6]
  refine Eq.trans ?_ (rot_of P C N hC hN 7424 l.val (if l.val % 64 < 8 then P (7424 + (l.val + 128 - 120) % 128) else P (7424 + (l.val + 128 - 8) % 128)) (fun h => ?_) fun h h' => ?_)
  · rw [Nat.mod_eq_of_lt l.isLt]
  · rw [if_pos h]; congr 1; omega
  · rw [if_neg h]; congr 1; omega
include h4 h5 h6 hC hN in
theorem index_keys_at (l : Fin 128) : k0_pay35 x5 x6 x4 (ix2 r l) = if l.val < 64 then rot P C N 7680 l.val else 0 := by
  pointwise [k0_pay35, k0_pay34]
  rw [lt_64, lt_8 ⟨l.val, by omega⟩]
  simp only [h4, h5, h6]
  refine congrArg (fun e => if l.val < 64 then e else 0) (Eq.trans ?_ (rot_of P C N hC hN 7680 l.val (if l.val % 64 < 8 then P (7680 + (l.val + 128 - 120) % 128) else P (7680 + (l.val + 128 - 8) % 128)) (fun h => ?_) fun h h' => ?_))
  · rw [Nat.mod_eq_of_lt l.isLt]
  · rw [if_pos h]; congr 1; omega
  · rw [if_neg h]; congr 1; omega
include h4 in
theorem weights_at (l : Fin 128) : k0_pay36 x4 (ix2 r l) = P (7680 + (l.val + 64) % 128) * Ideal.ofBits .f32 0x3D800000#32 := by
  pointwise [k0_pay36, k0_pay34]
  rw [h4]
  exact congrArg (fun k => P k * Ideal.ofBits .f32 0x3D800000#32) (by dsimp only; omega)

/-- Of eight heads, head `h` alone in its half of the lanes. -/
def half (g : ℕ → EReal) (h l : ℕ) : EReal := if h < 4 then if l < 64 then g (64 * h + l) else 0 else if l < 64 then 0 else g (64 * h + (l - 64))

section Tiles
variable (v : FVec Ideal S512x512 .f32) (g : ℕ → EReal) (e : ∀ l : Fin 512, v (ix2 r l) = g l.val) (z : Fin 1) (l : Fin 128)
include e in
theorem half7 : k0_pay7 v (ix3 z r l) = half g 2 l.val := by
  pointwise [k0_pay7]
  simp only [lt_64, e, half, show (2 : ℕ) < 4 by decide, if_true]
include e in
theorem half8 : k0_pay8 v (ix3 z r l) = half g 3 l.val := by
  pointwise [k0_pay8]
  simp only [lt_64, e, half, show (3 : ℕ) < 4 by decide, if_true]
  split_ifs <;> first | rfl | (congr 1; (try dsimp only); omega)
include e in
theorem half9 : k0_pay9 v (ix3 z r l) = half g 4 l.val := by
  pointwise [k0_pay9]
  simp only [ge_64', e, half, show ¬ (4 : ℕ) < 4 by decide, if_false]
  split_ifs <;> first | rfl | (congr 1; (try dsimp only); omega)
include e in
theorem half11 : k0_pay11 (k0_pay10 v) (iota .tc S512x128 32 [1] iota_S512x128_d1_w32) 64#32 (ix3 z r l) = half g 5 l.val := by
  pointwise [k0_pay11, k0_pay10]
  simp only [ge_64', e, half, show ¬ (5 : ℕ) < 4 by decide, if_false]
  split_ifs <;> first | rfl | (congr 1; (try dsimp only); omega)
include e in
theorem half12 : k0_pay12 v (ix3 z r l) = half g 6 l.val := by
  pointwise [k0_pay12]
  simp only [ge_64', e, half, show ¬ (6 : ℕ) < 4 by decide, if_false]
  split_ifs <;> first | rfl | (congr 1; (try dsimp only); omega)
include e in
theorem half13 : k0_pay13 v (ix3 z r l) = half g 7 l.val := by
  pointwise [k0_pay13]
  simp only [ge_64', e, half, show ¬ (7 : ℕ) < 4 by decide, if_false]
  split_ifs <;> first | rfl | (congr 1; (try dsimp only); omega)
end Tiles

section Tiles
variable (g : ℕ → EReal) (e : ∀ l : Fin 512, k0_pay3 x5 x6 x0 (ix2 r l) = g l.val) (z : Fin 1) (l : Fin 128)
include e in
theorem half4 : k0_pay4 x5 x6 x0 (ix3 z r l) = half g 0 l.val := by
  pointwise [k0_pay4]
  simp only [lt_64, e, half, show (0 : ℕ) < 4 by decide, if_true]
  split_ifs <;> first | rfl | (congr 1; (try dsimp only); omega)
include e in
theorem half6 : k0_pay6 (k0_pay5 x5 x6 x0) (ix3 z r l) = half g 1 l.val := by
  pointwise [k0_pay6, k0_pay5]
  simp only [lt_64, e, half, show (1 : ℕ) < 4 by decide, if_true]
  split_ifs <;> first | rfl | (congr 1; (try dsimp only); omega)
end Tiles

section Tiles
variable (a b d f : FVec Ideal S512x256 .f32) (i : IVec S512x256 32) (k : BitVec 32) (g : ℕ → EReal)
variable (e : ∀ l : Fin 256, k0_pay28 a b d i f k (ix2 r l) = g l.val) (z : Fin 1) (l : Fin 128)
include e in
theorem part29 : k0_pay29 a b d i f k (ix3 z r l) = half g 0 l.val := by
  pointwise [k0_pay29]
  simp only [lt_64, e, half, show (0 : ℕ) < 4 by decide, if_true]
  split_ifs <;> first | rfl | (congr 1; (try dsimp only); omega)
include e in
theorem part30 : k0_pay30 a b d i f k (ix3 z r l) = half g 1 l.val := by
  pointwise [k0_pay30]
  simp only [lt_64, e, half, show (1 : ℕ) < 4 by decide, if_true]
  split_ifs <;> first | rfl | (congr 1; (try dsimp only); omega)
include e in
theorem part31 : k0_pay31 a b d i f k (ix3 z r l) = half g 2 l.val := by
  pointwise [k0_pay31]
  simp only [lt_64, e, half, show (2 : ℕ) < 4 by decide, if_true]
include e in
theorem part33 : k0_pay33 (k0_pay32 a b d i f k) (iota .tc S512x128 32 [1] iota_S512x128_d1_w32) 64#32 (ix3 z r l) = half g 3 l.val := by
  pointwise [k0_pay33, k0_pay32]
  simp only [lt_64, e, half, show (3 : ℕ) < 4 by decide, if_true]
  split_ifs <;> first | rfl | (congr 1; (try dsimp only); omega)
end Tiles

include h2 in
theorem values0 (z : Fin 1) (l : Fin 128) : k0_pay21 x2 (ix3 z r l) = values P 0 l.val := by
  pointwise [k0_pay21, k0_pay20]
  simp only [lt_64, h2, values]
  split_ifs <;> first | rfl | (congr 1; (try dsimp only); omega)
include h2 in
theorem values1 (z : Fin 1) (l : Fin 128) : k0_pay22 x2 (ix3 z r l) = values P 1 l.val := by
  pointwise [k0_pay22, k0_pay20]
  simp only [lt_64, h2, values]
  split_ifs <;> first | rfl | (congr 1; (try dsimp only); omega)

theorem ld128 {e} (x : Vec Ideal S512x128 e) : View.ld x r0_0 = x := by
  funext i
  refine congrArg x (funext fun a => Fin.ext ?_)
  fin_cases a
  · show 0 + 1 * (i 0).val = (i 0).val; omega
  · show 0 + 1 * (i 1).val = (i 1).val; omega
theorem ld512 (x : Vec Ideal S512x512 .bf16) : View.ld x r0_1 = x := by
  funext i
  refine congrArg x (funext fun a => Fin.ext ?_)
  fin_cases a
  · show 0 + 1 * (i 0).val = (i 0).val; omega
  · show 0 + 1 * (i 1).val = (i 1).val; omega
theorem ld256 (x : Vec Ideal S512x256 .bf16) : View.ld x r0_12 = x := by
  funext i
  refine congrArg x (funext fun a => Fin.ext ?_)
  fin_cases a
  · show 0 + 1 * (i 0).val = (i 0).val; omega
  · show 0 + 1 * (i 1).val = (i 1).val; omega

include h0 h5 h6 hC hN in
theorem body7 (h : Fin 8) (l : Fin 128) : out0_7 x0 x1 x2 x3 x4 x5 x6 (ix3 h r l) = queries P C N (· * qs) h.val l.val := by
  unfold out0_7 k0_pay37
  rw [ld128, ld128, ld512]
  have e : ∀ l : Fin 512, k0_pay3 x5 x6 x0 (ix2 r l) = (fun k => rot P C N 4608 k * qs) l.val := pay3_at x0 x5 x6 r P C N h0 h5 h6 hC hN
  canon_tiles x hx
  all_goals
    obtain ⟨z, a, b, rfl⟩ : ∃ (z : Fin 1) (a : Fin 512) (b : Fin 128), x = ix3 z a b := ⟨x 0, x 1, x 2, eq_ix3 x⟩
    obtain rfl : r = a := Fin.ext hx1
    obtain rfl : l = b := Fin.ext hx2
    obtain rfl : z = 0 := Subsingleton.elim _ _
  · obtain rfl : h = 7 := Fin.ext hx0
    exact half13 r _ (fun k => rot P C N 4608 k * qs) e 0 l
  · obtain rfl : h = 6 := Fin.ext hx0
    exact half12 r _ (fun k => rot P C N 4608 k * qs) e 0 l
  · obtain rfl : h = 5 := Fin.ext hx0
    exact half11 r _ (fun k => rot P C N 4608 k * qs) e 0 l
  · obtain rfl : h = 4 := Fin.ext hx0
    exact half9 r _ (fun k => rot P C N 4608 k * qs) e 0 l
  · obtain rfl : h = 3 := Fin.ext hx0
    exact half8 r _ (fun k => rot P C N 4608 k * qs) e 0 l
  · obtain rfl : h = 2 := Fin.ext hx0
    exact half7 r _ (fun k => rot P C N 4608 k * qs) e 0 l
  · obtain rfl : h = 1 := Fin.ext hx0
    exact half6 x0 x5 x6 r (fun k => rot P C N 4608 k * qs) e 0 l
  · obtain rfl : h = 0 := Fin.ext hx0
    exact half4 x0 x5 x6 r (fun k => rot P C N 4608 k * qs) e 0 l
include h1 h5 h6 hC hN in
theorem body8 (l : Fin 128) : out0_8 x0 x1 x2 x3 x4 x5 x6 (ix2 r l) = rot P C N 7424 l.val := by
  unfold out0_8
  rw [ld128, ld128, ld128]
  canon_tiles x hx
  obtain ⟨a, b, rfl⟩ : ∃ (a : Fin 512) (b : Fin 128), x = ix2 a b := ⟨x 0, x 1, eq_ix2 x⟩
  obtain rfl : r = a := Fin.ext hx0
  obtain rfl : l = b := Fin.ext hx1
  exact keys_at x1 x5 x6 r P C N h1 h5 h6 hC hN l
include h2 in
theorem body9 (h : Fin 2) (l : Fin 128) : out0_9 x0 x1 x2 x3 x4 x5 x6 (ix3 h r l) = values P h.val l.val := by
  unfold out0_9
  rw [ld128]
  canon_tiles x hx
  all_goals
    obtain ⟨z, a, b, rfl⟩ : ∃ (z : Fin 1) (a : Fin 512) (b : Fin 128), x = ix3 z a b := ⟨x 0, x 1, x 2, eq_ix3 x⟩
    obtain rfl : r = a := Fin.ext hx1
    obtain rfl : l = b := Fin.ext hx2
    obtain rfl : z = 0 := Subsingleton.elim _ _
  · obtain rfl : h = 1 := Fin.ext hx0
    exact values1 x2 r P h2 0 l
  · obtain rfl : h = 0 := Fin.ext hx0
    exact values0 x2 r P h2 0 l
include h4 h5 h6 hC hN in
theorem body11 (l : Fin 128) : out0_11 x0 x1 x2 x3 x4 x5 x6 (ix2 r l) = if l.val < 64 then rot P C N 7680 l.val else 0 := by
  unfold out0_11
  rw [ld128, ld128, ld128]
  canon_tiles x hx
  obtain ⟨a, b, rfl⟩ : ∃ (a : Fin 512) (b : Fin 128), x = ix2 a b := ⟨x 0, x 1, eq_ix2 x⟩
  obtain rfl : r = a := Fin.ext hx0
  obtain rfl : l = b := Fin.ext hx1
  exact index_keys_at x4 x5 x6 r P C N h4 h5 h6 hC hN l
include h4 in
theorem body12 (l : Fin 128) : out0_12 x0 x1 x2 x3 x4 x5 x6 (ix2 r l) = P (7680 + (l.val + 64) % 128) * Ideal.ofBits .f32 0x3D800000#32 := by
  unfold out0_12
  rw [ld128]
  canon_tiles x hx
  obtain ⟨a, b, rfl⟩ : ∃ (a : Fin 512) (b : Fin 128), x = ix2 a b := ⟨x 0, x 1, eq_ix2 x⟩
  obtain rfl : r = a := Fin.ext hx0
  obtain rfl : l = b := Fin.ext hx1
  exact weights_at x4 r P h4 l
include h3 h5 h6 hC hN in
theorem body10 (h : Fin 4) (l : Fin 128) : out0_10 x0 x1 x2 x3 x4 x5 x6 (ix3 h r l) = indexQ P C N h.val l.val := by
  unfold out0_10 k0_pay38 k0_pay39 k0_pay40 k0_pay41 k0_pay42
  rw [ld128, ld128, ld256]
  have e := pay28_at x3 x5 x6 r P C N h3 h5 h6 hC hN
  canon_tiles x hx
  all_goals
    obtain ⟨z, a, b, rfl⟩ : ∃ (z : Fin 1) (a : Fin 512) (b : Fin 128), x = ix3 z a b := ⟨x 0, x 1, x 2, eq_ix3 x⟩
    obtain rfl : r = a := Fin.ext hx1
    obtain rfl : l = b := Fin.ext hx2
    obtain rfl : z = 0 := Subsingleton.elim _ _
  · obtain rfl : h = 3 := Fin.ext hx0
    exact part33 r _ _ _ _ _ _ (rot P C N 7168) e 0 l
  · obtain rfl : h = 2 := Fin.ext hx0
    exact part31 r _ _ _ _ _ _ (rot P C N 7168) e 0 l
  · obtain rfl : h = 1 := Fin.ext hx0
    exact part30 r _ _ _ _ _ _ (rot P C N 7168) e 0 l
  · obtain rfl : h = 0 := Fin.ext hx0
    exact part29 r _ _ _ _ _ _ (rot P C N 7168) e 0 l

/-! ## The arrays -/

variable (m : (ℓ : Loc nD τ sig) → Buf (Elt Ideal) ℓ) (c : Dev nD)

/-- Row `s` of the projections and of the two tables. -/
def aP (s : Fin 16384) : ℕ → EReal := row (f := .bf16) (m ((c : Thread nD τ).loc main_arg0) : FVec Ideal S16384x8192 .bf16) s
def aC (s : Fin 16384) : ℕ → EReal := row (f := .f32) (m ((c : Thread nD τ).loc main_arg1) : FVec Ideal S16384x128 .f32) s
def aN (s : Fin 16384) : ℕ → EReal := row (f := .f32) (m ((c : Thread nD τ).loc main_arg2) : FVec Ideal S16384x128 .f32) s

/-- The blocks of the windows: the grid runs over the 32 groups of rows. -/
theorem win_at : ∀ t : Fin cfg0.N, win0_0.index t 0 = t.val ∧ win0_0.index t 1 = 9 ∧ win0_1.index t 0 = t.val ∧ win0_1.index t 1 = 58
    ∧ win0_2.index t 0 = t.val ∧ win0_2.index t 1 = 59 ∧ win0_3.index t 0 = t.val ∧ win0_3.index t 1 = 28 ∧ win0_4.index t 0 = t.val ∧ win0_4.index t 1 = 60
    ∧ win0_5.index t 0 = t.val ∧ win0_5.index t 1 = 0 ∧ win0_6.index t 0 = t.val ∧ win0_6.index t 1 = 0 := by
  decide +kernel
theorem win_out_at : ∀ t : Fin cfg0.N, win0_7.index t 0 = 0 ∧ win0_7.index t 1 = t.val ∧ win0_7.index t 2 = 0 ∧ win0_8.index t 0 = t.val ∧ win0_8.index t 1 = 0
    ∧ win0_9.index t 0 = 0 ∧ win0_9.index t 1 = t.val ∧ win0_9.index t 2 = 0 ∧ win0_10.index t 0 = 0 ∧ win0_10.index t 1 = t.val ∧ win0_10.index t 2 = 0
    ∧ win0_11.index t 0 = t.val ∧ win0_11.index t 1 = 0 ∧ win0_12.index t 0 = t.val ∧ win0_12.index t 1 = 0 := by
  decide +kernel
/-- Every grid point writes its blocks back. -/
theorem flush_at : ∀ t : Fin cfg0.N, (cfg0.win 7).flush t = true ∧ (cfg0.win 8).flush t = true ∧ (cfg0.win 9).flush t = true ∧ (cfg0.win 10).flush t = true
    ∧ (cfg0.win 11).flush t = true ∧ (cfg0.win 12).flush t = true := by
  decide +kernel

variable (t : Fin cfg0.N)

/-- The blocks that a grid point reads are rows and columns of the arguments. -/
theorem ins_at (r : Fin 512) (s : Fin 16384) (hs : s.val = t.val * 512 + r.val) :
    (∀ j : Fin 512, iblk m c 0 t (ix2 r j) = aP m c s (4608 + j.val)) ∧ (∀ j : Fin 128, iblk m c 1 t (ix2 r j) = aP m c s (7424 + j.val))
    ∧ (∀ j : Fin 128, iblk m c 2 t (ix2 r j) = aP m c s (7552 + j.val)) ∧ (∀ j : Fin 256, iblk m c 3 t (ix2 r j) = aP m c s (7168 + j.val))
    ∧ (∀ j : Fin 128, iblk m c 4 t (ix2 r j) = aP m c s (7680 + j.val)) ∧ (∀ j : Fin 128, iblk m c 5 t (ix2 r j) = aC m c s j.val)
    ∧ (∀ j : Fin 128, iblk m c 6 t (ix2 r j) = aN m c s j.val) := by
  have h := win_at t
  refine ⟨fun j => ?_, fun j => ?_, fun j => ?_, fun j => ?_, fun j => ?_, fun j => ?_, fun j => ?_⟩
  all_goals
    have hj := j.isLt
    first | unfold aP | unfold aC | unfold aN
    unfold row
    rw [dif_pos (by omega)]
    blk_simp [iblk]
    first | rw [V_main_arg0] | rw [V_main_arg1] | rw [V_main_arg2]
    refine congrArg _ (funext fun a => Fin.ext ?_)
    fin_cases a
    · blk_simp [h]; exact hs.symm
    · blk_simp [h]; rfl

/-- An entry of a result is the entry of the block that its grid point writes. -/
theorem outs_at (r : Fin 512) (s : Fin 16384) (hs : s.val = t.val * 512 + r.val) :
    (∀ (h : Fin 8) (l : Fin 128), (dats m 0 c).arrAt 7 cfg0.N (ix3 h s l) = out0_7 (iblk m c 0 t) (iblk m c 1 t) (iblk m c 2 t) (iblk m c 3 t) (iblk m c 4 t) (iblk m c 5 t) (iblk m c 6 t) (ix3 h r l))
    ∧ (∀ l : Fin 128, (dats m 0 c).arrAt 8 cfg0.N (ix2 s l) = out0_8 (iblk m c 0 t) (iblk m c 1 t) (iblk m c 2 t) (iblk m c 3 t) (iblk m c 4 t) (iblk m c 5 t) (iblk m c 6 t) (ix2 r l))
    ∧ (∀ (h : Fin 2) (l : Fin 128), (dats m 0 c).arrAt 9 cfg0.N (ix3 h s l) = out0_9 (iblk m c 0 t) (iblk m c 1 t) (iblk m c 2 t) (iblk m c 3 t) (iblk m c 4 t) (iblk m c 5 t) (iblk m c 6 t) (ix3 h r l))
    ∧ (∀ (h : Fin 4) (l : Fin 128), (dats m 0 c).arrAt 10 cfg0.N (ix3 h s l) = out0_10 (iblk m c 0 t) (iblk m c 1 t) (iblk m c 2 t) (iblk m c 3 t) (iblk m c 4 t) (iblk m c 5 t) (iblk m c 6 t) (ix3 h r l))
    ∧ (∀ l : Fin 128, (dats m 0 c).arrAt 11 cfg0.N (ix2 s l) = out0_11 (iblk m c 0 t) (iblk m c 1 t) (iblk m c 2 t) (iblk m c 3 t) (iblk m c 4 t) (iblk m c 5 t) (iblk m c 6 t) (ix2 r l))
    ∧ (∀ l : Fin 128, (dats m 0 c).arrAt 12 cfg0.N (ix2 s l) = out0_12 (iblk m c 0 t) (iblk m c 1 t) (iblk m c 2 t) (iblk m c 3 t) (iblk m c 4 t) (iblk m c 5 t) (iblk m c 6 t) (ix2 r l)) := by
  have h := win_out_at t
  obtain ⟨f7, f8, f9, f10, f11, f12⟩ := flush_at t
  refine ⟨fun g l => Eq.trans (congrArg _ ?_) (congrFun ((Value.blocks7 m c t f7).trans (Value.flushed7 m c t)) (ix3 g r l)),
    fun l => Eq.trans (congrArg _ ?_) (congrFun ((Value.blocks8 m c t f8).trans (Value.flushed8 m c t)) (ix2 r l)),
    fun g l => Eq.trans (congrArg _ ?_) (congrFun ((Value.blocks9 m c t f9).trans (Value.flushed9 m c t)) (ix3 g r l)),
    fun g l => Eq.trans (congrArg _ ?_) (congrFun ((Value.blocks10 m c t f10).trans (Value.flushed10 m c t)) (ix3 g r l)),
    fun l => Eq.trans (congrArg _ ?_) (congrFun ((Value.blocks11 m c t f11).trans (Value.flushed11 m c t)) (ix2 r l)),
    fun l => Eq.trans (congrArg _ ?_) (congrFun ((Value.blocks12 m c t f12).trans (Value.flushed12 m c t)) (ix2 r l))⟩
  all_goals
    blk_simp
    funext a
    refine Fin.ext ?_
    fin_cases a
    all_goals
      blk_simp [h]
      first | done | exact hs | rfl

/-- THE KERNEL'S RESULTS at row `s`. -/
theorem kernel_value (s : Fin 16384) (hC : ∀ j, 16 ≤ j % 64 → j < 128 → aC m c s j = 1) (hN : ∀ j, 16 ≤ j % 64 → j < 128 → aN m c s j = 0) :
    (∀ (h : Fin 8) (l : Fin 128), (dats m 0 c).arrAt 7 cfg0.N (ix3 h s l) = queries (aP m c s) (aC m c s) (aN m c s) (· * qs) h.val l.val)
    ∧ (∀ l : Fin 128, (dats m 0 c).arrAt 8 cfg0.N (ix2 s l) = rot (aP m c s) (aC m c s) (aN m c s) 7424 l.val)
    ∧ (∀ (h : Fin 2) (l : Fin 128), (dats m 0 c).arrAt 9 cfg0.N (ix3 h s l) = values (aP m c s) h.val l.val)
    ∧ (∀ (h : Fin 4) (l : Fin 128), (dats m 0 c).arrAt 10 cfg0.N (ix3 h s l) = indexQ (aP m c s) (aC m c s) (aN m c s) h.val l.val)
    ∧ (∀ l : Fin 128, (dats m 0 c).arrAt 11 cfg0.N (ix2 s l) = if l.val < 64 then rot (aP m c s) (aC m c s) (aN m c s) 7680 l.val else 0)
    ∧ (∀ l : Fin 128, (dats m 0 c).arrAt 12 cfg0.N (ix2 s l) = aP m c s (7680 + (l.val + 64) % 128) * Ideal.ofBits .f32 0x3D800000#32) := by
  have hN' : cfg0.N = 32 := N_0
  have ht : s.val / 512 < cfg0.N := by omega
  have hs : s.val = (⟨s.val / 512, ht⟩ : Fin cfg0.N).val * 512 + (⟨s.val % 512, by omega⟩ : Fin 512).val := by
    show s.val = s.val / 512 * 512 + s.val % 512; omega
  obtain ⟨b7, b8, b9, b10, b11, b12⟩ := outs_at m c _ _ s hs
  obtain ⟨i0, i1, i2, i3, i4, i5, i6⟩ := ins_at m c _ _ s hs
  exact ⟨fun h l => (b7 h l).trans (body7 _ _ _ _ _ _ _ _ _ _ _ i0 i5 i6 hC hN h l), fun l => (b8 l).trans (body8 _ _ _ _ _ _ _ _ _ _ _ i1 i5 i6 hC hN l),
    fun h l => (b9 h l).trans (body9 _ _ _ _ _ _ _ _ _ i2 h l), fun h l => (b10 h l).trans (body10 _ _ _ _ _ _ _ _ _ _ _ i3 i5 i6 hC hN h l),
    fun l => (b11 l).trans (body11 _ _ _ _ _ _ _ _ _ _ _ i4 i5 i6 hC hN l), fun l => (b12 l).trans (body12 _ _ _ _ _ _ _ _ _ i4 l)⟩
end Kernel

/-- The equation: from the same projections and tables the reference's results are the kernel's. -/
theorem algebraic : Cert.algebraic_Kernel7Ideal_Reference7Ideal_pre_tables7 := by
  intro m ρ m' ρ' hpre hagree
  refine ⟨_, _, _, _, _, _, Cert.Kernel7Ideal.Value.run_blocks (F := Ideal) m ρ, ?_⟩
  refine (θ_run Cert.Reference7Ideal.defs _ _).mono (fun _ h c => ?_) (Cert.Reference7Ideal.Value.run (F := Ideal) m' ρ')
  obtain ⟨r0, r1, r2, r3, r4, r5, rest⟩ := h c
  obtain ⟨g0, g1, g2⟩ := hagree c
  have kv := fun s => kernel_value m c s (fun j h h' => (rest_of_pre _ _ _ s (hpre c) j h h').1) (fun j h h' => (rest_of_pre _ _ _ s (hpre c) j h h').2)
  refine ⟨r0.trans ?_, r1.trans ?_, r2.trans ?_, r3.trans ?_, r4.trans ?_, r5.trans ?_, rest⟩
  · unfold Cert.Reference7Ideal.Value.res_main_v60
    rw [g0, g1, g2]
    funext x
    obtain ⟨h, s, l, rfl⟩ : ∃ (h : Fin 8) (s : Fin 16384) (l : Fin 128), x = ix3 h s l := ⟨x 0, x 1, x 2, eq_ix3 x⟩
    refine (queriesV_at _ _ _ s h l).trans (Eq.trans ?_ ((kv s).1 h l).symm)
    rw [qs_eq, show scaled = (· * (((Real.log 256)⁻¹ : ℝ) : EReal)) from funext scaled_eq]
    rfl
  · rw [g0, g1, g2]
    funext x
    obtain ⟨s, l, rfl⟩ : ∃ (s : Fin 16384) (l : Fin 128), x = ix2 s l := ⟨x 0, x 1, eq_ix2 x⟩
    exact (keysV_at _ _ _ s l).trans ((kv s).2.1 l).symm
  · rw [g0]
    funext x
    obtain ⟨h, s, l, rfl⟩ : ∃ (h : Fin 2) (s : Fin 16384) (l : Fin 128), x = ix3 h s l := ⟨x 0, x 1, x 2, eq_ix3 x⟩
    exact (valuesV_at _ s h l).trans ((kv s).2.2.1 h l).symm
  · rw [g0, g1, g2]
    funext x
    obtain ⟨h, s, l, rfl⟩ : ∃ (h : Fin 4) (s : Fin 16384) (l : Fin 128), x = ix3 h s l := ⟨x 0, x 1, x 2, eq_ix3 x⟩
    exact (indexQV_at _ _ _ s h l).trans ((kv s).2.2.2.1 h l).symm
  · rw [g0, g1, g2]
    funext x
    obtain ⟨s, l, rfl⟩ : ∃ (s : Fin 16384) (l : Fin 128), x = ix2 s l := ⟨x 0, x 1, eq_ix2 x⟩
    exact (indexKV_at _ _ _ s l).trans ((kv s).2.2.2.2.1 l).symm
  · rw [g0]
    funext x
    obtain ⟨s, l, rfl⟩ : ∃ (s : Fin 16384) (l : Fin 128), x = ix2 s l := ⟨x 0, x 1, eq_ix2 x⟩
    exact ((weightsV_at _ s l).trans (weight_eq _)).trans ((kv s).2.2.2.2.2 l).symm

end Cert.Preparation
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.RefValue
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference5Ideal
public import proofs.«01_k».proof.Proof.Gen.Reference5Ideal.Run
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gla
public import proofs.«01_k».proof.Proof.Proj
public import proofs.«01_k».proof.Proof.Merge
public import proofs.«01_k».proof.Proof.Mod
public import proofs.«01_k».proof.Proof.Tab
public import proofs.«01_k».proof.Proof.Prep
public import Idealize.ShloMosaic.Adequacy
public import Idealize.ShloMosaic.Init

@[expose] public section

noncomputable section

namespace Cert.Proof

open Idealize.ShloMosaic Idealize.SL.Sem Cert.Kernel

theorem frame_K : Cert.quiescent_Kernel := fun m ρ _ => Cert.Kernel.Gen.frame m ρ
theorem frame_KI : Cert.quiescent_KernelIdeal := fun m ρ _ => Cert.KernelIdeal.Gen.frame m ρ
theorem frame_RI : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem preserves : Cert.preserves_Kernel_KernelIdeal :=
  ⟨IdealRules.named_const.statement Cert.KernelIdeal.κ "lg0" .f32 0xBD020AEC#32 _ rfl,
    IdealRules.named_const.statement Cert.KernelIdeal.κ "lg1" .f32 0xBC8102B3#32 _ rfl,
    IdealRules.named_const.statement Cert.KernelIdeal.κ "lg2" .f32 0xBC0080AC#32 _ rfl,
    IdealRules.named_const.statement Cert.KernelIdeal.κ "lg3" .f32 0xBB80402B#32 _ rfl,
    IdealRules.named_const.statement Cert.KernelIdeal.κ "gC0" .f32 0x3C8CC36A#32 _ rfl,
    IdealRules.named_const.statement Cert.KernelIdeal.κ "gC1" .f32 0x3E08698E#32 _ rfl,
    IdealRules.named_const.statement Cert.KernelIdeal.κ "gC2" .f32 0x3EBB9DB9#32 _ rfl,
    IdealRules.named_const.statement Cert.KernelIdeal.κ "gC3" .f32 0x3F1B1EB1#32 _ rfl⟩

open Cert.Retention in
/-- The two programs' results agree: both are the retention's at every chunk, row, head and lane. -/
theorem results_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : Cert.RetentionRef.rP m' c = mP m c) (h1 : Cert.RetentionRef.rC m' c = mC m c) (h2 : Cert.RetentionRef.rS m' c = mS m c) :
    (Cert.ReferenceIdeal.Value.out_main_v156 (Cert.ReferenceIdeal.Value.STEP^[128] (StableHlo.entryContents Cert.ReferenceIdeal.Value.preI m' c)) : FVec Ideal ⟨2, ![16384, 512]⟩ .bf16)
      = Cert.KernelIdeal.Value.G6 m c := by
  funext x
  obtain ⟨s, w, rfl⟩ : ∃ (s : Fin 16384) (w : Fin 512), x = ix2 s w := ⟨x 0, x 1, eq_ix2 x⟩
  have hs : s = gRow (⟨s.val / 128, by omega⟩ : Fin 128).val ⟨s.val % 128, by omega⟩ :=
    Fin.ext (by show s.val = (128 * (s.val / 128) + s.val % 128) % 16384; omega)
  have hw : w = vLane ⟨w.val / 128, by omega⟩ ⟨w.val % 128, by omega⟩ :=
    Fin.ext (by show w.val = 128 * (w.val / 128) + w.val % 128; omega)
  rw [hs, hw]
  refine (Cert.RetentionRef.reference_value m' c _ _ _ _).trans ?_
  rw [h0, h1, h2]
  exact (kernel_value m c _ _ _ _).symm

theorem algebraic : Cert.algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨(h c).1.trans ?_, (h c).2⟩) (Cert.ReferenceIdeal.Value.run (F := Ideal) m' ρ')
  exact results_agree m m' c (hagree c).1 (hagree c).2.1 (hagree c).2.2

theorem frame_K2 : Cert.quiescent_Kernel2 := fun m ρ _ => Cert.Kernel2.Gen.frame m ρ
theorem frame_KI2 : Cert.quiescent_Kernel2Ideal := fun m ρ _ => Cert.Kernel2Ideal.Gen.frame m ρ
theorem frame_RI2 : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

theorem frame_K3 : Cert.quiescent_Kernel3 := fun m ρ _ => Cert.Kernel3.Gen.frame m ρ
theorem frame_KI3 : Cert.quiescent_Kernel3Ideal := fun m ρ _ => Cert.Kernel3Ideal.Gen.frame m ρ
theorem frame_RI3 : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

theorem frame_K4 : Cert.quiescent_Kernel4 := fun m ρ _ => Cert.Kernel4.Gen.frame m ρ
theorem frame_KI4 : Cert.quiescent_Kernel4Ideal := fun m ρ _ => Cert.Kernel4Ideal.Gen.frame m ρ
theorem frame_KI4_finite : Cert.quiescent_Kernel4Ideal_pre_finite4 := fun m ρ _ => Cert.Kernel4Ideal.Gen.frame m ρ
theorem frame_RI4 : Cert.quiescent_Reference4Ideal := fun m ρ _ =>
  (θ_run Cert.Reference4Ideal.defs _ _).mono (fun r h => ⟨fun c => (h c).2, Idealize.ShloMosaic.sem_eq_zero_of_no_sems (by decide) r.2⟩)
    (Cert.GlaRef.run m ρ)
theorem frame_RI4_finite : Cert.quiescent_Reference4Ideal_pre_finite4 := fun m ρ _ => frame_RI4 m ρ trivial

theorem frame_K5 : Cert.quiescent_Kernel5 := fun m ρ _ => Cert.Kernel5.Gen.frame m ρ
theorem frame_KI5 : Cert.quiescent_Kernel5Ideal := fun m ρ _ => Cert.Kernel5Ideal.Gen.frame m ρ
theorem frame_KI5_finite : Cert.quiescent_Kernel5Ideal_pre_finite5 := fun m ρ _ => Cert.Kernel5Ideal.Gen.frame m ρ
theorem frame_RI5 : Cert.quiescent_Reference5Ideal := fun m ρ _ =>
  (θ_run Cert.Reference5Ideal.defs _ _).mono (fun r h => ⟨fun c => (h c).2, Idealize.ShloMosaic.sem_eq_zero_of_no_sems (by decide) r.2⟩)
    (Cert.Reference5Ideal.Value.run (F := Ideal) m ρ)
theorem frame_RI5_finite : Cert.quiescent_Reference5Ideal_pre_finite5 := fun m ρ _ => frame_RI5 m ρ trivial

theorem frame_K6 : Cert.quiescent_Kernel6 := fun m ρ _ => Cert.Kernel6.Gen.frame m ρ
theorem frame_KI6 : Cert.quiescent_Kernel6Ideal := fun m ρ _ => Cert.Kernel6Ideal.Gen.frame m ρ
theorem frame_RI6 : Cert.quiescent_Reference6Ideal := fun m ρ _ =>
  (θ_run Cert.Reference6Ideal.defs _ _).mono (fun r h => ⟨fun c => (h c).2.2.2.2, Idealize.ShloMosaic.sem_eq_zero_of_no_sems (by decide) r.2⟩)
    (Cert.Reference6Ideal.Value.run (F := Ideal) m ρ)

theorem frame_K7 : Cert.quiescent_Kernel7 := fun m ρ _ => Cert.Kernel7.Gen.frame m ρ
theorem frame_KI7 : Cert.quiescent_Kernel7Ideal := fun m ρ _ => Cert.Kernel7Ideal.Gen.frame m ρ
theorem frame_KI7_tables : Cert.quiescent_Kernel7Ideal_pre_tables7 := fun m ρ _ => Cert.Kernel7Ideal.Gen.frame m ρ
theorem frame_RI7 : Cert.quiescent_Reference7Ideal := fun m ρ _ =>
  (θ_run Cert.Reference7Ideal.defs _ _).mono (fun r h => ⟨fun c => (h c).2.2.2.2.2.2, Idealize.ShloMosaic.sem_eq_zero_of_no_sems (by decide) r.2⟩)
    (Cert.Reference7Ideal.Value.run (F := Ideal) m ρ)
theorem frame_RI7_tables : Cert.quiescent_Reference7Ideal_pre_tables7 := fun m ρ _ => frame_RI7 m ρ trivial

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Gla.finite_facts, Cert.Modulation.finite_facts, Cert.Preparation.tables_facts,
    frame_K, frame_KI, frame_RI, frame_K2, frame_KI2, frame_RI2, frame_K3, frame_KI3, frame_RI3,
    frame_K4, frame_KI4, frame_KI4_finite, frame_RI4, frame_RI4_finite,
    frame_K5, frame_KI5, frame_KI5_finite, frame_RI5, frame_RI5_finite, frame_K6, frame_KI6, frame_RI6,
    frame_K7, frame_KI7, frame_KI7_tables, frame_RI7, frame_RI7_tables,
    preserves, algebraic, trivial, Cert.Projection.algebraic, trivial, Cert.Merge.algebraic, trivial, Cert.Gla.algebraic,
    trivial, Cert.Modulation.algebraic, trivial, Cert.Tables.algebraic,
    IdealRules.named_const.statement Cert.Kernel7Ideal.κ "qs" .f32 0x3E38AA3B#32 _ rfl, Cert.Preparation.algebraic⟩

end Cert.Proof

end
